-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_routed : Cert.Pre_routed.Facts] (m : (ℓ : Loc Cert.Kernel3.nD Cert.Kernel3.τ Cert.Kernel3.sig) → Buf (Elt Bits) ℓ) : Prop :=
  ∀ c : Dev Cert.Kernel3.nD,
    (Cert.Pre_routed.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4))) = (fun _ => 1#1)

def Pre_Kernel3Ideal [hPre_routed : Cert.Pre_routed.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_routed.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_routed [hPre_routed : Cert.Pre_routed.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_routed.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] [hPre_routed : Cert.Pre_routed.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] [hPre_routed : Cert.Pre_routed.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_routed [hReference3Ideal : Cert.Reference3Ideal.Facts] [hPre_routed : Cert.Pre_routed.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_routed m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] [hPre_routed : Cert.Pre_routed.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v39) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v9_0)) (v1 : (c : Dev Cert.Kernel4Ideal.nD) → Buf (Elt Ideal) ((c.tc : Thread Cert.Kernel4Ideal.nD Cert.Kernel4Ideal.τ).loc Cert.Kernel4Ideal.main_v9_1)) (v2 : (c : Dev Cert.Kernel4Ideal.nD) → Buf (Elt Ideal) ((c.tc : Thread Cert.Kernel4Ideal.nD Cert.Kernel4Ideal.τ).loc Cert.Kernel4Ideal.main_v9_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9_0) = v0 c
          ∧ r.2.mem ((c.tc : Thread Cert.Kernel4Ideal.nD Cert.Kernel4Ideal.τ).loc Cert.Kernel4Ideal.main_v9_1) = v1 c
          ∧ r.2.mem ((c.tc : Thread Cert.Kernel4Ideal.nD Cert.Kernel4Ideal.τ).loc Cert.Kernel4Ideal.main_v9_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v34) = v0 c
          ∧ r.2.mem ((c.tc : Thread Cert.Reference4Ideal.nD Cert.Reference4Ideal.τ).loc Cert.Reference4Ideal.main_v35) = v1 c
          ∧ r.2.mem ((c.tc : Thread Cert.Reference4Ideal.nD Cert.Reference4Ideal.τ).loc Cert.Reference4Ideal.main_v36) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v8_0)) (v1 : (c : Dev Cert.Kernel7Ideal.nD) → Buf (Elt Ideal) ((c.tc : Thread Cert.Kernel7Ideal.nD Cert.Kernel7Ideal.τ).loc Cert.Kernel7Ideal.main_v8_1)) (v2 : (c : Dev Cert.Kernel7Ideal.nD) → Buf (Elt Ideal) ((c.tc : Thread Cert.Kernel7Ideal.nD Cert.Kernel7Ideal.τ).loc Cert.Kernel7Ideal.main_v8_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v8_0) = v0 c
          ∧ r.2.mem ((c.tc : Thread Cert.Kernel7Ideal.nD Cert.Kernel7Ideal.τ).loc Cert.Kernel7Ideal.main_v8_1) = v1 c
          ∧ r.2.mem ((c.tc : Thread Cert.Kernel7Ideal.nD Cert.Kernel7Ideal.τ).loc Cert.Kernel7Ideal.main_v8_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v33) = v0 c
          ∧ r.2.mem ((c.tc : Thread Cert.Reference7Ideal.nD Cert.Reference7Ideal.τ).loc Cert.Reference7Ideal.main_v34) = v1 c
          ∧ r.2.mem ((c.tc : Thread Cert.Reference7Ideal.nD Cert.Reference7Ideal.τ).loc Cert.Reference7Ideal.main_v35) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v15_0)) (v1 : (c : Dev Cert.Kernel8Ideal.nD) → Buf (Elt Ideal) ((c.tc : Thread Cert.Kernel8Ideal.nD Cert.Kernel8Ideal.τ).loc Cert.Kernel8Ideal.main_v15_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v15_0) = v0 c
          ∧ r.2.mem ((c.tc : Thread Cert.Kernel8Ideal.nD Cert.Kernel8Ideal.τ).loc Cert.Kernel8Ideal.main_v15_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v26) = v0 c
          ∧ r.2.mem ((c.tc : Thread Cert.Reference8Ideal.nD Cert.Reference8Ideal.τ).loc Cert.Reference8Ideal.main_v27) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts) (hPre_routed : Cert.Pre_routed.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_routed := hPre_routed)
    ∧ quiescent_Kernel3Ideal (hKernel3Ideal := hKernel3Ideal) (hPre_routed := hPre_routed)
    ∧ quiescent_Reference3Ideal (hReference3Ideal := hReference3Ideal)
    ∧ quiescent_Reference3Ideal_pre_routed (hReference3Ideal := hReference3Ideal) (hPre_routed := hPre_routed)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_routed := hPre_routed)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite.lean ====
abbrev S32768x6144 : Shape := ⟨2, ![32768, 6144]⟩
abbrev S32x320 : Shape := ⟨2, ![32, 320]⟩
abbrev S_ : Shape := ⟨0, ![]⟩

class Facts : Prop where
  bitsLt_bf16_f32 : FTy.bits .bf16 < FTy.bits .f32
  bcast_S_S32768x6144 : S_.BroadcastsInDim S32768x6144 (![] : Fin 0 → Fin S32768x6144.rank)
  reducesTo_S32768x6144_S_d0_1 : S32768x6144.ReducesTo [0, 1] S_
  h_S_ : 0 < S_.numel
  bcast_S_S32x320 : S_.BroadcastsInDim S32x320 (![] : Fin 0 → Fin S32x320.rank)
  reducesTo_S32x320_S_d0_1 : S32x320.ReducesTo [0, 1] S_

variable [Facts]

def fn {F : FTy → Type} [FloatOps F] (main_arg0 : FVec F S32768x6144 .bf16) (main_arg1 : FVec F S32x320 .f32) : IVec S_ 1 :=
  let main_v0 : FVec F S32768x6144 .f32 := (extf .f32 · bitsLt_bf16_f32) main_arg0
  let main_v1 : FVec F S32768x6144 .f32 := Host.absf main_v0
  let main_cst : FVec F S_ .f32 := constant S_ .f32 0x7F800000#32
  let main_v2 : FVec F S32768x6144 .f32 := broadcastInDim S32768x6144 ![] bcast_S_S32768x6144 main_cst
  let main_v3 : IVec S32768x6144 1 := cmpf .olt main_v1 main_v2
  let main_c : IVec S_ 1 := constantI S_ 1 1#1
  let main_v4 : IVec S_ 1 := (fun x v => Host.reduce IntOp.andi x v reducesTo_S32768x6144_S_d0_1 h_S_) main_v3 main_c
  let main_v5 : FVec F S32x320 .f32 := Host.absf main_arg1
  let main_cst_0 : FVec F S_ .f32 := constant S_ .f32 0x7F800000#32
  let main_v6 : FVec F S32x320 .f32 := broadcastInDim S32x320 ![] bcast_S_S32x320 main_cst_0
  let main_v7 : IVec S32x320 1 := cmpf .olt main_v5 main_v6
  let main_c_1 : IVec S_ 1 := constantI S_ 1 1#1
  let main_v8 : IVec S_ 1 := (fun x v => Host.reduce IntOp.andi x v reducesTo_S32x320_S_d0_1 h_S_) main_v7 main_c_1
  let main_v9 : IVec S_ 1 := andi main_v4 main_v8
  main_v9
-- ==== Pre_routed.lean ====
abbrev S294912x1024 : Shape := ⟨2, ![294912, 1024]⟩
abbrev S576 : Shape := ⟨1, ![576]⟩
abbrev S1 : Shape := ⟨1, ![1]⟩
abbrev S4x64x2048x768 : Shape := ⟨4, ![4, 64, 2048, 768]⟩
abbrev S4x64x384x2048 : Shape := ⟨4, ![4, 64, 384, 2048]⟩
abbrev S_ : Shape := ⟨0, ![]⟩

class Facts : Prop where
  bcast_S_S576 : S_.BroadcastsInDim S576 (![] : Fin 0 → Fin S576.rank)
  reducesTo_S576_S_d0 : S576.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S294912x1024 32) (main_arg1 : IVec S576 32) (main_arg2 : IVec S1 32) (main_arg3 : FVec F S4x64x2048x768 .f32) (main_arg4 : FVec F S4x64x384x2048 .f32) : IVec S_ 1 :=
  let main_c : IVec S_ 32 := constantI S_ 32 0#32
  let main_v0 : IVec S576 32 := broadcastInDim S576 ![] bcast_S_S576 main_c
  let main_v1 : IVec S576 1 := cmpi .sge main_arg1 main_v0
  let main_c_0 : IVec S_ 32 := constantI S_ 32 64#32
  let main_v2 : IVec S576 32 := broadcastInDim S576 ![] bcast_S_S576 main_c_0
  let main_v3 : IVec S576 1 := cmpi .slt main_arg1 main_v2
  let main_v4 : IVec S576 1 := andi main_v1 main_v3
  let main_c_1 : IVec S_ 1 := constantI S_ 1 1#1
  let main_v5 : IVec S_ 1 := (fun x v => Host.reduce IntOp.andi x v reducesTo_S576_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg2 main_v6
  let main_c_3 : IVec S_ 1 := constantI S_ 1 1#1
  let main_v8 : IVec S_ 1 := (fun x v => Host.reduce IntOp.andi x v reducesTo_S1_S_d0 h_S_) main_v7 main_c_3
  let main_v9 : IVec S_ 1 := andi main_v5 main_v8
  main_v9
-- ==== Kernel.lean ====
abbrev S32768x6144 : Shape := ⟨2, ![32768, 6144]⟩
abbrev S32x320 : Shape := ⟨2, ![32, 320]⟩
abbrev S64 : Shape := ⟨1, ![64]⟩
abbrev S64x1 : Shape := ⟨2, ![64, 1]⟩
abbrev S576 : Shape := ⟨1, ![576]⟩
abbrev S1x576 : Shape := ⟨2, ![1, 576]⟩
abbrev S_ : Shape := ⟨0, ![]⟩
abbrev S64x576 : Shape := ⟨2, ![64, 576]⟩
abbrev S64x576x1 : Shape := ⟨3, ![64, 576, 1]⟩
abbrev S32x64x576 : Shape := ⟨3, ![32, 64, 576]⟩
abbrev S32768x2048 : Shape := ⟨2, ![32768, 2048]⟩
abbrev S2048x128 : Shape := ⟨2, ![2048, 128]⟩
abbrev S2x64x576 : Shape := ⟨3, ![2, 64, 576]⟩
abbrev S2560x128 : Shape := ⟨2, ![2560, 128]⟩
abbrev S512x128 : Shape := ⟨2, ![512, 128]⟩
abbrev S4x64x128 : Shape := ⟨3, ![4, 64, 128]⟩
abbrev S4x128x576 : Shape := ⟨3, ![4, 128, 576]⟩
abbrev S1x128x576 : Shape := ⟨3, ![1, 128, 576]⟩
abbrev S256x128 : Shape := ⟨2, ![256, 128]⟩
abbrev S4x128x128 : Shape := ⟨3, ![4, 128, 128]⟩
abbrev S576x128 : Shape := ⟨2, ![576, 128]⟩
abbrev S1x576x128 : Shape := ⟨3, ![1, 576, 128]⟩
abbrev S4x576x128 : Shape := ⟨3, ![4, 576, 128]⟩
abbrev S4x128 : Shape := ⟨2, ![4, 128]⟩
abbrev S4x128x1 : Shape := ⟨3, ![4, 128, 1]⟩

abbrev nBuf : Space → Nat
  | .hbm => 33
  | .vmem => 12
  | .smem => 0
  | _ => 0

abbrev bufTy : (tb : Table) → Fin (tcTables nBuf tb) → BufTy
  | .hbm, ⟨0, _⟩ => ⟨S32768x6144, .bf16⟩
  | .hbm, ⟨1, _⟩ => ⟨S32x320, .f32⟩
  | .hbm, ⟨2, _⟩ => ⟨S64, .i32⟩
  | .hbm, ⟨3, _⟩ => ⟨S64x1, .i32⟩
  | .hbm, ⟨4, _⟩ => ⟨S576, .i32⟩
  | .hbm, ⟨5, _⟩ => ⟨S1x576, .i32⟩
  | .hbm, ⟨6, _⟩ => ⟨S_, .i32⟩
  | .hbm, ⟨7, _⟩ => ⟨S64x1, .i32⟩
  | .hbm, ⟨8, _⟩ => ⟨S64x1, .i32⟩
  | .hbm, ⟨9, _⟩ => ⟨S64x576, .i32⟩
  | .hbm, ⟨10, _⟩ => ⟨S64x576, .i32⟩
  | .hbm, ⟨11, _⟩ => ⟨S64x576, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S64x576, .i32⟩
  | .hbm, ⟨16, _⟩ => ⟨S64x576, .i32⟩
  | .hbm, ⟨17, _⟩ => ⟨S_, .i32⟩
  | .hbm, ⟨18, _⟩ => ⟨S64x576, .i32⟩
  | .hbm, ⟨19, _⟩ => ⟨S64x576, .i32⟩
  | .hbm, ⟨20, _⟩ => ⟨S_, .i32⟩
  | .hbm, ⟨21, _⟩ => ⟨S64x576, .i32⟩
  | .hbm, ⟨22, _⟩ => ⟨S64x576, .i32⟩
  | .hbm, ⟨23, _⟩ => ⟨S_, .i32⟩
  | .hbm, ⟨24, _⟩ => ⟨S64x576, .i32⟩
  | .hbm, ⟨25, _⟩ => ⟨S64x576, .i1⟩
  | .hbm, ⟨26, _⟩ => ⟨S_, .i32⟩
  | .hbm, ⟨27, _⟩ => ⟨S64x576, .i32⟩
  | .hbm, ⟨28, _⟩ => ⟨S64x576, .i32⟩
  | .hbm, ⟨29, _⟩ => ⟨S64x576, .i32⟩
  | .hbm, ⟨30, _⟩ => ⟨S64x576x1, .i32⟩
  | .hbm, ⟨31, _⟩ => ⟨S32x64x576, .f32⟩
  | .hbm, ⟨32, _⟩ => ⟨S32768x2048, .bf16⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2x64x576, .f32⟩
  | .local _ .vmem, ⟨7, _⟩ => ⟨S2x64x576, .f32⟩
  | .local _ .vmem, ⟨8, _⟩ => ⟨S2048x128, .bf16⟩
  | .local _ .vmem, ⟨9, _⟩ => ⟨S2048x128, .bf16⟩
  | .local _ .vmem, ⟨10, _⟩ => ⟨S2560x128, .bf16⟩
  | .local _ .vmem, ⟨11, _⟩ => ⟨S2560x128, .bf16⟩
  | _, _ => ⟨S32768x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_c_1 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_c_3 : Ref sig .tc := ⟨.hbm, 23, rfl⟩
abbrev main_v12 : Ref sig .tc := ⟨.hbm, 24, rfl⟩
abbrev main_v13 : Ref sig .tc := ⟨.hbm, 25, rfl⟩
abbrev main_c_4 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 16], ![false, false]⟩

@[reducible] def k0_t1_loop : Scf.Loop 32 :=
  let c0_i32 : BitVec 32 := 0#32
  let c2_i32 : BitVec 32 := 2#32
  let v24 : BitVec 32 := Scalar.addi c0_i32 c2_i32
  let c1_i32 : BitVec 32 := 1#32
  ⟨c0_i32, v24, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32 : BitVec 32 := 256#32
  let v26 : BitVec 32 := Scalar.muli arg9 c256_i32
  v26
def k0_off1 (k0_t1 : Fin k0_t1_loop.trips) : Fin 2 → Nat :=
  let c0_i32 : BitVec 32 := 0#32
  let c1_i32 : BitVec 32 := 1#32
  let arg9 : BitVec 32 := Scf.iv c0_i32 c1_i32 k0_t1
  let c256_i32 : BitVec 32 := 256#32
  let v26 : BitVec 32 := Scalar.muli arg9 c256_i32
  let v27 : BitVec 32 := v26
  let v28 : Index := Scalar.indexCast v27
  let c0_18 : Index := 0#32
  ![v28.toNat, 0]
def k0_off2 (k0_t1 : Fin k0_t1_loop.trips) (c0_i32_22 : BitVec 32) : Fin 2 → Nat :=
  let c0_i32 : BitVec 32 := 0#32
  let c1_i32 : BitVec 32 := 1#32
  let arg9 : BitVec 32 := Scf.iv c0_i32 c1_i32 k0_t1
  let c256_i32 : BitVec 32 := 256#32
  let v26 : BitVec 32 := Scalar.muli arg9 c256_i32
  let v27 : BitVec 32 := v26
  let v38 : BitVec 32 := Scalar.addi v27 c0_i32_22
  let v39 : Index := Scalar.indexCast v38
  let c0_23 : Index := 0#32
  ![v39.toNat, 0]
@[reducible] def k0_t2_loop : Scf.Loop 32 :=
  let c2_i32_15 : BitVec 32 := 2#32
  let c6_i32 : BitVec 32 := 6#32
  let v25 : BitVec 32 := Scalar.addi c2_i32_15 c6_i32
  let c1_i32_16 : BitVec 32 := 1#32
  ⟨c2_i32_15, v25, c1_i32_16⟩
def k0_mult2 (k0_t2 : Fin k0_t2_loop.trips) : BitVec 32 :=
  let c2_i32_15 : BitVec 32 := 2#32
  let c1_i32_16 : BitVec 32 := 1#32
  let arg9 : BitVec 32 := Scf.iv c2_i32_15 c1_i32_16 k0_t2
  let c256_i32 : BitVec 32 := 256#32
  let v26 : BitVec 32 := Scalar.muli arg9 c256_i32
  v26
def k0_off3 (k0_t2 : Fin k0_t2_loop.trips) : Fin 2 → Nat :=
  let c2_i32_15 : BitVec 32 := 2#32
  let c1_i32_16 : BitVec 32 := 1#32
  let arg9 : BitVec 32 := Scf.iv c2_i32_15 c1_i32_16 k0_t2
  let c256_i32 : BitVec 32 := 256#32
  let v26 : BitVec 32 := Scalar.muli arg9 c256_i32
  let v27 : BitVec 32 := v26
  let v28 : Index := Scalar.indexCast v27
  let c0_18 : Index := 0#32
  ![v28.toNat, 0]
def k0_off4 (k0_t2 : Fin k0_t2_loop.trips) (c0_i32_22 : BitVec 32) : Fin 2 → Nat :=
  let c2_i32_15 : BitVec 32 := 2#32
  let c1_i32_16 : BitVec 32 := 1#32
  let arg9 : BitVec 32 := Scf.iv c2_i32_15 c1_i32_16 k0_t2
  let c256_i32 : BitVec 32 := 256#32
  let v26 : BitVec 32 := Scalar.muli arg9 c256_i32
  let v27 : BitVec 32 := v26
  let v38 : BitVec 32 := Scalar.addi v27 c0_i32_22
  let v39 : Index := Scalar.indexCast v38
  let c0_23 : Index := 0#32
  ![v39.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  ![arg0.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x64x576 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S32768x6144 : Shape := ⟨2, ![32768, 6144]⟩
abbrev S32x320 : Shape := ⟨2, ![32, 320]⟩
abbrev S16x2048x6144 : Shape := ⟨3, ![16, 2048, 6144]⟩
abbrev S16x2048x2048 : Shape := ⟨3, ![16, 2048, 2048]⟩
abbrev S16x2048x32x64 : Shape := ⟨4, ![16, 2048, 32, 64]⟩
abbrev S_ : Shape := ⟨0, ![]⟩
abbrev S16x2560x32x64 : Shape := ⟨4, ![16, 2560, 32, 64]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S32x64x576 : Shape := ⟨3, ![32, 64, 576]⟩
abbrev S32 : Shape := ⟨1, ![32]⟩
abbrev S32x1 : Shape := ⟨2, ![32, 1]⟩
abbrev S32x576 : Shape := ⟨2, ![32, 576]⟩
abbrev S32x576x1 : Shape := ⟨3, ![32, 576, 1]⟩
abbrev S16x32x576x32x64 : Shape := ⟨5, ![16, 32, 576, 32, 64]⟩
abbrev S16x32x64x32x64 : Shape := ⟨5, ![16, 32, 64, 32, 64]⟩
abbrev S16x32x32x64x576 : Shape := ⟨5, ![16, 32, 32, 64, 576]⟩
abbrev S1x1x32x64x576 : Shape := ⟨5, ![1, 1, 32, 64, 576]⟩
abbrev S32x1x1x576 : Shape := ⟨4, ![32, 1, 1, 576]⟩
abbrev S16x32x32x64 : Shape := ⟨4, ![16, 32, 32, 64]⟩
abbrev S16x32x32x64x1 : Shape := ⟨5, ![16, 32, 32, 64, 1]⟩
abbrev S16x32x32x64x64 : Shape := ⟨5, ![16, 32, 32, 64, 64]⟩
abbrev S32768x2048 : Shape := ⟨2, ![32768, 2048]⟩

abbrev nBuf : Space → Nat
  | .hbm => 110
  | .vmem => 0
  | .smem => 0
  | _ => 0

abbrev bufTy : (tb : Table) → Fin (tcTables nBuf tb) → BufTy
  | .hbm, ⟨0, _⟩ => ⟨S32768x6144, .bf16⟩
  | .hbm, ⟨1, _⟩ => ⟨S32x320, .f32⟩
  | .hbm, ⟨2, _⟩ => ⟨S32768x6144, .f32⟩
  | .hbm, ⟨3, _⟩ => ⟨S16x2048x6144, .f32⟩
  | .hbm, ⟨4, _⟩ => ⟨S16x2048x2048, .f32⟩
  | .hbm, ⟨5, _⟩ => ⟨S16x2048x2048, .f32⟩
  | .hbm, ⟨6, _⟩ => ⟨S16x2048x2048, .f32⟩
  | .hbm, ⟨7, _⟩ => ⟨S16x2048x32x64, .f32⟩
  | .hbm, ⟨8, _⟩ => ⟨S_, .f32⟩
  | .hbm, ⟨9, _⟩ => ⟨S16x2048x32x64, .f32⟩
  | .hbm, ⟨10, _⟩ => ⟨S16x2048x32x64, .f32⟩
  | .hbm, ⟨11, _⟩ => ⟨S16x2048x32x64, .f32⟩
  | .hbm, ⟨12, _⟩ => ⟨S_, .i32⟩
  | .hbm, ⟨13, _⟩ => ⟨S_, .f32⟩
  | .hbm, ⟨14, _⟩ => ⟨S16x2560x32x64, .f32⟩
  | .hbm, ⟨15, _⟩ => ⟨S16x2048x32x64, .f32⟩
  | .hbm, ⟨16, _⟩ => ⟨S_, .i32⟩
  | .hbm, ⟨17, _⟩ => ⟨S_, .f32⟩
  | .hbm, ⟨18, _⟩ => ⟨S16x2560x32x64, .f32⟩
  | .hbm, ⟨19, _⟩ => ⟨S64, .i32⟩
  | .hbm, ⟨20, _⟩ => ⟨S64x1, .i32⟩
  | .hbm, ⟨21, _⟩ => ⟨S576, .i32⟩
  | .hbm, ⟨22, _⟩ => ⟨S1x576, .i32⟩
  | .hbm, ⟨23, _⟩ => ⟨S_, .i32⟩
  | .hbm, ⟨24, _⟩ => ⟨S64x1, .i32⟩
  | .hbm, ⟨25, _⟩ => ⟨S64x1, .i32⟩
  | .hbm, ⟨26, _⟩ => ⟨S64x576, .i32⟩
  | .hbm, ⟨27, _⟩ => ⟨S64x576, .i32⟩
  | .hbm, ⟨28, _⟩ => ⟨S64x576, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S64x576, .i32⟩
  | .hbm, ⟨33, _⟩ => ⟨S64x576, .i32⟩
  | .hbm, ⟨34, _⟩ => ⟨S_, .i32⟩
  | .hbm, ⟨35, _⟩ => ⟨S64x576, .i32⟩
  | .hbm, ⟨36, _⟩ => ⟨S64x576, .i32⟩
  | .hbm, ⟨37, _⟩ => ⟨S_, .i32⟩
  | .hbm, ⟨38, _⟩ => ⟨S64x576, .i32⟩
  | .hbm, ⟨39, _⟩ => ⟨S64x576, .i32⟩
  | .hbm, ⟨40, _⟩ => ⟨S_, .i32⟩
  | .hbm, ⟨41, _⟩ => ⟨S64x576, .i32⟩
  | .hbm, ⟨42, _⟩ => ⟨S64x576, .i1⟩
  | .hbm, ⟨43, _⟩ => ⟨S_, .i32⟩
  | .hbm, ⟨44, _⟩ => ⟨S64x576, .i32⟩
  | .hbm, ⟨45, _⟩ => ⟨S64x576, .i32⟩
  | .hbm, ⟨46, _⟩ => ⟨S64x576, .i32⟩
  | .hbm, ⟨47, _⟩ => ⟨S64x576x1, .i32⟩
  | .hbm, ⟨48, _⟩ => ⟨S32x64x576, .f32⟩
  | .hbm, ⟨49, _⟩ => ⟨S32, .i32⟩
  | .hbm, ⟨50, _⟩ => ⟨S32x1, .i32⟩
  | .hbm, ⟨51, _⟩ => ⟨S_, .i32⟩
  | .hbm, ⟨52, _⟩ => ⟨S32x1, .i32⟩
  | .hbm, ⟨53, _⟩ => ⟨S32x1, .i32⟩
  | .hbm, ⟨54, _⟩ => ⟨S32x576, .i32⟩
  | .hbm, ⟨55, _⟩ => ⟨S32x576, .i32⟩
  | .hbm, ⟨56, _⟩ => ⟨S32x576, .i32⟩
  | .hbm, ⟨57, _⟩ => ⟨S_, .i32⟩
  | .hbm, ⟨58, _⟩ => ⟨S32x576, .i32⟩
  | .hbm, ⟨59, _⟩ => ⟨S32x576, .i1⟩
  | .hbm, ⟨60, _⟩ => ⟨S_, .i32⟩
  | .hbm, ⟨61, _⟩ => ⟨S32x576, .i32⟩
  | .hbm, ⟨62, _⟩ => ⟨S32x576, .i32⟩
  | .hbm, ⟨63, _⟩ => ⟨S32x576, .i32⟩
  | .hbm, ⟨64, _⟩ => ⟨S32x576x1, .i32⟩
  | .hbm, ⟨65, _⟩ => ⟨S16x32x576x32x64, .f32⟩
  | .hbm, ⟨66, _⟩ => ⟨S_, .i32⟩
  | .hbm, ⟨67, _⟩ => ⟨S32x576, .i32⟩
  | .hbm, ⟨68, _⟩ => ⟨S32x576, .i1⟩
  | .hbm, ⟨69, _⟩ => ⟨S_, .i32⟩
  | .hbm, ⟨70, _⟩ => ⟨S32x576, .i32⟩
  | .hbm, ⟨71, _⟩ => ⟨S32x576, .i32⟩
  | .hbm, ⟨72, _⟩ => ⟨S32x576, .i32⟩
  | .hbm, ⟨73, _⟩ => ⟨S32x576x1, .i32⟩
  | .hbm, ⟨74, _⟩ => ⟨S16x32x576x32x64, .f32⟩
  | .hbm, ⟨75, _⟩ => ⟨S16x32x64x32x64, .f32⟩
  | .hbm, ⟨76, _⟩ => ⟨S16x32x32x64x576, .f32⟩
  | .hbm, ⟨77, _⟩ => ⟨S1x1x32x64x576, .f32⟩
  | .hbm, ⟨78, _⟩ => ⟨S16x32x32x64x576, .f32⟩
  | .hbm, ⟨79, _⟩ => ⟨S16x32x32x64x576, .f32⟩
  | .hbm, ⟨80, _⟩ => ⟨S_, .i32⟩
  | .hbm, ⟨81, _⟩ => ⟨S32x576, .i32⟩
  | .hbm, ⟨82, _⟩ => ⟨S32x576, .i32⟩
  | .hbm, ⟨83, _⟩ => ⟨S32x1x1x576, .i32⟩
  | .hbm, ⟨84, _⟩ => ⟨S_, .i32⟩
  | .hbm, ⟨85, _⟩ => ⟨S32x1x1x576, .i32⟩
  | .hbm, ⟨86, _⟩ => ⟨S32x1x1x576, .i1⟩
  | .hbm, ⟨87, _⟩ => ⟨S_, .f32⟩
  | .hbm, ⟨88, _⟩ => ⟨S_, .f32⟩
  | .hbm, ⟨89, _⟩ => ⟨S16x32x32x64x576, .i1⟩
  | .hbm, ⟨90, _⟩ => ⟨S16x32x32x64x576, .f32⟩
  | .hbm, ⟨91, _⟩ => ⟨S16x32x32x64x576, .f32⟩
  | .hbm, ⟨92, _⟩ => ⟨S_, .f32⟩
  | .hbm, ⟨93, _⟩ => ⟨S16x32x32x64, .f32⟩
  | .hbm, ⟨94, _⟩ => ⟨S_, .f32⟩
  | .hbm, ⟨95, _⟩ => ⟨S16x32x32x64, .f32⟩
  | .hbm, ⟨96, _⟩ => ⟨S16x32x32x64, .f32⟩
  | .hbm, ⟨97, _⟩ => ⟨S16x32x32x64x1, .f32⟩
  | .hbm, ⟨98, _⟩ => ⟨S16x32x32x64x576, .f32⟩
  | .hbm, ⟨99, _⟩ => ⟨S16x32x32x64x576, .f32⟩
  | .hbm, ⟨100, _⟩ => ⟨S16x32x32x64x576, .f32⟩
  | .hbm, ⟨101, _⟩ => ⟨S_, .f32⟩
  | .hbm, ⟨102, _⟩ => ⟨S16x32x32x64, .f32⟩
  | .hbm, ⟨103, _⟩ => ⟨S16x32x32x64x1, .f32⟩
  | .hbm, ⟨104, _⟩ => ⟨S16x32x32x64x576, .f32⟩
  | .hbm, ⟨105, _⟩ => ⟨S16x32x32x64x576, .f32⟩
  | .hbm, ⟨106, _⟩ => ⟨S16x32x32x64x64, .f32⟩
  | .hbm, ⟨107, _⟩ => ⟨S16x32x64x32x64, .f32⟩
  | .hbm, ⟨108, _⟩ => ⟨S32768x2048, .f32⟩
  | .hbm, ⟨109, _⟩ => ⟨S32768x2048, .bf16⟩
  | _, _ => ⟨S32768x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_call0_v0 : Ref sig .tc := ⟨.hbm, 13, rfl⟩
abbrev main_v9 : Ref sig .tc := ⟨.hbm, 14, rfl⟩
abbrev main_v10 : Ref sig .tc := ⟨.hbm, 15, rfl⟩
abbrev main_c_0 : Ref sig .tc := ⟨.hbm, 16, rfl⟩
abbrev main_call1_v0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_2 : Ref sig .tc := ⟨.hbm, 29, rfl⟩
abbrev main_c_3 : Ref sig .tc := ⟨.hbm, 30, rfl⟩
abbrev main_call2_v0 : Ref sig .tc := ⟨.hbm, 31, rfl⟩
abbrev main_call2_v1 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_c_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_8 : Ref sig .tc := ⟨.hbm, 57, rfl⟩
abbrev main_v38 : Ref sig .tc := ⟨.hbm, 58, rfl⟩
abbrev main_v39 : Ref sig .tc := ⟨.hbm, 59, rfl⟩
abbrev main_c_9 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_10 : Ref sig .tc := ⟨.hbm, 66, rfl⟩
abbrev main_v45 : Ref sig .tc := ⟨.hbm, 67, rfl⟩
abbrev main_v46 : Ref sig .tc := ⟨.hbm, 68, rfl⟩
abbrev main_c_11 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_12 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_c_13 : Ref sig .tc := ⟨.hbm, 84, rfl⟩
abbrev main_v60 : Ref sig .tc := ⟨.hbm, 85, rfl⟩
abbrev main_v61 : Ref sig .tc := ⟨.hbm, 86, rfl⟩
abbrev main_cst_14 : Ref sig .tc := ⟨.hbm, 87, rfl⟩
abbrev main_call3_v0 : Ref sig .tc := ⟨.hbm, 88, rfl⟩
abbrev main_call3_v1 : Ref sig .tc := ⟨.hbm, 89, rfl⟩
abbrev main_call3_v2 : Ref sig .tc := ⟨.hbm, 90, rfl⟩
abbrev main_v62 : Ref sig .tc := ⟨.hbm, 91, rfl⟩
abbrev main_cst_15 : Ref sig .tc := ⟨.hbm, 92, rfl⟩
abbrev main_v63 : Ref sig .tc := ⟨.hbm, 93, rfl⟩
abbrev main_cst_16 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_17 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩

abbrev nD : Nat := 1
abbrev τ : Topo := Topo.v7x

variable {F : FTy → Type} [FloatOps F]
-- ==== Kernel2.lean ====
abbrev S32768x2048 : Shape := ⟨2, ![32768, 2048]⟩
abbrev S2x2048x8192 : Shape := ⟨3, ![2, 2048, 8192]⟩
abbrev S32768x8192 : Shape := ⟨2, ![32768, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S32768x2048, .bf16⟩
  | .hbm, ⟨1, _⟩ => ⟨S2x2048x8192, .f32⟩
  | .hbm, ⟨2, _⟩ => ⟨S32768x8192, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .f32⟩
  | .local _ .vmem, ⟨5, _⟩ => ⟨S1024x1024, .f32⟩
  | .local _ .vmem, ⟨6, _⟩ => ⟨S2048x1024, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S32768x2048 : Shape := ⟨2, ![32768, 2048]⟩
abbrev S2x2048x8192 : Shape := ⟨3, ![2, 2048, 8192]⟩
abbrev S1x2048x8192 : Shape := ⟨3, ![1, 2048, 8192]⟩
abbrev S2048x8192 : Shape := ⟨2, ![2048, 8192]⟩
abbrev S32768x8192 : Shape := ⟨2, ![32768, 8192]⟩

abbrev nBuf : Space → Nat
  | .hbm => 6
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2x2048x8192, .f32⟩
  | .hbm, ⟨2, _⟩ => ⟨S32768x2048, .f32⟩
  | .hbm, ⟨3, _⟩ => ⟨S1x2048x8192, .f32⟩
  | .hbm, ⟨4, _⟩ => ⟨S2048x8192, .f32⟩
  | .hbm, ⟨5, _⟩ => ⟨S32768x8192, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel3.lean ====
abbrev S294912x1024 : Shape := ⟨2, ![294912, 1024]⟩
abbrev S576 : Shape := ⟨1, ![576]⟩
abbrev S1 : Shape := ⟨1, ![1]⟩
abbrev S4x64x2048x768 : Shape := ⟨4, ![4, 64, 2048, 768]⟩
abbrev S4x64x384x2048 : Shape := ⟨4, ![4, 64, 384, 2048]⟩
abbrev S294912x2048 : Shape := ⟨2, ![294912, 2048]⟩
abbrev S512x1024 : Shape := ⟨2, ![512, 1024]⟩
abbrev S1x1x2048x768 : Shape := ⟨4, ![1, 1, 2048, 768]⟩
abbrev S1x1x384x2048 : Shape := ⟨4, ![1, 1, 384, 2048]⟩
abbrev S512x2048 : Shape := ⟨2, ![512, 2048]⟩
abbrev S2048x768 : Shape := ⟨2, ![2048, 768]⟩
abbrev S384x2048 : Shape := ⟨2, ![384, 2048]⟩
abbrev S128x1024 : Shape := ⟨2, ![128, 1024]⟩
abbrev S1024x768 : Shape := ⟨2, ![1024, 768]⟩
abbrev S128x768 : Shape := ⟨2, ![128, 768]⟩
abbrev S128x384 : Shape := ⟨2, ![128, 384]⟩
abbrev S128x2048 : Shape := ⟨2, ![128, 2048]⟩

abbrev nBuf : Space → Nat
  | .hbm => 4
  | .vmem => 10
  | .smem => 2
  | _ => 0

abbrev bufTy : (tb : Table) → Fin (tcTables nBuf tb) → BufTy
  | .hbm, ⟨0, _⟩ => ⟨S294912x1024, .i32⟩
  | .hbm, ⟨1, _⟩ => ⟨S4x64x2048x768, .f32⟩
  | .hbm, ⟨2, _⟩ => ⟨S4x64x384x2048, .f32⟩
  | .hbm, ⟨3, _⟩ => ⟨S294912x2048, .bf16⟩
  | .local _ .vmem, ⟨0, _⟩ => ⟨S512x1024, .i32⟩
  | .local _ .vmem, ⟨1, _⟩ => ⟨S512x1024, .i32⟩
  | .local _ .vmem, ⟨2, _⟩ => ⟨S1x1x2048x768, .f32⟩
  | .local _ .vmem, ⟨3, _⟩ => ⟨S1x1x2048x768, .f32⟩
  | .local _ .vmem, ⟨4, _⟩ => ⟨S1x1x384x2048, .f32⟩
  | .local _ .vmem, ⟨5, _⟩ => ⟨S1x1x384x2048, .f32⟩
  | .local _ .vmem, ⟨6, _⟩ => ⟨S512x2048, .bf16⟩
  | .local _ .vmem, ⟨7, _⟩ => ⟨S512x2048, .bf16⟩
  | .local _ .vmem, ⟨8, _⟩ => ⟨S2048x768, .bf16⟩
  | .local _ .vmem, ⟨9, _⟩ => ⟨S384x2048, .bf16⟩
  | .local _ .smem, ⟨0, _⟩ => ⟨S576, .i32⟩
  | .local _ .smem, ⟨1, _⟩ => ⟨S1, .i32⟩
  | _, _ => ⟨S294912x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![576], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg0 : BitVec 32 := BitVec.ofNat 32 (i 0).val
  let v16 : BitVec 1 := Scalar.cmpi .sge arg0 v15
  let v17 : BitVec 32 := Scalar.extui v16
  let c0_i32_4 : BitVec 32 := 0#32
  let v18 : BitVec 1 := Scalar.cmpi .ne v17 c0_i32_4
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S576.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S576) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S576.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S576) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x384x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S294912x1024 : Shape := ⟨2, ![294912, 1024]⟩
abbrev S576 : Shape := ⟨1, ![576]⟩
abbrev S1 : Shape := ⟨1, ![1]⟩
abbrev S4x64x2048x768 : Shape := ⟨4, ![4, 64, 2048, 768]⟩
abbrev S4x64x384x2048 : Shape := ⟨4, ![4, 64, 384, 2048]⟩
abbrev S576x512x1024 : Shape := ⟨3, ![576, 512, 1024]⟩
abbrev S_ : Shape := ⟨0, ![]⟩
abbrev S576x512x2048 : Shape := ⟨3, ![576, 512, 2048]⟩
abbrev S1x64x2048x768 : Shape := ⟨4, ![1, 64, 2048, 768]⟩
abbrev S64x2048x768 : Shape := ⟨3, ![64, 2048, 768]⟩
abbrev S576x1 : Shape := ⟨2, ![576, 1]⟩
abbrev S576x2048x768 : Shape := ⟨3, ![576, 2048, 768]⟩
abbrev S1x64x384x2048 : Shape := ⟨4, ![1, 64, 384, 2048]⟩
abbrev S64x384x2048 : Shape := ⟨3, ![64, 384, 2048]⟩
abbrev S576x384x2048 : Shape := ⟨3, ![576, 384, 2048]⟩
abbrev S576x512x768 : Shape := ⟨3, ![576, 512, 768]⟩
abbrev S576x512x384 : Shape := ⟨3, ![576, 512, 384]⟩
abbrev S576x1x1 : Shape := ⟨3, ![576, 1, 1]⟩
abbrev S294912x2048 : Shape := ⟨2, ![294912, 2048]⟩

abbrev nBuf : Space → Nat
  | .hbm => 63
  | .vmem => 0
  | .smem => 0
  | _ => 0

abbrev bufTy : (tb : Table) → Fin (tcTables nBuf tb) → BufTy
  | .hbm, ⟨0, _⟩ => ⟨S294912x1024, .i32⟩
  | .hbm, ⟨1, _⟩ => ⟨S576, .i32⟩
  | .hbm, ⟨2, _⟩ => ⟨S1, .i32⟩
  | .hbm, ⟨3, _⟩ => ⟨S4x64x2048x768, .f32⟩
  | .hbm, ⟨4, _⟩ => ⟨S4x64x384x2048, .f32⟩
  | .hbm, ⟨5, _⟩ => ⟨S576x512x1024, .i32⟩
  | .hbm, ⟨6, _⟩ => ⟨S_, .i32⟩
  | .hbm, ⟨7, _⟩ => ⟨S576x512x1024, .i32⟩
  | .hbm, ⟨8, _⟩ => ⟨S576x512x1024, .i32⟩
  | .hbm, ⟨9, _⟩ => ⟨S576x512x1024, .f32⟩
  | .hbm, ⟨10, _⟩ => ⟨S_, .i32⟩
  | .hbm, ⟨11, _⟩ => ⟨S576x512x1024, .i32⟩
  | .hbm, ⟨12, _⟩ => ⟨S576x512x1024, .i32⟩
  | .hbm, ⟨13, _⟩ => ⟨S576x512x1024, .f32⟩
  | .hbm, ⟨14, _⟩ => ⟨S576x512x2048, .f32⟩
  | .hbm, ⟨15, _⟩ => ⟨S1x64x2048x768, .f32⟩
  | .hbm, ⟨16, _⟩ => ⟨S64x2048x768, .f32⟩
  | .hbm, ⟨17, _⟩ => ⟨S_, .i32⟩
  | .hbm, ⟨18, _⟩ => ⟨S576, .i32⟩
  | .hbm, ⟨19, _⟩ => ⟨S576, .i1⟩
  | .hbm, ⟨20, _⟩ => ⟨S_, .i32⟩
  | .hbm, ⟨21, _⟩ => ⟨S576, .i32⟩
  | .hbm, ⟨22, _⟩ => ⟨S576, .i32⟩
  | .hbm, ⟨23, _⟩ => ⟨S576, .i32⟩
  | .hbm, ⟨24, _⟩ => ⟨S576x1, .i32⟩
  | .hbm, ⟨25, _⟩ => ⟨S576x2048x768, .f32⟩
  | .hbm, ⟨26, _⟩ => ⟨S1x64x384x2048, .f32⟩
  | .hbm, ⟨27, _⟩ => ⟨S64x384x2048, .f32⟩
  | .hbm, ⟨28, _⟩ => ⟨S_, .i32⟩
  | .hbm, ⟨29, _⟩ => ⟨S576, .i32⟩
  | .hbm, ⟨30, _⟩ => ⟨S576, .i1⟩
  | .hbm, ⟨31, _⟩ => ⟨S_, .i32⟩
  | .hbm, ⟨32, _⟩ => ⟨S576, .i32⟩
  | .hbm, ⟨33, _⟩ => ⟨S576, .i32⟩
  | .hbm, ⟨34, _⟩ => ⟨S576, .i32⟩
  | .hbm, ⟨35, _⟩ => ⟨S576x1, .i32⟩
  | .hbm, ⟨36, _⟩ => ⟨S576x384x2048, .f32⟩
  | .hbm, ⟨37, _⟩ => ⟨S576x512x768, .f32⟩
  | .hbm, ⟨38, _⟩ => ⟨S576x512x384, .f32⟩
  | .hbm, ⟨39, _⟩ => ⟨S576x512x384, .f32⟩
  | .hbm, ⟨40, _⟩ => ⟨S576x512x384, .f32⟩
  | .hbm, ⟨41, _⟩ => ⟨S576x512x384, .f32⟩
  | .hbm, ⟨42, _⟩ => ⟨S_, .f32⟩
  | .hbm, ⟨43, _⟩ => ⟨S576x512x384, .f32⟩
  | .hbm, ⟨44, _⟩ => ⟨S576x512x384, .f32⟩
  | .hbm, ⟨45, _⟩ => ⟨S_, .f32⟩
  | .hbm, ⟨46, _⟩ => ⟨S576x512x384, .f32⟩
  | .hbm, ⟨47, _⟩ => ⟨S576x512x384, .f32⟩
  | .hbm, ⟨48, _⟩ => ⟨S576x512x384, .f32⟩
  | .hbm, ⟨49, _⟩ => ⟨S576x512x384, .f32⟩
  | .hbm, ⟨50, _⟩ => ⟨S576x512x2048, .f32⟩
  | .hbm, ⟨51, _⟩ => ⟨S576, .i32⟩
  | .hbm, ⟨52, _⟩ => ⟨S_, .i32⟩
  | .hbm, ⟨53, _⟩ => ⟨S576, .i32⟩
  | .hbm, ⟨54, _⟩ => ⟨S576, .i1⟩
  | .hbm, ⟨55, _⟩ => ⟨S576x1x1, .i1⟩
  | .hbm, ⟨56, _⟩ => ⟨S_, .f32⟩
  | .hbm, ⟨57, _⟩ => ⟨S_, .f32⟩
  | .hbm, ⟨58, _⟩ => ⟨S576x512x2048, .i1⟩
  | .hbm, ⟨59, _⟩ => ⟨S576x512x2048, .f32⟩
  | .hbm, ⟨60, _⟩ => ⟨S576x512x2048, .f32⟩
  | .hbm, ⟨61, _⟩ => ⟨S294912x2048, .f32⟩
  | .hbm, ⟨62, _⟩ => ⟨S294912x2048, .bf16⟩
  | _, _ => ⟨S294912x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_3 : Ref sig .tc := ⟨.hbm, 28, rfl⟩
abbrev main_v19 : Ref sig .tc := ⟨.hbm, 29, rfl⟩
abbrev main_v20 : Ref sig .tc := ⟨.hbm, 30, rfl⟩
abbrev main_c_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩

abbrev nD : Nat := 1
abbrev τ : Topo := Topo.v7x

variable {F : FTy → Type} [FloatOps F]
-- ==== Kernel4.lean ====
abbrev S32768x2048 : Shape := ⟨2, ![32768, 2048]⟩
abbrev S2x2048x2048 : Shape := ⟨3, ![2, 2048, 2048]⟩
abbrev S4x2048 : Shape := ⟨2, ![4, 2048]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S256x2048 : Shape := ⟨2, ![256, 2048]⟩
abbrev S256 : Shape := ⟨1, ![256]⟩
abbrev S256x1 : Shape := ⟨2, ![256, 1]⟩

abbrev nBuf : Space → Nat
  | .hbm => 17
  | .vmem => 13
  | .smem => 0
  | _ => 0

abbrev bufTy : (tb : Table) → Fin (tcTables nBuf tb) → BufTy
  | .hbm, ⟨0, _⟩ => ⟨S32768x2048, .bf16⟩
  | .hbm, ⟨1, _⟩ => ⟨S2x2048x2048, .f32⟩
  | .hbm, ⟨2, _⟩ => ⟨S32768x2048, .f32⟩
  | .hbm, ⟨3, _⟩ => ⟨S4x2048, .f32⟩
  | .hbm, ⟨4, _⟩ => ⟨S4x2048, .f32⟩
  | .hbm, ⟨5, _⟩ => ⟨S1x2048x2048, .f32⟩
  | .hbm, ⟨6, _⟩ => ⟨S2048x2048, .f32⟩
  | .hbm, ⟨7, _⟩ => ⟨S2048x2048, .bf16⟩
  | .hbm, ⟨8, _⟩ => ⟨S1x2048, .f32⟩
  | .hbm, ⟨9, _⟩ => ⟨S2048, .f32⟩
  | .hbm, ⟨10, _⟩ => ⟨S1x2048, .f32⟩
  | .hbm, ⟨11, _⟩ => ⟨S2048, .f32⟩
  | .hbm, ⟨12, _⟩ => ⟨S1x2048, .f32⟩
  | .hbm, ⟨13, _⟩ => ⟨S1x2048, .f32⟩
  | .hbm, ⟨14, _⟩ => ⟨S32768x2048, .f32⟩
  | .hbm, ⟨15, _⟩ => ⟨S32768x2048, .bf16⟩
  | .hbm, ⟨16, _⟩ => ⟨S32768x2048, .bf16⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S32768x2048 : Shape := ⟨2, ![32768, 2048]⟩
abbrev S2x2048x2048 : Shape := ⟨3, ![2, 2048, 2048]⟩
abbrev S4x2048 : Shape := ⟨2, ![4, 2048]⟩
abbrev S_ : Shape := ⟨0, ![]⟩
abbrev S1x2048x2048 : Shape := ⟨3, ![1, 2048, 2048]⟩
abbrev S2048x2048 : Shape := ⟨2, ![2048, 2048]⟩
abbrev S32768 : Shape := ⟨1, ![32768]⟩
abbrev S32768x1 : Shape := ⟨2, ![32768, 1]⟩
abbrev S1x2048 : Shape := ⟨2, ![1, 2048]⟩
abbrev S2048 : Shape := ⟨1, ![2048]⟩

abbrev nBuf : Space → Nat
  | .hbm => 48
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2x2048x2048, .f32⟩
  | .hbm, ⟨2, _⟩ => ⟨S32768x2048, .f32⟩
  | .hbm, ⟨3, _⟩ => ⟨S4x2048, .f32⟩
  | .hbm, ⟨4, _⟩ => ⟨S4x2048, .f32⟩
  | .hbm, ⟨5, _⟩ => ⟨S_, .f32⟩
  | .hbm, ⟨6, _⟩ => ⟨S32768x2048, .f32⟩
  | .hbm, ⟨7, _⟩ => ⟨S32768x2048, .f32⟩
  | .hbm, ⟨8, _⟩ => ⟨S32768x2048, .f32⟩
  | .hbm, ⟨9, _⟩ => ⟨S1x2048x2048, .f32⟩
  | .hbm, ⟨10, _⟩ => ⟨S2048x2048, .f32⟩
  | .hbm, ⟨11, _⟩ => ⟨S32768x2048, .f32⟩
  | .hbm, ⟨12, _⟩ => ⟨S32768x2048, .f32⟩
  | .hbm, ⟨13, _⟩ => ⟨S_, .f32⟩
  | .hbm, ⟨14, _⟩ => ⟨S32768, .f32⟩
  | .hbm, ⟨15, _⟩ => ⟨S32768x1, .f32⟩
  | .hbm, ⟨16, _⟩ => ⟨S_, .f32⟩
  | .hbm, ⟨17, _⟩ => ⟨S32768x1, .f32⟩
  | .hbm, ⟨18, _⟩ => ⟨S32768x1, .f32⟩
  | .hbm, ⟨19, _⟩ => ⟨S32768x2048, .f32⟩
  | .hbm, ⟨20, _⟩ => ⟨S32768x2048, .f32⟩
  | .hbm, ⟨21, _⟩ => ⟨S32768x2048, .f32⟩
  | .hbm, ⟨22, _⟩ => ⟨S_, .f32⟩
  | .hbm, ⟨23, _⟩ => ⟨S32768, .f32⟩
  | .hbm, ⟨24, _⟩ => ⟨S32768x1, .f32⟩
  | .hbm, ⟨25, _⟩ => ⟨S_, .f32⟩
  | .hbm, ⟨26, _⟩ => ⟨S32768x1, .f32⟩
  | .hbm, ⟨27, _⟩ => ⟨S32768x1, .f32⟩
  | .hbm, ⟨28, _⟩ => ⟨S32768x2048, .f32⟩
  | .hbm, ⟨29, _⟩ => ⟨S32768x2048, .f32⟩
  | .hbm, ⟨30, _⟩ => ⟨S_, .f32⟩
  | .hbm, ⟨31, _⟩ => ⟨S32768x1, .f32⟩
  | .hbm, ⟨32, _⟩ => ⟨S32768x1, .f32⟩
  | .hbm, ⟨33, _⟩ => ⟨S32768x1, .f32⟩
  | .hbm, ⟨34, _⟩ => ⟨S32768x2048, .f32⟩
  | .hbm, ⟨35, _⟩ => ⟨S32768x2048, .f32⟩
  | .hbm, ⟨36, _⟩ => ⟨S1x2048, .f32⟩
  | .hbm, ⟨37, _⟩ => ⟨S2048, .f32⟩
  | .hbm, ⟨38, _⟩ => ⟨S1x2048, .f32⟩
  | .hbm, ⟨39, _⟩ => ⟨S32768x2048, .f32⟩
  | .hbm, ⟨40, _⟩ => ⟨S32768x2048, .f32⟩
  | .hbm, ⟨41, _⟩ => ⟨S1x2048, .f32⟩
  | .hbm, ⟨42, _⟩ => ⟨S2048, .f32⟩
  | .hbm, ⟨43, _⟩ => ⟨S1x2048, .f32⟩
  | .hbm, ⟨44, _⟩ => ⟨S32768x2048, .f32⟩
  | .hbm, ⟨45, _⟩ => ⟨S32768x2048, .f32⟩
  | .hbm, ⟨46, _⟩ => ⟨S32768x2048, .bf16⟩
  | .hbm, ⟨47, _⟩ => ⟨S32768x2048, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== Kernel5.lean ====
abbrev S32768x2048 : Shape := ⟨2, ![32768, 2048]⟩
abbrev S1x2048x6144 : Shape := ⟨3, ![1, 2048, 6144]⟩
abbrev S32768x6144 : Shape := ⟨2, ![32768, 6144]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S32768x2048, .bf16⟩
  | .hbm, ⟨1, _⟩ => ⟨S1x2048x6144, .f32⟩
  | .hbm, ⟨2, _⟩ => ⟨S32768x6144, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S2048x1024, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S32768x2048 : Shape := ⟨2, ![32768, 2048]⟩
abbrev S1x2048x6144 : Shape := ⟨3, ![1, 2048, 6144]⟩
abbrev S2048x6144 : Shape := ⟨2, ![2048, 6144]⟩
abbrev S32768x6144 : Shape := ⟨2, ![32768, 6144]⟩

abbrev nBuf : Space → Nat
  | .hbm => 6
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S1x2048x6144, .f32⟩
  | .hbm, ⟨2, _⟩ => ⟨S32768x2048, .f32⟩
  | .hbm, ⟨3, _⟩ => ⟨S2048x6144, .f32⟩
  | .hbm, ⟨4, _⟩ => ⟨S32768x6144, .f32⟩
  | .hbm, ⟨5, _⟩ => ⟨S32768x6144, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel6.lean ====
abbrev S32768x2048 : Shape := ⟨2, ![32768, 2048]⟩
abbrev S1x2048x12352 : Shape := ⟨3, ![1, 2048, 12352]⟩
abbrev S32768x12288 : Shape := ⟨2, ![32768, 12288]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S32768x2048, .bf16⟩
  | .hbm, ⟨1, _⟩ => ⟨S1x2048x12352, .f32⟩
  | .hbm, ⟨2, _⟩ => ⟨S32768x12288, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .f32⟩
  | .local _ .vmem, ⟨5, _⟩ => ⟨S1024x1024, .f32⟩
  | .local _ .vmem, ⟨6, _⟩ => ⟨S2048x1024, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![12, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S32768x2048 : Shape := ⟨2, ![32768, 2048]⟩
abbrev S1x2048x12352 : Shape := ⟨3, ![1, 2048, 12352]⟩
abbrev S2048x12352 : Shape := ⟨2, ![2048, 12352]⟩
abbrev S32768x12352 : Shape := ⟨2, ![32768, 12352]⟩
abbrev S32768x12288 : Shape := ⟨2, ![32768, 12288]⟩
abbrev S32768x64 : Shape := ⟨2, ![32768, 64]⟩

abbrev nBuf : Space → Nat
  | .hbm => 7
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S1x2048x12352, .f32⟩
  | .hbm, ⟨2, _⟩ => ⟨S32768x2048, .f32⟩
  | .hbm, ⟨3, _⟩ => ⟨S2048x12352, .f32⟩
  | .hbm, ⟨4, _⟩ => ⟨S32768x12352, .f32⟩
  | .hbm, ⟨5, _⟩ => ⟨S32768x12288, .f32⟩
  | .hbm, ⟨6, _⟩ => ⟨S32768x64, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel7.lean ====
abbrev S32768x4096 : Shape := ⟨2, ![32768, 4096]⟩
abbrev S1x4096x2048 : Shape := ⟨3, ![1, 4096, 2048]⟩
abbrev S32768x2048 : Shape := ⟨2, ![32768, 2048]⟩
abbrev S4x2048 : Shape := ⟨2, ![4, 2048]⟩
abbrev S4096x2048 : Shape := ⟨2, ![4096, 2048]⟩
abbrev S1x2048 : Shape := ⟨2, ![1, 2048]⟩
abbrev S2048 : Shape := ⟨1, ![2048]⟩
abbrev S256x4096 : Shape := ⟨2, ![256, 4096]⟩
abbrev S256x2048 : Shape := ⟨2, ![256, 2048]⟩
abbrev S256 : Shape := ⟨1, ![256]⟩
abbrev S256x1 : Shape := ⟨2, ![256, 1]⟩

abbrev nBuf : Space → Nat
  | .hbm => 16
  | .vmem => 13
  | .smem => 0
  | _ => 0

abbrev bufTy : (tb : Table) → Fin (tcTables nBuf tb) → BufTy
  | .hbm, ⟨0, _⟩ => ⟨S32768x4096, .bf16⟩
  | .hbm, ⟨1, _⟩ => ⟨S1x4096x2048, .f32⟩
  | .hbm, ⟨2, _⟩ => ⟨S32768x2048, .f32⟩
  | .hbm, ⟨3, _⟩ => ⟨S4x2048, .f32⟩
  | .hbm, ⟨4, _⟩ => ⟨S4x2048, .f32⟩
  | .hbm, ⟨5, _⟩ => ⟨S4096x2048, .f32⟩
  | .hbm, ⟨6, _⟩ => ⟨S4096x2048, .bf16⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S2048, .f32⟩
  | .hbm, ⟨11, _⟩ => ⟨S1x2048, .f32⟩
  | .hbm, ⟨12, _⟩ => ⟨S1x2048, .f32⟩
  | .hbm, ⟨13, _⟩ => ⟨S32768x2048, .f32⟩
  | .hbm, ⟨14, _⟩ => ⟨S32768x2048, .bf16⟩
  | .hbm, ⟨15, _⟩ => ⟨S32768x2048, .bf16⟩
  | .local _ .vmem, ⟨0, _⟩ => ⟨S256x4096, .bf16⟩
  | .local _ .vmem, ⟨1, _⟩ => ⟨S256x4096, .bf16⟩
  | .local _ .vmem, ⟨2, _⟩ => ⟨S4096x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | _, _ => ⟨S32768x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference7Ideal.lean ====
abbrev S32768x4096 : Shape := ⟨2, ![32768, 4096]⟩
abbrev S1x4096x2048 : Shape := ⟨3, ![1, 4096, 2048]⟩
abbrev S32768x2048 : Shape := ⟨2, ![32768, 2048]⟩
abbrev S4x2048 : Shape := ⟨2, ![4, 2048]⟩
abbrev S_ : Shape := ⟨0, ![]⟩
abbrev S4096x2048 : Shape := ⟨2, ![4096, 2048]⟩
abbrev S32768 : Shape := ⟨1, ![32768]⟩
abbrev S32768x1 : Shape := ⟨2, ![32768, 1]⟩
abbrev S1x2048 : Shape := ⟨2, ![1, 2048]⟩
abbrev S2048 : Shape := ⟨1, ![2048]⟩

abbrev nBuf : Space → Nat
  | .hbm => 47
  | .vmem => 0
  | .smem => 0
  | _ => 0

abbrev bufTy : (tb : Table) → Fin (tcTables nBuf tb) → BufTy
  | .hbm, ⟨0, _⟩ => ⟨S32768x4096, .bf16⟩
  | .hbm, ⟨1, _⟩ => ⟨S1x4096x2048, .f32⟩
  | .hbm, ⟨2, _⟩ => ⟨S32768x2048, .f32⟩
  | .hbm, ⟨3, _⟩ => ⟨S4x2048, .f32⟩
  | .hbm, ⟨4, _⟩ => ⟨S4x2048, .f32⟩
  | .hbm, ⟨5, _⟩ => ⟨S_, .f32⟩
  | .hbm, ⟨6, _⟩ => ⟨S32768x2048, .f32⟩
  | .hbm, ⟨7, _⟩ => ⟨S32768x2048, .f32⟩
  | .hbm, ⟨8, _⟩ => ⟨S32768x4096, .f32⟩
  | .hbm, ⟨9, _⟩ => ⟨S4096x2048, .f32⟩
  | .hbm, ⟨10, _⟩ => ⟨S32768x2048, .f32⟩
  | .hbm, ⟨11, _⟩ => ⟨S32768x2048, .f32⟩
  | .hbm, ⟨12, _⟩ => ⟨S_, .f32⟩
  | .hbm, ⟨13, _⟩ => ⟨S32768, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S32768x2048, .f32⟩
  | .hbm, ⟨19, _⟩ => ⟨S32768x2048, .f32⟩
  | .hbm, ⟨20, _⟩ => ⟨S32768x2048, .f32⟩
  | .hbm, ⟨21, _⟩ => ⟨S_, .f32⟩
  | .hbm, ⟨22, _⟩ => ⟨S32768, .f32⟩
  | .hbm, ⟨23, _⟩ => ⟨S32768x1, .f32⟩
  | .hbm, ⟨24, _⟩ => ⟨S_, .f32⟩
  | .hbm, ⟨25, _⟩ => ⟨S32768x1, .f32⟩
  | .hbm, ⟨26, _⟩ => ⟨S32768x1, .f32⟩
  | .hbm, ⟨27, _⟩ => ⟨S32768x2048, .f32⟩
  | .hbm, ⟨28, _⟩ => ⟨S32768x2048, .f32⟩
  | .hbm, ⟨29, _⟩ => ⟨S_, .f32⟩
  | .hbm, ⟨30, _⟩ => ⟨S32768x1, .f32⟩
  | .hbm, ⟨31, _⟩ => ⟨S32768x1, .f32⟩
  | .hbm, ⟨32, _⟩ => ⟨S32768x1, .f32⟩
  | .hbm, ⟨33, _⟩ => ⟨S32768x2048, .f32⟩
  | .hbm, ⟨34, _⟩ => ⟨S32768x2048, .f32⟩
  | .hbm, ⟨35, _⟩ => ⟨S1x2048, .f32⟩
  | .hbm, ⟨36, _⟩ => ⟨S2048, .f32⟩
  | .hbm, ⟨37, _⟩ => ⟨S1x2048, .f32⟩
  | .hbm, ⟨38, _⟩ => ⟨S32768x2048, .f32⟩
  | .hbm, ⟨39, _⟩ => ⟨S32768x2048, .f32⟩
  | .hbm, ⟨40, _⟩ => ⟨S1x2048, .f32⟩
  | .hbm, ⟨41, _⟩ => ⟨S2048, .f32⟩
  | .hbm, ⟨42, _⟩ => ⟨S1x2048, .f32⟩
  | .hbm, ⟨43, _⟩ => ⟨S32768x2048, .f32⟩
  | .hbm, ⟨44, _⟩ => ⟨S32768x2048, .f32⟩
  | .hbm, ⟨45, _⟩ => ⟨S32768x2048, .bf16⟩
  | .hbm, ⟨46, _⟩ => ⟨S32768x2048, .bf16⟩
  | _, _ => ⟨S32768x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Kernel8.lean ====
abbrev S32768x2048 : Shape := ⟨2, ![32768, 2048]⟩
abbrev S1x2048x12352 : Shape := ⟨3, ![1, 2048, 12352]⟩
abbrev S1x32 : Shape := ⟨2, ![1, 32]⟩
abbrev S2048x12352 : Shape := ⟨2, ![2048, 12352]⟩
abbrev S2048x64 : Shape := ⟨2, ![2048, 64]⟩
abbrev S_ : Shape := ⟨0, ![]⟩
abbrev S2048x128 : Shape := ⟨2, ![2048, 128]⟩
abbrev S32 : Shape := ⟨1, ![32]⟩
abbrev S1x128 : Shape := ⟨2, ![1, 128]⟩
abbrev S1 : Shape := ⟨1, ![1]⟩
abbrev S2 : Shape := ⟨1, ![2]⟩
abbrev S32768x128 : Shape := ⟨2, ![32768, 128]⟩
abbrev S128x32768 : Shape := ⟨2, ![128, 32768]⟩
abbrev S512x2048 : Shape := ⟨2, ![512, 2048]⟩
abbrev S512x128 : Shape := ⟨2, ![512, 128]⟩
abbrev S128x512 : Shape := ⟨2, ![128, 512]⟩
abbrev S128x128 : Shape := ⟨2, ![128, 128]⟩

abbrev nBuf : Space → Nat
  | .hbm => 29
  | .vmem => 9
  | .smem => 0
  | _ => 0

abbrev bufTy : (tb : Table) → Fin (tcTables nBuf tb) → BufTy
  | .hbm, ⟨0, _⟩ => ⟨S32768x2048, .f32⟩
  | .hbm, ⟨1, _⟩ => ⟨S1x2048x12352, .f32⟩
  | .hbm, ⟨2, _⟩ => ⟨S1x32, .f32⟩
  | .hbm, ⟨3, _⟩ => ⟨S1x32, .f32⟩
  | .hbm, ⟨4, _⟩ => ⟨S2048x12352, .f32⟩
  | .hbm, ⟨5, _⟩ => ⟨S2048x64, .f32⟩
  | .hbm, ⟨6, _⟩ => ⟨S_, .i32⟩
  | .hbm, ⟨7, _⟩ => ⟨S_, .f32⟩
  | .hbm, ⟨8, _⟩ => ⟨S2048x128, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S1x128, .f32⟩
  | .hbm, ⟨13, _⟩ => ⟨S_, .i32⟩
  | .hbm, ⟨14, _⟩ => ⟨S1, .i32⟩
  | .hbm, ⟨15, _⟩ => ⟨S_, .i32⟩
  | .hbm, ⟨16, _⟩ => ⟨S1, .i32⟩
  | .hbm, ⟨17, _⟩ => ⟨S2, .i32⟩
  | .hbm, ⟨18, _⟩ => ⟨S1x128, .f32⟩
  | .hbm, ⟨19, _⟩ => ⟨S_, .f32⟩
  | .hbm, ⟨20, _⟩ => ⟨S1x128, .f32⟩
  | .hbm, ⟨21, _⟩ => ⟨S_, .i32⟩
  | .hbm, ⟨22, _⟩ => ⟨S1, .i32⟩
  | .hbm, ⟨23, _⟩ => ⟨S_, .i32⟩
  | .hbm, ⟨24, _⟩ => ⟨S1, .i32⟩
  | .hbm, ⟨25, _⟩ => ⟨S2, .i32⟩
  | .hbm, ⟨26, _⟩ => ⟨S1x128, .f32⟩
  | .hbm, ⟨27, _⟩ => ⟨S32768x128, .f32⟩
  | .hbm, ⟨28, _⟩ => ⟨S128x32768, .f32⟩
  | .local _ .vmem, ⟨0, _⟩ => ⟨S512x2048, .f32⟩
  | .local _ .vmem, ⟨1, _⟩ => ⟨S512x2048, .f32⟩
  | .local _ .vmem, ⟨2, _⟩ => ⟨S2048x128, .f32⟩
  | .local _ .vmem, ⟨3, _⟩ => ⟨S1x128, .f32⟩
  | .local _ .vmem, ⟨4, _⟩ => ⟨S1x128, .f32⟩
  | .local _ .vmem, ⟨5, _⟩ => ⟨S512x128, .f32⟩
  | .local _ .vmem, ⟨6, _⟩ => ⟨S512x128, .f32⟩
  | .local _ .vmem, ⟨7, _⟩ => ⟨S128x512, .f32⟩
  | .local _ .vmem, ⟨8, _⟩ => ⟨S128x512, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_c_3 : Ref sig .tc := ⟨.hbm, 21, rfl⟩
abbrev main_v11 : Ref sig .tc := ⟨.hbm, 22, rfl⟩
abbrev main_c_4 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15_0 : Ref sig .tc := ⟨.hbm, 27, rfl⟩
abbrev main_v15_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference8Ideal.lean ====
abbrev S32768x2048 : Shape := ⟨2, ![32768, 2048]⟩
abbrev S1x2048x12352 : Shape := ⟨3, ![1, 2048, 12352]⟩
abbrev S1x32 : Shape := ⟨2, ![1, 32]⟩
abbrev S2048x12352 : Shape := ⟨2, ![2048, 12352]⟩
abbrev S2048x64 : Shape := ⟨2, ![2048, 64]⟩
abbrev S32768x64 : Shape := ⟨2, ![32768, 64]⟩
abbrev S32768x32 : Shape := ⟨2, ![32768, 32]⟩
abbrev S_ : Shape := ⟨0, ![]⟩
abbrev S32 : Shape := ⟨1, ![32]⟩
abbrev S512x64x32 : Shape := ⟨3, ![512, 64, 32]⟩
abbrev S32768x128 : Shape := ⟨2, ![32768, 128]⟩
abbrev S128x32768 : Shape := ⟨2, ![128, 32768]⟩

abbrev nBuf : Space → Nat
  | .hbm => 50
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S1x2048x12352, .f32⟩
  | .hbm, ⟨2, _⟩ => ⟨S1x32, .f32⟩
  | .hbm, ⟨3, _⟩ => ⟨S1x32, .f32⟩
  | .hbm, ⟨4, _⟩ => ⟨S2048x12352, .f32⟩
  | .hbm, ⟨5, _⟩ => ⟨S2048x64, .f32⟩
  | .hbm, ⟨6, _⟩ => ⟨S32768x64, .f32⟩
  | .hbm, ⟨7, _⟩ => ⟨S32768x32, .f32⟩
  | .hbm, ⟨8, _⟩ => ⟨S32768x32, .f32⟩
  | .hbm, ⟨9, _⟩ => ⟨S32768x32, .f32⟩
  | .hbm, ⟨10, _⟩ => ⟨S_, .f32⟩
  | .hbm, ⟨11, _⟩ => ⟨S32768x32, .f32⟩
  | .hbm, ⟨12, _⟩ => ⟨S32768x32, .f32⟩
  | .hbm, ⟨13, _⟩ => ⟨S_, .f32⟩
  | .hbm, ⟨14, _⟩ => ⟨S32768x32, .f32⟩
  | .hbm, ⟨15, _⟩ => ⟨S32768x32, .f32⟩
  | .hbm, ⟨16, _⟩ => ⟨S32, .f32⟩
  | .hbm, ⟨17, _⟩ => ⟨S32, .f32⟩
  | .hbm, ⟨18, _⟩ => ⟨S32, .f32⟩
  | .hbm, ⟨19, _⟩ => ⟨S32768x32, .f32⟩
  | .hbm, ⟨20, _⟩ => ⟨S32, .f32⟩
  | .hbm, ⟨21, _⟩ => ⟨S1x32, .f32⟩
  | .hbm, ⟨22, _⟩ => ⟨S32768x32, .f32⟩
  | .hbm, ⟨23, _⟩ => ⟨S32768x32, .f32⟩
  | .hbm, ⟨24, _⟩ => ⟨S_, .f32⟩
  | .hbm, ⟨25, _⟩ => ⟨S32768x32, .f32⟩
  | .hbm, ⟨26, _⟩ => ⟨S32768x32, .f32⟩
  | .hbm, ⟨27, _⟩ => ⟨S32768x32, .f32⟩
  | .hbm, ⟨28, _⟩ => ⟨S32768x32, .f32⟩
  | .hbm, ⟨29, _⟩ => ⟨S32768x32, .i1⟩
  | .hbm, ⟨30, _⟩ => ⟨S32768x32, .f32⟩
  | .hbm, ⟨31, _⟩ => ⟨S32768x32, .f32⟩
  | .hbm, ⟨32, _⟩ => ⟨S32768x32, .f32⟩
  | .hbm, ⟨33, _⟩ => ⟨S32768x32, .f32⟩
  | .hbm, ⟨34, _⟩ => ⟨S32768x32, .f32⟩
  | .hbm, ⟨35, _⟩ => ⟨S32768x32, .f32⟩
  | .hbm, ⟨36, _⟩ => ⟨S32768x32, .f32⟩
  | .hbm, ⟨37, _⟩ => ⟨S32768x32, .f32⟩
  | .hbm, ⟨38, _⟩ => ⟨S1x32, .f32⟩
  | .hbm, ⟨39, _⟩ => ⟨S32768x32, .f32⟩
  | .hbm, ⟨40, _⟩ => ⟨S32768x32, .f32⟩
  | .hbm, ⟨41, _⟩ => ⟨S512x64x32, .f32⟩
  | .hbm, ⟨42, _⟩ => ⟨S_, .f32⟩
  | .hbm, ⟨43, _⟩ => ⟨S_, .f32⟩
  | .hbm, ⟨44, _⟩ => ⟨S512x64x32, .f32⟩
  | .hbm, ⟨45, _⟩ => ⟨S32768x32, .f32⟩
  | .hbm, ⟨46, _⟩ => ⟨S_, .f32⟩
  | .hbm, ⟨47, _⟩ => ⟨S32768x64, .f32⟩
  | .hbm, ⟨48, _⟩ => ⟨S32768x128, .f32⟩
  | .hbm, ⟨49, _⟩ => ⟨S128x32768, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_call0_cst : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_call1_call0_cst : Ref sig .tc := ⟨.hbm, 42, rfl⟩
abbrev main_call1_call0_v0 : Ref sig .tc := ⟨.hbm, 43, rfl⟩
abbrev main_v23 : Ref sig .tc := ⟨.hbm, 44, rfl⟩
abbrev main_v24 : Ref sig .tc := ⟨.hbm, 45, rfl⟩
abbrev main_cst_1 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩

abbrev nD : Nat := 1
abbrev τ : Topo := Topo.v7x

variable {F : FTy → Type} [FloatOps F]
-- ==== Proof.AttentionPay.lean ====
module

public import proofs.«01_k».proof.Proof.Gen.KernelIdeal.Value
public import Idealize.ShloMosaic.Lib.Pipeline.ValueKit

/-!
# The attention kernel's payloads at an index

One trip of the kernel takes four chunks of 64 queries of two heads at a time. The two heads' queries
are stacked as 128 rows, each with the other head's lanes set to zero, so that one product with the
128 lanes of the keys gives both heads' scores.
-/

@[expose] public section

set_option maxRecDepth 16384

noncomputable section

open Idealize.ShloMosaic Idealize.ShloMosaic.TcCoe

namespace Cert.KernelIdeal.Value

open Cert.KernelIdeal Cert.KernelIdeal.Gen

/-- The weighted mean of `v` under the exponentials of `s`, taken after their maximum is subtracted. -/
def soft (s v : Fin 576 → EReal) : EReal :=
  Ideal.div (∑ j, Ideal.exp (s j - Finset.univ.fold max ⊥ s) * v j) (∑ j, Ideal.exp (s j - Finset.univ.fold max ⊥ s))

/-- The bit pattern of minus infinity reads as the least extended real. -/
theorem neg_inf : Ideal.ofBits FTy.f32 0xFF800000#32 = (⊥ : EReal) := by
  simp [Ideal.ofBits, Ideal.ieee]

/-- A select on the lanes below 64 of 128. -/
theorem select_lane {α : Type} (e : Fin 128) (a b : α) :
    Scalar.select (IntOp.cmpi CmpIPredicate.slt (BitVec.ofNat 32 e.val) 64#32) a b = if e.val < 64 then a else b := by
  have h : ∀ e : Fin 128, IntOp.cmpi CmpIPredicate.slt (BitVec.ofNat 32 e.val) 64#32 = if e.val < 64 then 1#1 else 0#1 := by
    decide +kernel
  rw [h e]
  split <;> rfl

/-- The first loop's mask: key `j` of chunk `g` in trip `t` is a key of the sequence exactly when its row of the padded scratch is past the 512 zero rows. -/
theorem select_start {α : Type} (t : Fin 2) (g : Fin 4) (j : Fin 576) (a b : α) :
    Scalar.select (IntOp.cmpi CmpIPredicate.sge (BitVec.ofNat 32 j.val)
        (IntOp.muli (IntOp.subi 8#32 (IntOp.addi (Scalar.muli (BitVec.ofNat 32 t.val) 4#32) (BitVec.ofNat 32 g.val))) 64#32)) a b
      = if 512 ≤ 64 * (4 * t.val + g.val) + j.val then a else b := by
  have h : ∀ t : Fin 2, ∀ g : Fin 4, ∀ j : Fin 576, IntOp.cmpi CmpIPredicate.sge (BitVec.ofNat 32 j.val)
        (IntOp.muli (IntOp.subi 8#32 (IntOp.addi (Scalar.muli (BitVec.ofNat 32 t.val) 4#32) (BitVec.ofNat 32 g.val))) 64#32)
      = if 512 ≤ 64 * (4 * t.val + g.val) + j.val then 1#1 else 0#1 := by
    decide +kernel
  rw [h t g j]
  split <;> rfl

/-- The stacked queries: row `r` of chunk `g` holds head `r / 64`'s lanes of the scaled query, and zero elsewhere. -/
theorem pay1_apply (x : FVec Ideal S256x128 .bf16) (g : Fin 4) (r : Fin 128) (e : Fin 128) :
    k0_pay1 k0_pay9 x (ix3 g r e)
      = if e.val / 64 = r.val / 64 then x (ix2 ⟨64 * g.val + r.val % 64, by omega⟩ e) * Ideal.ofBits FTy.bf16 0x3E00#16 else 0 := by
  pointwise [k0_pay1, k0_pay9]
  simp only [select_lane]
  by_cases hr : r.val < 64
  · rw [dif_pos hr]
    have e1 : (⟨g.val * 64 + r.val, by omega⟩ : Fin 256) = ⟨64 * g.val + r.val % 64, by omega⟩ := Fin.ext (by simp only; omega)
    rw [e1]
    exact if_congr (by omega) rfl rfl
  · rw [dif_neg hr]
    have e1 : (⟨g.val * 64 + (r.val - 64), by omega⟩ : Fin 256) = ⟨64 * g.val + r.val % 64, by omega⟩ := Fin.ext (by simp only; omega)
    rw [e1]
    by_cases he : e.val < 64
    · rw [if_pos he, if_neg (by omega)]
    · rw [if_neg he, if_pos (by omega)]

/-- The four chunks' bands of keys, side by side. -/
theorem pay2_apply (a b c d : FVec Ideal S576x128 .bf16) (g : Fin 4) (j : Fin 576) (e : Fin 128) :
    k0_pay2 a b c d (ix3 g j e) = (![a, b, c, d] : Fin 4 → FVec Ideal S576x128 .bf16) g (ix2 j e) := by
  pointwise [k0_pay2]
  fin_cases g <;> rfl

/-- The choice among four chunks' bands of values. -/
theorem chunk_apply (a0 a1 a2 a3 : FVec Ideal S576x128 .bf16) (r : Fin 256) (x : Fin 576) (e : Fin 128) :
    (if h : r.val / 64 < 1 then a0 (ix2 x e) else if h : r.val / 64 - 1 < 1 then a1 (ix2 x e)
      else if h : r.val / 64 - 1 - 1 < 1 then a2 (ix2 x e) else a3 (ix2 x e))
      = (![a0, a1, a2, a3] : Fin 4 → FVec Ideal S576x128 .bf16) ⟨r.val / 64, by omega⟩ (ix2 x e) := by
  obtain ⟨g, hg⟩ : ∃ g : Fin 4, g.val = r.val / 64 := ⟨⟨r.val / 64, by omega⟩, rfl⟩
  have e1 : (⟨r.val / 64, by omega⟩ : Fin 4) = g := Fin.ext hg.symm
  rw [e1, ← hg]
  fin_cases g <;> rfl

/-- A later trip's payload: the two heads' weighted means, each in its own lanes. -/
theorem pay12_apply (b : FVec Ideal S2x64x576 .f32) (v37 : FVec Ideal S4x128x128 .bf16) (v54 : FVec Ideal S4x576x128 .bf16)
    (a0 a1 a2 a3 : FVec Ideal S576x128 .bf16) (r : Fin 256) (e : Fin 128) :
    k0_pay12 b v37 v54 a0 a1 a2 a3 (ix2 r e)
      = soft (fun j => ∑ x, v37 (ix3 ⟨r.val / 64, by omega⟩ ⟨64 * (e.val / 64) + r.val % 64, by omega⟩ x) * v54 (ix3 ⟨r.val / 64, by omega⟩ j x)
            + b (ix3 ⟨e.val / 64, by omega⟩ ⟨r.val % 64, by omega⟩ j))
          (fun j => (![a0, a1, a2, a3] : Fin 4 → FVec Ideal S576x128 .bf16) ⟨r.val / 64, by omega⟩ (ix2 j e)) := by
  pointwise [k0_pay12, k0_pay9, k0_pay10]
  simp only [chunk_apply, select_lane, neg_inf]
  unfold soft
  by_cases he : e.val < 64
  · rw [if_pos he]
    have e1 : (⟨r.val % 64, by omega⟩ : Fin 128) = ⟨64 * (e.val / 64) + r.val % 64, by omega⟩ := Fin.ext (by simp only; omega)
    have e2 : (⟨r.val % 64 / 64, by omega⟩ : Fin 2) = ⟨e.val / 64, by omega⟩ := Fin.ext (by simp only; omega)
    have e3 : (⟨r.val % 64 % 64, by omega⟩ : Fin 64) = ⟨r.val % 64, by omega⟩ := Fin.ext (by simp only; omega)
    simp only [e1, e2, e3]
  · rw [if_neg he]
    have e1 : (⟨64 + r.val % 64, by omega⟩ : Fin 128) = ⟨64 * (e.val / 64) + r.val % 64, by omega⟩ := Fin.ext (by simp only; omega)
    have e2 : (⟨(64 + r.val % 64) / 64, by omega⟩ : Fin 2) = ⟨e.val / 64, by omega⟩ := Fin.ext (by simp only; omega)
    have e3 : (⟨(64 + r.val % 64) % 64, by omega⟩ : Fin 64) = ⟨r.val % 64, by omega⟩ := Fin.ext (by simp only; omega)
    simp only [e1, e2, e3]

/-- An early trip's payload: as a later one's, with the keys before the sequence's start scored minus infinity. -/
theorem pay11_apply (b : FVec Ideal S2x64x576 .f32) (t : Fin 2) (v37 : FVec Ideal S4x128x128 .bf16) (v54 : FVec Ideal S4x576x128 .bf16)
    (a0 a1 a2 a3 : FVec Ideal S576x128 .bf16) (r : Fin 256) (e : Fin 128) :
    k0_pay11 b (BitVec.ofNat 32 t.val) v37 v54 a0 a1 a2 a3 (ix2 r e)
      = soft (fun j => if 512 ≤ 64 * (4 * t.val + r.val / 64) + j.val then
            ∑ x, v37 (ix3 ⟨r.val / 64, by omega⟩ ⟨64 * (e.val / 64) + r.val % 64, by omega⟩ x) * v54 (ix3 ⟨r.val / 64, by omega⟩ j x)
            + b (ix3 ⟨e.val / 64, by omega⟩ ⟨r.val % 64, by omega⟩ j) else ⊥)
          (fun j => (![a0, a1, a2, a3] : Fin 4 → FVec Ideal S576x128 .bf16) ⟨r.val / 64, by omega⟩ (ix2 j e)) := by
  have hs : ∀ (j : Fin 576) (a c : EReal), Scalar.select (IntOp.cmpi CmpIPredicate.sge (BitVec.ofNat 32 j.val)
        (IntOp.muli (IntOp.subi 8#32 (IntOp.addi (Scalar.muli (BitVec.ofNat 32 t.val) 4#32) (BitVec.ofNat 32 (r.val / 64)))) 64#32)) a c
      = if 512 ≤ 64 * (4 * t.val + r.val / 64) + j.val then a else c := fun j a c => select_start t ⟨r.val / 64, by omega⟩ j a c
  pointwise [k0_pay11, k0_pay9, k0_pay10]
  simp only [chunk_apply, select_lane, hs, neg_inf]
  unfold soft
  by_cases he : e.val < 64
  · rw [if_pos he]
    have e1 : (⟨r.val % 64, by omega⟩ : Fin 128) = ⟨64 * (e.val / 64) + r.val % 64, by omega⟩ := Fin.ext (by simp only; omega)
    have e2 : (⟨r.val % 64 / 64, by omega⟩ : Fin 2) = ⟨e.val / 64, by omega⟩ := Fin.ext (by simp only; omega)
    have e3 : (⟨r.val % 64 % 64, by omega⟩ : Fin 64) = ⟨r.val % 64, by omega⟩ := Fin.ext (by simp only; omega)
    simp only [e1, e2, e3]
  · rw [if_neg he]
    have e1 : (⟨64 + r.val % 64, by omega⟩ : Fin 128) = ⟨64 * (e.val / 64) + r.val % 64, by omega⟩ := Fin.ext (by simp only; omega)
    have e2 : (⟨(64 + r.val % 64) / 64, by omega⟩ : Fin 2) = ⟨e.val / 64, by omega⟩ := Fin.ext (by simp only; omega)
    have e3 : (⟨(64 + r.val % 64) % 64, by omega⟩ : Fin 64) = ⟨r.val % 64, by omega⟩ := Fin.ext (by simp only; omega)
    simp only [e1, e2, e3]

end Cert.KernelIdeal.Value
end
-- ==== Proof.AttentionBlock.lean ====
module

public import proofs.«01_k».proof.Proof.AttentionPay
public import Idealize.ShloMosaic.Lib.Pipeline.Covers
public import Idealize.ShloMosaic.Lib.Pipeline.ReadBack
public import Idealize.ShloMosaic.Lib.WritesUnit

/-!
# One grid point of the attention kernel

A grid point holds the 2048 queries, keys and values of two heads of one sequence. Its scratches hold
512 zero rows and then the keys, or the values.
-/

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

/-- Row `r` of a scratch: row `r - 512` of the block, and zero before the sequence's start. -/
def slot (x : FVec Ideal S2048x128 .bf16) (r : ℕ) (l : Fin 128) : EReal :=
  if h : 512 ≤ r ∧ r < 2560 then x (ix2 ⟨r - 512, by omega⟩ l) else 0

/-- The score of key `j` of the band of query row `r`, for head `h` of the two. -/
def score (q k : FVec Ideal S2048x128 .bf16) (b : FVec Ideal S2x64x576 .f32) (r : Fin 2048) (h : Fin 2) (j : Fin 576) : EReal :=
  if 512 ≤ 64 * (r.val / 64) + j.val then
    ∑ d : Fin 64, q (ix2 r ⟨64 * h.val + d.val, by omega⟩) * Ideal.ofBits FTy.bf16 0x3E00#16
        * slot k (64 * (r.val / 64) + j.val) ⟨64 * h.val + d.val, by omega⟩
      + b (ix3 h ⟨r.val % 64, by omega⟩ j)
  else ⊥

/-- The block a grid point leaves. -/
def blockOut (q k v : FVec Ideal S2048x128 .bf16) (b : FVec Ideal S2x64x576 .f32) (r : Fin 2048) (e : Fin 128) : EReal :=
  soft (score q k b r ⟨e.val / 64, by omega⟩) (fun j => slot v (64 * (r.val / 64) + j.val) e)

/-- A sum over 128 lanes with the other head's lanes at zero is the sum over the head's own 64 lanes. -/
theorem sum_lanes (h : Fin 2) (f g : Fin 128 → EReal) :
    (∑ x : Fin 128, (if x.val / 64 = h.val then f x else 0) * g x)
      = ∑ d : Fin 64, f ⟨64 * h.val + d.val, by omega⟩ * g ⟨64 * h.val + d.val, by omega⟩ := by
  have e1 : (∑ x : Fin 128, (if x.val / 64 = h.val then f x else 0) * g x)
      = (∑ i : Fin 64, (if (Fin.castAdd 64 i).val / 64 = h.val then f (Fin.castAdd 64 i) else 0) * g (Fin.castAdd 64 i))
        + ∑ i : Fin 64, (if (Fin.natAdd 64 i).val / 64 = h.val then f (Fin.natAdd 64 i) else 0) * g (Fin.natAdd 64 i) :=
    Fin.sum_univ_add (a := 64) (b := 64) _
  rw [e1]
  fin_cases h
  · have hz : (∑ i : Fin 64, (if (Fin.natAdd 64 i).val / 64 = 0 then f (Fin.natAdd 64 i) else 0) * g (Fin.natAdd 64 i)) = 0 :=
      Finset.sum_eq_zero fun i _ => by rw [if_neg (by simp only [Fin.val_natAdd]; omega), zero_mul]
    refine (congrArg₂ (· + ·) rfl hz).trans ((add_zero _).trans (Finset.sum_congr rfl fun i _ => ?_))
    have hi : Fin.castAdd 64 i = (⟨64 * 0 + i.val, by omega⟩ : Fin 128) := Fin.ext (by simp)
    rw [hi]
    exact congrArg (· * _) (if_pos (by simp only; omega))
  · have hz : (∑ i : Fin 64, (if (Fin.castAdd 64 i).val / 64 = 1 then f (Fin.castAdd 64 i) else 0) * g (Fin.castAdd 64 i)) = 0 :=
      Finset.sum_eq_zero fun i _ => by rw [if_neg (by simp only [Fin.val_castAdd]; omega), zero_mul]
    refine (congrArg₂ (· + ·) hz rfl).trans ((zero_add _).trans (Finset.sum_congr rfl fun i _ => ?_))
    have hi : Fin.natAdd 64 i = (⟨64 * 1 + i.val, by omega⟩ : Fin 128) := Fin.ext (by simp only [Fin.val_natAdd, Nat.mul_one])
    rw [hi]
    exact congrArg (· * _) (if_pos (by simp only; omega))

/-- A band of 576 rows of a scratch, read from the scratch's contents. -/
theorem band_apply (M : Memref sig .tc .vmem S2560x128 .bf16) (X : BufTy.Contents (Elt Ideal) M.view.ty) (x : FVec Ideal S2048x128 .bf16)
    (hX : ∀ y : S2560x128.Idx, M.view.read (Elt Ideal) X y = slot x (y 0).val (y 1))
    {off : Fin 2 → ℕ} (inb : ∀ a : Fin 2, off a + S576x128.size a ≤ S2560x128.size a) (o : ℕ) (ho : off = ![o, 0]) (j : Fin 576) (e : Fin 128) :
    View.readAt (Elt Ideal) M.view (Rect.unit (s := S2560x128) off S576x128.size inb).toLoadRect X (ix2 j e) = slot x (o + j.val) e := by
  subst ho
  refine (hX _).trans (congrArg₂ (slot x) ?_ (Fin.ext ?_))
  · show o + 1 * j.val = _; omega
  · show 0 + 1 * e.val = _; omega

/-- The product of a trip's stacked queries with its bands of keys. -/
theorem dot_apply (q k : FVec Ideal S2048x128 .bf16) (n : ℕ) (hn : n < 8) (Q : FVec Ideal S256x128 .bf16) (A : Fin 4 → FVec Ideal S576x128 .bf16)
    (hQ : ∀ (r : Fin 256) (e : Fin 128), Q (ix2 r e) = q (ix2 ⟨256 * n + r.val, by omega⟩ e))
    (hA : ∀ (g : Fin 4) (j : Fin 576) (e : Fin 128), A g (ix2 j e) = slot k (256 * n + 64 * g.val + j.val) e)
    (r : Fin 256) (h : Fin 2) (j : Fin 576) :
    (∑ x, k0_pay1 k0_pay9 Q (ix3 ⟨r.val / 64, by omega⟩ ⟨64 * h.val + r.val % 64, by omega⟩ x)
        * k0_pay2 (A 0) (A 1) (A 2) (A 3) (ix3 ⟨r.val / 64, by omega⟩ j x))
      = ∑ d : Fin 64, q (ix2 ⟨256 * n + r.val, by omega⟩ ⟨64 * h.val + d.val, by omega⟩) * Ideal.ofBits FTy.bf16 0x3E00#16
          * slot k (64 * ((256 * n + r.val) / 64) + j.val) ⟨64 * h.val + d.val, by omega⟩ := by
  rw [← sum_lanes h (fun x => q (ix2 ⟨256 * n + r.val, by omega⟩ x) * Ideal.ofBits FTy.bf16 0x3E00#16)
    (fun x => slot k (64 * ((256 * n + r.val) / 64) + j.val) x)]
  refine Finset.sum_congr rfl fun x _ => ?_
  rw [pay1_apply, pay2_apply, hQ]
  have hA4 : (![A 0, A 1, A 2, A 3] : Fin 4 → FVec Ideal S576x128 .bf16) = A := by funext g; fin_cases g <;> rfl
  rw [hA4, hA]
  have e1 : 256 * n + 64 * (r.val / 64) + j.val = 64 * ((256 * n + r.val) / 64) + j.val := by omega
  have e2 : (⟨256 * n + (64 * (r.val / 64) + (64 * h.val + r.val % 64) % 64), by omega⟩ : Fin 2048) = ⟨256 * n + r.val, by omega⟩ :=
    Fin.ext (by simp only; omega)
  simp only [e1, e2]
  exact congrArg (· * _) (if_congr (by omega) rfl rfl)

/-- A later trip's payload is the block's rows of that trip. -/
theorem cell2 (q k v : FVec Ideal S2048x128 .bf16) (b : FVec Ideal S2x64x576 .f32) (n : ℕ) (hn : n < 8) (hn2 : 2 ≤ n)
    (Q : FVec Ideal S256x128 .bf16) (A B : Fin 4 → FVec Ideal S576x128 .bf16)
    (hQ : ∀ (r : Fin 256) (e : Fin 128), Q (ix2 r e) = q (ix2 ⟨256 * n + r.val, by omega⟩ e))
    (hA : ∀ (g : Fin 4) (j : Fin 576) (e : Fin 128), A g (ix2 j e) = slot k (256 * n + 64 * g.val + j.val) e)
    (hB : ∀ (g : Fin 4) (j : Fin 576) (e : Fin 128), B g (ix2 j e) = slot v (256 * n + 64 * g.val + j.val) e)
    (r : Fin 256) (e : Fin 128) :
    k0_pay12 (F := Ideal) b (k0_pay1 k0_pay9 Q) (k0_pay2 (A 0) (A 1) (A 2) (A 3)) (B 0) (B 1) (B 2) (B 3) (ix2 r e)
      = blockOut q k v b ⟨256 * n + r.val, by omega⟩ e := by
  rw [pay12_apply]
  have hB4 : (![B 0, B 1, B 2, B 3] : Fin 4 → FVec Ideal S576x128 .bf16) = B := by funext g; fin_cases g <;> rfl
  rw [hB4]
  unfold blockOut score
  refine congrArg₂ soft (funext fun j => ?_) (funext fun j => ?_)
  · rw [if_pos (by simp only; omega)]
    have e3 : (⟨(256 * n + r.val) % 64, by omega⟩ : Fin 64) = ⟨r.val % 64, by omega⟩ := Fin.ext (by simp only; omega)
    refine congrArg₂ (· + ·) (dot_apply q k n hn Q A hQ hA r ⟨e.val / 64, by omega⟩ j) ?_
    simp only [e3]
  · rw [hB]
    have e1 : 256 * n + 64 * (r.val / 64) + j.val = 64 * ((256 * n + r.val) / 64) + j.val := by omega
    simp only [e1]

/-- An early trip's payload is the block's rows of that trip. -/
theorem cell1 (q k v : FVec Ideal S2048x128 .bf16) (b : FVec Ideal S2x64x576 .f32) (t : Fin 2)
    (Q : FVec Ideal S256x128 .bf16) (A B : Fin 4 → FVec Ideal S576x128 .bf16)
    (hQ : ∀ (r : Fin 256) (e : Fin 128), Q (ix2 r e) = q (ix2 ⟨256 * t.val + r.val, by omega⟩ e))
    (hA : ∀ (g : Fin 4) (j : Fin 576) (e : Fin 128), A g (ix2 j e) = slot k (256 * t.val + 64 * g.val + j.val) e)
    (hB : ∀ (g : Fin 4) (j : Fin 576) (e : Fin 128), B g (ix2 j e) = slot v (256 * t.val + 64 * g.val + j.val) e)
    (r : Fin 256) (e : Fin 128) :
    k0_pay11 (F := Ideal) b (BitVec.ofNat 32 t.val) (k0_pay1 k0_pay9 Q) (k0_pay2 (A 0) (A 1) (A 2) (A 3)) (B 0) (B 1) (B 2) (B 3) (ix2 r e)
      = blockOut q k v b ⟨256 * t.val + r.val, by omega⟩ e := by
  rw [pay11_apply]
  have hB4 : (![B 0, B 1, B 2, B 3] : Fin 4 → FVec Ideal S576x128 .bf16) = B := by funext g; fin_cases g <;> rfl
  rw [hB4]
  unfold blockOut score
  refine congrArg₂ soft (funext fun j => ?_) (funext fun j => ?_)
  · refine if_congr (by simp only; omega) ?_ rfl
    have e3 : (⟨(256 * t.val + r.val) % 64, by omega⟩ : Fin 64) = ⟨r.val % 64, by omega⟩ := Fin.ext (by simp only; omega)
    refine congrArg₂ (· + ·) (dot_apply q k t.val (by omega) Q A hQ hA r ⟨e.val / 64, by omega⟩ j) ?_
    simp only [e3]
  · rw [hB]
    have e1 : 256 * t.val + 64 * (r.val / 64) + j.val = 64 * ((256 * t.val + r.val) / 64) + j.val := by omega
    simp only [e1]

section Trips

variable (c : Dev nD) (i : grid0.Coords)
  (arg2 : Memref sig .tc .vmem S2048x128 .bf16) (harg2 : arg2.IsWhole) (arg3 : Memref sig .tc .vmem S2048x128 .bf16) (harg3 : arg3.IsWhole)
  (arg4 : Memref sig .tc .vmem S2048x128 .bf16) (harg4 : arg4.IsWhole) (arg5 : Memref sig .tc .vmem S2x64x576 .f32) (harg5 : arg5.IsWhole)
  (arg6 : Memref sig .tc .vmem S2048x128 .bf16) (harg6 : arg6.IsWhole) (arg7 : Memref sig .tc .vmem S2560x128 .bf16) (harg7 : arg7.IsWhole)
  (arg8 : Memref sig .tc .vmem S2560x128 .bf16) (harg8 : arg8.IsWhole) (b : Vec Ideal S2x64x576 .f32)
  (X2 : BufTy.Contents (Elt Ideal) arg2.view.ty) (X7 : BufTy.Contents (Elt Ideal) arg7.view.ty) (X8 : BufTy.Contents (Elt Ideal) arg8.view.ty)

/-- What a trip of the second loop stores is the block's rows of that trip. -/
theorem trip2 (q k v : FVec Ideal S2048x128 .bf16)
    (hq : ∀ y, arg2.view.read (Elt Ideal) X2 y = q y)
    (hk : ∀ y : S2560x128.Idx, arg7.view.read (Elt Ideal) X7 y = slot k (y 0).val (y 1))
    (hv : ∀ y : S2560x128.Idx, arg8.view.read (Elt Ideal) X8 y = slot v (y 0).val (y 1)) (n : Fin k0_t2_loop.trips) :
    ∀ p ∈ tripL_k0_t2 Variants.none c none i arg2 harg2 arg3 harg3 arg4 harg4 arg5 harg5 arg6 harg6 arg7 harg7 arg8 harg8 b X2 X7 X8 n,
      ∀ x, p.2 x = blockOut q k v b ((p.1.emb x) 0) ((p.1.emb x) 1) := by
  unfold tripL_k0_t2 trip_k0_t2
  have h0 : n.val < 6 := lt_of_lt_of_eq n.isLt (by decide +kernel)
  intro p hp
  rw [List.mem_singleton] at hp
  subst hp
  intro x
  obtain ⟨r, e, rfl⟩ : ∃ (r : Fin 256) (e : Fin 128), x = ix2 r e := ⟨x 0, x 1, by funext a; fin_cases a <;> rfl⟩
  unfold trip_k0_t2.sl.r trip_k0_t2.sl.r_1 trip_k0_t2.sl.r_2 trip_k0_t2.sl.r_3 trip_k0_t2.sl.r_4
  refine (cell2 q k v b (n.val + 2) (by omega) (by omega) _ ![_, _, _, _] ![_, _, _, _] (fun r e => ?_) (fun g j e => ?_) (fun g j e => ?_) r e).trans ?_
  · refine (hq _).trans (congrArg q (funext fun a => Fin.ext ?_))
    fin_cases a
    · show k0_off3 n 0 + 1 * r.val = 256 * (n.val + 2) + r.val
      rw [k0_off3_eq n]
      show 256 * n.val + 512 + 1 * r.val = 256 * (n.val + 2) + r.val
      omega
    · show k0_off3 n 1 + 1 * e.val = e.val
      rw [k0_off3_eq n]
      show 0 + 1 * e.val = e.val
      omega
  · have hb := fun (g : Fin 4) (inb) => band_apply arg7 X7 k hk (off := k0_off4 n (BitVec.ofNat 32 (64 * g.val))) inb (256 * n.val + 64 * g.val + 512) (k0_off4_eq n g) j e
    have e1 : 256 * (n.val + 2) + 64 * g.val + j.val = 256 * n.val + 64 * g.val + 512 + j.val := by omega
    rw [e1]
    fin_cases g
    · exact hb 0 _
    · exact hb 1 _
    · exact hb 2 _
    · exact hb 3 _
  · have hb := fun (g : Fin 4) (inb) => band_apply arg8 X8 v hv (off := k0_off4 n (BitVec.ofNat 32 (64 * g.val))) inb (256 * n.val + 64 * g.val + 512) (k0_off4_eq n g) j e
    have e1 : 256 * (n.val + 2) + 64 * g.val + j.val = 256 * n.val + 64 * g.val + 512 + j.val := by omega
    rw [e1]
    fin_cases g
    · exact hb 0 _
    · exact hb 1 _
    · exact hb 2 _
    · exact hb 3 _
  · refine congrArg₂ (blockOut q k v b) (Fin.ext ?_) (Fin.ext ?_)
    · show 256 * (n.val + 2) + r.val = k0_off3 n 0 + 1 * r.val
      rw [k0_off3_eq n]
      show 256 * (n.val + 2) + r.val = 256 * n.val + 512 + 1 * r.val
      omega
    · show e.val = k0_off3 n 1 + 1 * e.val
      rw [k0_off3_eq n]
      show e.val = 0 + 1 * e.val
      omega
/-- What a trip of the first loop stores is the block's rows of that trip. -/
theorem trip1 (q k v : FVec Ideal S2048x128 .bf16)
    (hq : ∀ y, arg2.view.read (Elt Ideal) X2 y = q y)
    (hk : ∀ y : S2560x128.Idx, arg7.view.read (Elt Ideal) X7 y = slot k (y 0).val (y 1))
    (hv : ∀ y : S2560x128.Idx, arg8.view.read (Elt Ideal) X8 y = slot v (y 0).val (y 1)) (n : Fin k0_t1_loop.trips) :
    ∀ p ∈ tripL_k0_t1 Variants.none c none i arg2 harg2 arg3 harg3 arg4 harg4 arg5 harg5 arg6 harg6 arg7 harg7 arg8 harg8 b X2 X7 X8 n,
      ∀ x, p.2 x = blockOut q k v b ((p.1.emb x) 0) ((p.1.emb x) 1) := by
  unfold tripL_k0_t1 trip_k0_t1
  have h0 : n.val < 2 := lt_of_lt_of_eq n.isLt (by decide +kernel)
  intro p hp
  rw [List.mem_singleton] at hp
  subst hp
  intro x
  obtain ⟨r, e, rfl⟩ : ∃ (r : Fin 256) (e : Fin 128), x = ix2 r e := ⟨x 0, x 1, by funext a; fin_cases a <;> rfl⟩
  have harg : trip_k0_t1.sl.arg9 n = BitVec.ofNat 32 n.val := by
    have : ∀ n : Fin 2, Scf.iv 0#32 1#32 n.val = BitVec.ofNat 32 n.val := by decide +kernel
    exact this ⟨n.val, h0⟩
  rw [harg]
  unfold trip_k0_t1.sl.r trip_k0_t1.sl.r_1 trip_k0_t1.sl.r_2 trip_k0_t1.sl.r_3 trip_k0_t1.sl.r_4
  refine (cell1 q k v b ⟨n.val, h0⟩ _ ![_, _, _, _] ![_, _, _, _] (fun r e => ?_) (fun g j e => ?_) (fun g j e => ?_) r e).trans ?_
  · refine (hq _).trans (congrArg q (funext fun a => Fin.ext ?_))
    fin_cases a
    · show k0_off1 n 0 + 1 * r.val = 256 * n.val + r.val
      rw [k0_off1_eq n]
      show 256 * n.val + 1 * r.val = 256 * n.val + r.val
      omega
    · show k0_off1 n 1 + 1 * e.val = e.val
      rw [k0_off1_eq n]
      show 0 + 1 * e.val = e.val
      omega
  · have hb := fun (g : Fin 4) (inb) => band_apply arg7 X7 k hk (off := k0_off2 n (BitVec.ofNat 32 (64 * g.val))) inb (256 * n.val + 64 * g.val) (k0_off2_eq n g) j e
    fin_cases g
    · exact hb 0 _
    · exact hb 1 _
    · exact hb 2 _
    · exact hb 3 _
  · have hb := fun (g : Fin 4) (inb) => band_apply arg8 X8 v hv (off := k0_off2 n (BitVec.ofNat 32 (64 * g.val))) inb (256 * n.val + 64 * g.val) (k0_off2_eq n g) j e
    fin_cases g
    · exact hb 0 _
    · exact hb 1 _
    · exact hb 2 _
    · exact hb 3 _
  · refine congrArg₂ (blockOut q k v b) (Fin.ext ?_) (Fin.ext ?_)
    · show 256 * n.val + r.val = k0_off1 n 0 + 1 * r.val
      rw [k0_off1_eq n]
      show 256 * n.val + r.val = 256 * n.val + 1 * r.val
      omega
    · show e.val = k0_off1 n 1 + 1 * e.val
      rw [k0_off1_eq n]
      show e.val = 0 + 1 * e.val
      omega

/-- The rows a trip of the first loop stores. -/
theorem rows1 (n : Fin k0_t1_loop.trips) (y : S2048x128.Idx) (h : 256 * n.val ≤ (y 0).val ∧ (y 0).val < 256 * n.val + 256) :
    ∃ p ∈ tripL_k0_t1 Variants.none c none i arg2 harg2 arg3 harg3 arg4 harg4 arg5 harg5 arg6 harg6 arg7 harg7 arg8 harg8 b X2 X7 X8 n,
      y ∈ p.1.set := by
  unfold tripL_k0_t1 trip_k0_t1
  refine ⟨_, List.mem_singleton.mpr rfl, ?_⟩
  show y ∈ (Rect.unit (s := S2048x128) (k0_off1 n) S256x128.size (k0_off1_inb n)).set
  rw [Rect.mem_set_unit]
  intro a
  have hy : (y 1).val < 128 := (y 1).isLt
  fin_cases a
  · show k0_off1 n 0 ≤ (y 0).val ∧ (y 0).val < k0_off1 n 0 + 256
    rw [k0_off1_eq n]
    exact h
  · show k0_off1 n 1 ≤ (y 1).val ∧ (y 1).val < k0_off1 n 1 + 128
    rw [k0_off1_eq n]
    exact ⟨Nat.zero_le _, by show (y 1).val < 0 + 128; omega⟩

/-- What the first loop's trips before `n` store is the block's rows of those trips. -/
theorem pieces1 (q k v : FVec Ideal S2048x128 .bf16)
    (hq : ∀ y, arg2.view.read (Elt Ideal) X2 y = q y)
    (hk : ∀ y : S2560x128.Idx, arg7.view.read (Elt Ideal) X7 y = slot k (y 0).val (y 1))
    (hv : ∀ y : S2560x128.Idx, arg8.view.read (Elt Ideal) X8 y = slot v (y 0).val (y 1)) : ∀ n : ℕ, n ≤ k0_t1_loop.trips →
    (∀ p ∈ pb_k0_t1 Variants.none c none i arg2 harg2 arg3 harg3 arg4 harg4 arg5 harg5 arg6 harg6 arg7 harg7 arg8 harg8 b X2 X7 X8 n,
      ∀ x, p.2 x = blockOut q k v b ((p.1.emb x) 0) ((p.1.emb x) 1))
    ∧ ∀ y : S2048x128.Idx, 0 ≤ (y 0).val → (y 0).val < 256 * n + 0 →
        ∃ p ∈ pb_k0_t1 Variants.none c none i arg2 harg2 arg3 harg3 arg4 harg4 arg5 harg5 arg6 harg6 arg7 harg7 arg8 harg8 b X2 X7 X8 n,
          y ∈ p.1.set := by
  intro n
  induction n with
  | zero => exact fun _ => ⟨fun p hp => absurd hp List.not_mem_nil, fun y h1 h2 => by omega⟩
  | succ n ih =>
    intro hn
    obtain ⟨ih1, ih2⟩ := ih (by omega)
    have hs := pb_k0_t1_succ (F := Ideal) Variants.none c none i arg2 harg2 arg3 harg3 arg4 harg4 arg5 harg5 arg6 harg6 arg7 harg7 arg8 harg8 b X2 X7 X8 ⟨n, hn⟩
    refine ⟨fun p hp => ?_, fun y h1 h2 => ?_⟩
    · rw [hs] at hp
      rcases List.mem_append.mp hp with hp | hp
      · exact trip1 c i arg2 harg2 arg3 harg3 arg4 harg4 arg5 harg5 arg6 harg6 arg7 harg7 arg8 harg8 b X2 X7 X8 q k v hq hk hv ⟨n, hn⟩ p hp
      · exact ih1 p hp
    · rw [hs]
      by_cases h : (y 0).val < 256 * n + 0
      · obtain ⟨p, hp, hy⟩ := ih2 y h1 h
        exact ⟨p, List.mem_append_right _ hp, hy⟩
      · obtain ⟨p, hp, hy⟩ := rows1 c i arg2 harg2 arg3 harg3 arg4 harg4 arg5 harg5 arg6 harg6 arg7 harg7 arg8 harg8 b X2 X7 X8 ⟨n, hn⟩ y
          (by simp only; omega)
        exact ⟨p, List.mem_append_left _ hp, hy⟩

/-- The rows a trip of the second loop stores. -/
theorem rows2 (n : Fin k0_t2_loop.trips) (y : S2048x128.Idx) (h : 256 * n.val + 512 ≤ (y 0).val ∧ (y 0).val < 256 * n.val + 512 + 256) :
    ∃ p ∈ tripL_k0_t2 Variants.none c none i arg2 harg2 arg3 harg3 arg4 harg4 arg5 harg5 arg6 harg6 arg7 harg7 arg8 harg8 b X2 X7 X8 n,
      y ∈ p.1.set := by
  unfold tripL_k0_t2 trip_k0_t2
  refine ⟨_, List.mem_singleton.mpr rfl, ?_⟩
  show y ∈ (Rect.unit (s := S2048x128) (k0_off3 n) S256x128.size (k0_off3_inb n)).set
  rw [Rect.mem_set_unit]
  intro a
  have hy : (y 1).val < 128 := (y 1).isLt
  fin_cases a
  · show k0_off3 n 0 ≤ (y 0).val ∧ (y 0).val < k0_off3 n 0 + 256
    rw [k0_off3_eq n]
    exact h
  · show k0_off3 n 1 ≤ (y 1).val ∧ (y 1).val < k0_off3 n 1 + 128
    rw [k0_off3_eq n]
    exact ⟨Nat.zero_le _, by show (y 1).val < 0 + 128; omega⟩

/-- What the second loop's trips before `n` store is the block's rows of those trips. -/
theorem pieces2 (q k v : FVec Ideal S2048x128 .bf16)
    (hq : ∀ y, arg2.view.read (Elt Ideal) X2 y = q y)
    (hk : ∀ y : S2560x128.Idx, arg7.view.read (Elt Ideal) X7 y = slot k (y 0).val (y 1))
    (hv : ∀ y : S2560x128.Idx, arg8.view.read (Elt Ideal) X8 y = slot v (y 0).val (y 1)) : ∀ n : ℕ, n ≤ k0_t2_loop.trips →
    (∀ p ∈ pb_k0_t2 Variants.none c none i arg2 harg2 arg3 harg3 arg4 harg4 arg5 harg5 arg6 harg6 arg7 harg7 arg8 harg8 b X2 X7 X8 n,
      ∀ x, p.2 x = blockOut q k v b ((p.1.emb x) 0) ((p.1.emb x) 1))
    ∧ ∀ y : S2048x128.Idx, 512 ≤ (y 0).val → (y 0).val < 256 * n + 512 →
        ∃ p ∈ pb_k0_t2 Variants.none c none i arg2 harg2 arg3 harg3 arg4 harg4 arg5 harg5 arg6 harg6 arg7 harg7 arg8 harg8 b X2 X7 X8 n,
          y ∈ p.1.set := by
  intro n
  induction n with
  | zero => exact fun _ => ⟨fun p hp => absurd hp List.not_mem_nil, fun y h1 h2 => by omega⟩
  | succ n ih =>
    intro hn
    obtain ⟨ih1, ih2⟩ := ih (by omega)
    have hs := pb_k0_t2_succ (F := Ideal) Variants.none c none i arg2 harg2 arg3 harg3 arg4 harg4 arg5 harg5 arg6 harg6 arg7 harg7 arg8 harg8 b X2 X7 X8 ⟨n, hn⟩
    refine ⟨fun p hp => ?_, fun y h1 h2 => ?_⟩
    · rw [hs] at hp
      rcases List.mem_append.mp hp with hp | hp
      · exact trip2 c i arg2 harg2 arg3 harg3 arg4 harg4 arg5 harg5 arg6 harg6 arg7 harg7 arg8 harg8 b X2 X7 X8 q k v hq hk hv ⟨n, hn⟩ p hp
      · exact ih1 p hp
    · rw [hs]
      by_cases h : (y 0).val < 256 * n + 512
      · obtain ⟨p, hp, hy⟩ := ih2 y h1 h
        exact ⟨p, List.mem_append_right _ hp, hy⟩
      · obtain ⟨p, hp, hy⟩ := rows2 c i arg2 harg2 arg3 harg3 arg4 harg4 arg5 harg5 arg6 harg6 arg7 harg7 arg8 harg8 b X2 X7 X8 ⟨n, hn⟩ y
          (by simp only; omega)
        exact ⟨p, List.mem_append_left _ hp, hy⟩

end Trips

end Cert.KernelIdeal.Value
end
-- ==== Proof.AttentionPoint.lean ====
module

public import proofs.«01_k».proof.Proof.AttentionBlock
public import Idealize.ShloMosaic.Lib.Pipeline.Covers
public import Idealize.ShloMosaic.Lib.Pipeline.ReadBack
public import Idealize.ShloMosaic.Lib.WritesUnit
public import Idealize.ShloMosaic.Lib.VecWindow

/-!
# What a grid point of the attention kernel leaves

The scratches hold 512 zero rows and then the block of keys, or of values; the eight trips of the two
loops store all rows of the block of the result.
-/

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

/-- A scratch, after its two stores, holds the zero rows and then the block. -/
theorem scratch_apply (M : Memref sig .tc .vmem S2560x128 .bf16) (f : BufTy.Contents (Elt Ideal) M.view.ty) (x : FVec Ideal S2048x128 .bf16)
    (inb1 : ∀ a : Fin 2, (![512, 0] : Fin 2 → ℕ) a + S2048x128.size a ≤ S2560x128.size a)
    (inb2 : ∀ a : Fin 2, (![0, 0] : Fin 2 → ℕ) a + S512x128.size a ≤ S2560x128.size a)
    (w : FVec Ideal S2048x128 .bf16) (z : FVec Ideal S512x128 .bf16) (hw : ∀ y, w y = x y) (hz : ∀ y, z y = 0) (y : S2560x128.Idx) :
    M.view.read (Elt Ideal) (M.view.writes (Elt Ideal) f
        [⟨Rect.unit (s := S2560x128) ![512, 0] S2048x128.size inb1, w⟩, ⟨Rect.unit (s := S2560x128) ![0, 0] S512x128.size inb2, z⟩]) y
      = slot x (y 0).val (y 1) := by
  have hy0 : (y 0).val < 2560 := (y 0).isLt
  by_cases h : 512 ≤ (y 0).val
  · have h1 := View.read_writes_cons_unit_of_mem (off' := ![512, 0]) M.view f inb1 w
      [⟨Rect.unit (s := S2560x128) ![0, 0] S512x128.size inb2, z⟩] y (ix2 ⟨(y 0).val - 512, by omega⟩ (y 1)) rfl (fun a => by
        fin_cases a
        · show (y 0).val = 512 + ((y 0).val - 512); omega
        · show (y 1).val = 0 + (y 1).val; omega)
    rw [h1, hw]
    unfold slot
    rw [dif_pos (⟨h, hy0⟩ : 512 ≤ (y 0).val ∧ (y 0).val < 2560)]
  · have h1 := View.read_writes_cons_unit_of_not_mem (off' := ![512, 0]) M.view f inb1 w
      [⟨Rect.unit (s := S2560x128) ![0, 0] S512x128.size inb2, z⟩] y rfl 0 (Or.inl (by show (y 0).val < 512; omega))
    have h2 := View.read_writes_cons_unit_of_mem (off' := ![0, 0]) M.view f inb2 z
      [] y (ix2 ⟨(y 0).val, by omega⟩ (y 1)) rfl (fun a => by
        fin_cases a
        · show (y 0).val = 0 + (y 0).val; omega
        · show (y 1).val = 0 + (y 1).val; omega)
    rw [h1, h2, hz]
    unfold slot
    rw [dif_neg (fun h' : 512 ≤ (y 0).val ∧ (y 0).val < 2560 => h h'.1)]

variable (m : (ℓ : Loc nD τ sig) → Buf (Elt Ideal) ℓ)

/-- What grid point `t` leaves in its block of the result. -/
theorem point (c : Dev nD) (t : Fin cfg0.N) (y : S2048x128.Idx) :
    outsAt0 m c t y = blockOut (iblk m c 0 t) (iblk m c 1 t) (iblk m c 2 t) (iblk m c 3 t) (y 0) (y 1) := by
  unfold outsAt0
  frame_open
  rw [View.readAt_full, View.readAt_full, View.readAt_full, Memref.IsWhole.read_unread, Memref.IsWhole.read_unread, Memref.IsWhole.read_unread]
  have hw7 : ∀ y, k0_pay7 (iblk m c 1 t) y = iblk m c 1 t y := fun y => by
    obtain ⟨r, e, rfl⟩ : ∃ (r : Fin 2048) (e : Fin 128), y = ix2 r e := ⟨y 0, y 1, by funext a; fin_cases a <;> rfl⟩
    pointwise [k0_pay7]
  have hw8 : ∀ y, k0_pay8 (iblk m c 2 t) y = iblk m c 2 t y := fun y => by
    obtain ⟨r, e, rfl⟩ : ∃ (r : Fin 2048) (e : Fin 128), y = ix2 r e := ⟨y 0, y 1, by funext a; fin_cases a <;> rfl⟩
    pointwise [k0_pay8]
  have hz5 : ∀ y, k0_pay5 (F := Ideal) y = 0 := fun y => by pointwise [k0_pay5]
  have hz6 : ∀ y, k0_pay6 (F := Ideal) y = 0 := fun y => by pointwise [k0_pay6]
  have hq : ∀ y, View.read (Elt Ideal) (ms0_0 t).view ((hs0_0 t).unread (iblk m c 0 t)) y = iblk m c 0 t y :=
    fun y => by rw [Memref.IsWhole.read_unread]
  have hk := scratch_apply scM0_0 scM0_0.view.junk (iblk m c 1 t) inb_S2560x128_S2048x128_512_0 inb_S2560x128_S512x128_0_0 _ _ hw7 hz5
  have hv := scratch_apply scM0_1 scM0_1.view.junk (iblk m c 2 t) inb_S2560x128_S2048x128_512_0 inb_S2560x128_S512x128_0_0 _ _ hw8 hz6
  have P1 := pieces1 c (grid0.coords t) (ms0_0 t) (hs0_0 t) (ms0_1 t) (hs0_1 t) (ms0_2 t) (hs0_2 t) (ms0_3 t) (hs0_3 t) (ms0_4 t) (hs0_4 t)
    scM0_0 (Memref.isWhole_whole _) scM0_1 (Memref.isWhole_whole _) (iblk m c 3 t) _ _ _ (iblk m c 0 t) (iblk m c 1 t) (iblk m c 2 t) hq hk hv _ le_rfl
  have P2 := pieces2 c (grid0.coords t) (ms0_0 t) (hs0_0 t) (ms0_1 t) (hs0_1 t) (ms0_2 t) (hs0_2 t) (ms0_3 t) (hs0_3 t) (ms0_4 t) (hs0_4 t)
    scM0_0 (Memref.isWhole_whole _) scM0_1 (Memref.isWhole_whole _) (iblk m c 3 t) _ _ _ (iblk m c 0 t) (iblk m c 1 t) (iblk m c 2 t) hq hk hv _ le_rfl
  refine View.read_writes_apply_of_pieces (Val := Elt Ideal) VO0_4 VO0_4.junk (fun y => blockOut (iblk m c 0 t) (iblk m c 1 t) (iblk m c 2 t) (iblk m c 3 t) (y 0) (y 1)) _
    (fun p hp => ?_) y ?_
  · rcases List.mem_append.mp hp with hp | hp
    · exact P2.1 p hp
    · exact P1.1 p hp
  · have hy : (y 0).val < 2048 := (y 0).isLt
    have t1 : k0_t1_loop.trips = 2 := by decide +kernel
    have t2 : k0_t2_loop.trips = 6 := by decide +kernel
    by_cases h : (y 0).val < 512
    · obtain ⟨p, hp, hy⟩ := P1.2 y (Nat.zero_le _) (by omega)
      exact ⟨p, List.mem_append_right _ hp, hy⟩
    · obtain ⟨p, hp, hy⟩ := P2.2 y (by omega) (by omega)
      exact ⟨p, List.mem_append_left _ hp, hy⟩

end Cert.KernelIdeal.Value
end
-- ==== Proof.AttentionFinal.lean ====
module

public import proofs.«01_k».proof.Proof.AttentionPoint
public import proofs.«01_k».proof.Proof.Gen.ReferenceIdeal.Read
public import Idealize.ShloMosaic.Lib.Claim

/-!
# The attention kernel's result array

The grid has one point per sequence and pair of heads; together they write the whole result.
-/

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

/-- Row `r` of sequence `s`, 512 rows of zeros in front, at a column of the stacked queries, keys and values. -/
def padded (X : FVec Ideal S32768x6144 .bf16) (s : Fin 16) (r : ℕ) (col : Fin 6144) : EReal :=
  if h : 512 ≤ r ∧ r < 2560 then X (ix2 ⟨2048 * s.val + (r - 512), by omega⟩ col) else 0

/-- The score of key `j` of its band for query `r` of sequence `s` under head `h`; minus infinity before the sequence's start. -/
def scores (X : FVec Ideal S32768x6144 .bf16) (T : FVec Ideal S32x64x576 .f32) (s : Fin 16) (r : Fin 2048) (h : Fin 32) (j : Fin 576) : EReal :=
  if 512 ≤ 64 * (r.val / 64) + j.val then
    ∑ d : Fin 64, X (ix2 ⟨2048 * s.val + r.val, by omega⟩ ⟨64 * h.val + d.val, by omega⟩) * Ideal.ofBits FTy.bf16 0x3E00#16
        * padded X s (64 * (r.val / 64) + j.val) ⟨2048 + (64 * h.val + d.val), by omega⟩
      + T (ix3 h ⟨r.val % 64, by omega⟩ j)
  else ⊥

/-- Chunked attention: query `r` of sequence `s` under head `h`, at lane `d` of the head. -/
def attention (X : FVec Ideal S32768x6144 .bf16) (T : FVec Ideal S32x64x576 .f32) (s : Fin 16) (r : Fin 2048) (h : Fin 32) (d : Fin 64) : EReal :=
  soft (scores X T s r h) (fun j => padded X s (64 * (r.val / 64) + j.val) ⟨4096 + (64 * h.val + d.val), by omega⟩)

variable (m : (ℓ : Loc nD τ sig) → Buf (Elt Ideal) ℓ)

/-- The block of each window at grid point `t`: the sequence is `t / 16` and the pair of heads `t % 16`. -/
theorem idx : ∀ t : Fin cfg0.N, win0_0.index t = ![t.val / 16, t.val % 16] ∧ win0_1.index t = ![t.val / 16, 16 + t.val % 16]
    ∧ win0_2.index t = ![t.val / 16, 32 + t.val % 16] ∧ win0_3.index t = ![t.val % 16, 0, 0] ∧ win0_4.index t = ![t.val / 16, t.val % 16] :=
  (by decide +kernel : ∀ t : Fin grid0.N, _)

set_option maxHeartbeats 4000000 in
/-- The bias table the kernel reads is the reference's. -/
theorem table (c : Dev nD) : V m c main_v18 = Cert.ReferenceIdeal.Read.val_main_v30 (F := Ideal) (m ((c : Thread nD τ).loc main_arg1)) := by
  simp only [V, hostOps0, hostOps0_1, hostOps0_2, List.flatten_cons, List.flatten_nil, List.append_nil, List.cons_append, List.nil_append, StableHlo.TRef.binary, StableHlo.TRef.ternary, StableHlo.TRef.unary, StableHlo.TRef.toBuf, StableHlo.TRef.ofBuf, cast_eq]
  after_results_simp <;> rfl
theorem block_q (c : Dev nD) (t : Fin cfg0.N) (ht : t.val < 256) (r : Fin 2048) (e : Fin 128) :
    iblk m c 0 t (ix2 r e) = m ((c : Thread nD τ).loc main_arg0) (ix2 ⟨2048 * (t.val / 16) + r.val, by omega⟩ ⟨128 * (t.val % 16) + e.val, by omega⟩) := by
  blk_ext [iblk, V, idx t]

theorem block_k (c : Dev nD) (t : Fin cfg0.N) (ht : t.val < 256) (r : Fin 2048) (e : Fin 128) :
    iblk m c 1 t (ix2 r e) = m ((c : Thread nD τ).loc main_arg0) (ix2 ⟨2048 * (t.val / 16) + r.val, by omega⟩ ⟨2048 + (128 * (t.val % 16) + e.val), by omega⟩) := by
  blk_ext [iblk, V, idx t]

theorem block_v (c : Dev nD) (t : Fin cfg0.N) (ht : t.val < 256) (r : Fin 2048) (e : Fin 128) :
    iblk m c 2 t (ix2 r e) = m ((c : Thread nD τ).loc main_arg0) (ix2 ⟨2048 * (t.val / 16) + r.val, by omega⟩ ⟨4096 + (128 * (t.val % 16) + e.val), by omega⟩) := by
  blk_ext [iblk, V, idx t]

theorem block_bias (c : Dev nD) (t : Fin cfg0.N) (h : Fin 2) (i : Fin 64) (j : Fin 576) :
    iblk m c 3 t (ix3 h i j) = V m c main_v18 (ix3 ⟨2 * (t.val % 16) + h.val, by omega⟩ i j) := by
  blk_ext [iblk, idx t]

/-- A band row of a block is a band row of its sequence. -/
theorem slot_eq (X : FVec Ideal S32768x6144 .bf16) (x : FVec Ideal S2048x128 .bf16) (s : Fin 16) (e : Fin 128) (col : Fin 6144)
    (hx : ∀ r : Fin 2048, x (ix2 r e) = X (ix2 ⟨2048 * s.val + r.val, by omega⟩ col)) (r : ℕ) : slot x r e = padded X s r col := by
  unfold slot padded
  split
  · exact hx _
  · rfl

/-- A grid point's block is the attention of its sequence and heads. -/
theorem block_attention (c : Dev nD) (t : Fin cfg0.N) (ht : t.val < 256) (r : Fin 2048) (e : Fin 128) :
    blockOut (iblk m c 0 t) (iblk m c 1 t) (iblk m c 2 t) (iblk m c 3 t) r e
      = attention (m ((c : Thread nD τ).loc main_arg0)) (V m c main_v18) ⟨t.val / 16, by omega⟩ r
          ⟨2 * (t.val % 16) + e.val / 64, by omega⟩ ⟨e.val % 64, by omega⟩ := by
  unfold blockOut attention
  refine congrArg₂ soft (funext fun j => ?_) (funext fun j => ?_)
  · unfold score scores
    refine if_congr Iff.rfl (congrArg₂ (· + ·) (Finset.sum_congr rfl fun d _ => congrArg₂ (· * ·) (congrArg (· * _) ?_) ?_) ?_) rfl
    · refine (block_q m c t ht r _).trans (congrArg (fun y => m ((c : Thread nD τ).loc main_arg0) y) (congrArg₂ ix2 rfl (Fin.ext ?_)))
      show 128 * (t.val % 16) + (64 * (e.val / 64) + d.val) = 64 * (2 * (t.val % 16) + e.val / 64) + d.val
      omega
    · refine slot_eq _ _ ⟨t.val / 16, by omega⟩ _ _ (fun r => ?_) _
      refine (block_k m c t ht r _).trans (congrArg (fun y => m ((c : Thread nD τ).loc main_arg0) y) (congrArg₂ ix2 rfl (Fin.ext ?_)))
      show 2048 + (128 * (t.val % 16) + (64 * (e.val / 64) + d.val)) = 2048 + (64 * (2 * (t.val % 16) + e.val / 64) + d.val)
      omega
    · exact block_bias m c t _ _ _
  · refine slot_eq _ _ ⟨t.val / 16, by omega⟩ _ _ (fun r => ?_) _
    refine (block_v m c t ht r _).trans (congrArg (fun y => m ((c : Thread nD τ).loc main_arg0) y) (congrArg₂ ix2 rfl (Fin.ext ?_)))
    show 4096 + (128 * (t.val % 16) + e.val) = 4096 + (64 * (2 * (t.val % 16) + e.val / 64) + e.val % 64)
    omega

/-- The result array after the run is the chunked attention of the arguments. -/
theorem final (c : Dev nD) : (dats m 0 c).arrAt 4 cfg0.N = fun y : S32768x2048.Idx =>
    attention (m ((c : Thread nD τ).loc main_arg0)) (Cert.ReferenceIdeal.Read.val_main_v30 (F := Ideal) (m ((c : Thread nD τ).loc main_arg1)))
      ⟨(y 0).val / 2048, by have : (y 0).val < 32768 := (y 0).isLt; omega⟩ ⟨(y 0).val % 2048, by omega⟩
      ⟨(y 1).val / 64, by have : (y 1).val < 2048 := (y 1).isLt; omega⟩ ⟨(y 1).val % 64, by omega⟩ := by
  refine (dats m 0 c).arrAt_eq_of_covers 4 _ (by decide +kernel) fun t hf y => ?_
  have ht : t.val < 256 := lt_of_lt_of_eq t.isLt (by decide +kernel)
  have hy0 : (y 0).val < 2048 := (y 0).isLt
  have hy1 : (y 1).val < 128 := (y 1).isLt
  blk_simp
  rw [after0_4, point m c t y]
  have w := (idx t).2.2.2.2
  have w0 : win0_4.index t 0 = t.val / 16 := congrFun w 0
  have w1 : win0_4.index t 1 = t.val % 16 := congrFun w 1
  refine (block_attention m c t ht (y 0) (y 1)).trans ?_
  rw [table]
  congr 1
  · exact Fin.ext (by show t.val / 16 = (win0_4.index t 0 * 2048 + (y 0).val) / 2048; rw [w0]; omega)
  · exact Fin.ext (by show (y 0).val = (win0_4.index t 0 * 2048 + (y 0).val) % 2048; rw [w0]; omega)
  · exact Fin.ext (by show 2 * (t.val % 16) + (y 1).val / 64 = (win0_4.index t 1 * 128 + (y 1).val) / 64; rw [w1]; omega)
  · exact Fin.ext (by show (y 1).val % 64 = (win0_4.index t 1 * 128 + (y 1).val) % 64; rw [w1]; omega)

end Cert.KernelIdeal.Value
end
-- ==== Proof.AttentionReference.lean ====
module

public import proofs.«01_k».proof.Proof.AttentionFinal
public import Idealize.ShloMosaic.Lib.Pipeline.ValueKit

/-!
# The reference's attention at an index
-/

@[expose] public section

set_option maxRecDepth 16384

noncomputable section

open Idealize.ShloMosaic Idealize.ShloMosaic.TcCoe Idealize.SL.Sem

namespace Cert.ReferenceIdeal.Read

open Cert.ReferenceIdeal Cert.ReferenceIdeal.Gen

/-- The reference's gather of key slots: axis 1 of the padded array at the slot's index, the other axes whole. -/
theorem gather_band {α : Type} (x : S16x2560x32x64.Idx → α) (i : IVec S32x576x1 32) (s : Fin 16) (n : Fin 32) (j : Fin 576) (h : Fin 32) (d : Fin 64)
    (r : Fin 2560) (hr : (i (ix3 n j 0)).toInt.toNat = r.val) :
    Host.gather gather_S16x2560x32x64_S32x576x1_S16x32x576x32x64_034_1_n_n_1_2_1613264 x i (ix5 s n j h d) = x (ix4 s r h d) := by
  unfold Host.gather
  congr 1
  funext a
  refine Fin.ext ?_
  show GatherDims.start _ _ _ a + GatherDims.batchCoord _ _ a + GatherDims.offCoord _ _ a = _
  rw [GatherDims.batchCoord_eq_zero _ _ _ List.not_mem_nil]
  have kept : ∀ a : Fin 4, a ≠ 1 → GatherDims.start gather_S16x2560x32x64_S32x576x1_S16x32x576x32x64_034_1_n_n_1_2_1613264 (ix5 s n j h d) i a = 0 := by
    intro a ha
    unfold GatherDims.start
    exact dif_neg (fun h => ha (List.mem_singleton.mp h))
  have hs : GatherDims.sKept gather_S16x2560x32x64_S32x576x1_S16x32x576x32x64_034_1_n_n_1_2_1613264 = [0, 2, 3] := by decide +kernel
  have axis : ∀ (a : Fin 4) (k : ℕ) (hk : k < 3) (ha : a ∈ GatherDims.sKept gather_S16x2560x32x64_S32x576x1_S16x32x576x32x64_034_1_n_n_1_2_1613264), List.idxOf a [(0 : Fin 4), 2, 3] = k →
      GatherDims.offCoord gather_S16x2560x32x64_S32x576x1_S16x32x576x32x64_034_1_n_n_1_2_1613264 (ix5 s n j h d) a = (ix5 s n j h d (![(0 : Fin 5), 3, 4] ⟨k, hk⟩)).val := by
    intro a k hk ha e
    unfold GatherDims.offCoord
    rw [dif_pos ha]
    have key : ∀ (i : ℕ) (hi : i < [(0 : Fin 5), 3, 4].length), i = k →
        (ix5 s n j h d ([(0 : Fin 5), 3, 4][i]'hi)).val = (ix5 s n j h d (![(0 : Fin 5), 3, 4] ⟨k, hk⟩)).val := by
      intro i hi e
      subst e
      match i, hk with
      | 0, _ => rfl
      | 1, _ => rfl
      | 2, _ => rfl
    exact key _ _ (by rw [hs, e])
  match a with
  | ⟨0, h0⟩ => exact (congrArg₂ (fun p q : ℕ => p + 0 + q) (kept (0 : Fin 4) (by decide)) (axis (0 : Fin 4) 0 (by decide) (by rw [hs]; decide) (by decide))).trans (Nat.zero_add _)
  | ⟨1, h1⟩ =>
    rw [GatherDims.offCoord_eq_zero _ _ _ (fun h => ((GatherDims.mem_sKept _ _).mp h).1 (List.mem_singleton.mpr rfl))]
    have hm : (⟨1, h1⟩ : Fin 4) ∈ gather_S16x2560x32x64_S32x576x1_S16x32x576x32x64_034_1_n_n_1_2_1613264.startIndexMap := List.mem_singleton.mpr rfl
    unfold GatherDims.start
    rw [dif_pos hm]
    have hsi : GatherDims.siIdx gather_S16x2560x32x64_S32x576x1_S16x32x576x32x64_034_1_n_n_1_2_1613264 (ix5 s n j h d)
      ⟨List.idxOf (⟨1, h1⟩ : Fin 4) gather_S16x2560x32x64_S32x576x1_S16x32x576x32x64_034_1_n_n_1_2_1613264.startIndexMap, List.idxOf_lt_length_iff.2 hm⟩ = ix3 n j 0 := by
      funext b; refine Fin.ext ?_
      match b with
      | ⟨0, _⟩ => rfl
      | ⟨1, _⟩ => rfl
      | ⟨2, _⟩ => rfl
    refine (congrArg (fun z => min (i z).toInt.toNat (2560 - 1) + 0 + 0) hsi).trans ?_
    show min (i (ix3 n j 0)).toInt.toNat (2560 - 1) + 0 + 0 = r.val
    rw [hr]
    omega
  | ⟨2, h2⟩ => exact (congrArg₂ (fun p q : ℕ => p + 0 + q) (kept (2 : Fin 4) (by decide)) (axis (2 : Fin 4) 1 (by decide) (by rw [hs]; decide) (by decide))).trans (Nat.zero_add _)
  | ⟨3, h3⟩ => exact (congrArg₂ (fun p q : ℕ => p + 0 + q) (kept (3 : Fin 4) (by decide)) (axis (3 : Fin 4) 2 (by decide) (by rw [hs]; decide) (by decide))).trans (Nat.zero_add _)

/-- The slot of key `j` of chunk `n`'s band. -/
theorem slot_index (n : Fin 32) (j : Fin 576) : (val_main_v43 (F := Ideal) (ix3 n j 0)) = BitVec.ofNat 32 (64 * n.val + j.val) := by
  have h : ∀ n : Fin 32, ∀ j : Fin 576, Scalar.select (IntOp.cmpi CmpIPredicate.slt (IntOp.addi (IntOp.muli (BitVec.ofNat 32 n.val) 64#32) (BitVec.ofNat 32 j.val)) 0#32)
      (IntOp.addi (IntOp.addi (IntOp.muli (BitVec.ofNat 32 n.val) 64#32) (BitVec.ofNat 32 j.val)) 2560#32) (IntOp.addi (IntOp.muli (BitVec.ofNat 32 n.val) 64#32) (BitVec.ofNat 32 j.val))
      = BitVec.ofNat 32 (64 * n.val + j.val) := by decide +kernel
  rw [← h n j]
  rfl

/-- The padded keys at row `r` of sequence `s`, head `h`, lane `d`. -/
theorem pad_k (x0 : FVec Ideal S32768x6144 .bf16) (s : Fin 16) (r : Fin 2560) (h : Fin 32) (d : Fin 64) :
    val_main_v9 (F := Ideal) x0 (ix4 s r h d) = Cert.KernelIdeal.Value.padded x0 s r.val ⟨2048 + (64 * h.val + d.val), by omega⟩ := by
  pointwise [val_main_v9, val_main_v8, val_main_v3, val_main_v1, val_main_v0]
  unfold Cert.KernelIdeal.Value.padded
  by_cases hr : 512 ≤ r.val
  · rw [dif_pos ⟨hr, by omega⟩, dif_pos ⟨hr, r.isLt⟩]
    congr 1
    exact congrArg₂ ix2 (Fin.ext (by simp only; omega)) (Fin.ext (by simp only; omega))
  · rw [dif_neg (fun h => hr h.1), dif_neg (fun h => hr h.1)]
    show ((((0#32 : BitVec 32).toInt : ℤ) : ℝ) : EReal) = 0
    simp

/-- The padded values at row `r` of sequence `s`, head `h`, lane `d`. -/
theorem pad_v (x0 : FVec Ideal S32768x6144 .bf16) (s : Fin 16) (r : Fin 2560) (h : Fin 32) (d : Fin 64) :
    val_main_v11 (F := Ideal) x0 (ix4 s r h d) = Cert.KernelIdeal.Value.padded x0 s r.val ⟨4096 + (64 * h.val + d.val), by omega⟩ := by
  pointwise [val_main_v11, val_main_v10, val_main_v4, val_main_v1, val_main_v0]
  unfold Cert.KernelIdeal.Value.padded
  by_cases hr : 512 ≤ r.val
  · rw [dif_pos ⟨hr, by omega⟩, dif_pos ⟨hr, r.isLt⟩]
    congr 1
    exact congrArg₂ ix2 (Fin.ext (by simp only; omega)) (Fin.ext (by simp only; omega))
  · rw [dif_neg (fun h => hr h.1), dif_neg (fun h => hr h.1)]
    show ((((0#32 : BitVec 32).toInt : ℤ) : ℝ) : EReal) = 0
    simp

/-- A slot's word as a natural number. -/
theorem slot_nat (n : Fin 32) (j : Fin 576) : (BitVec.ofNat 32 (64 * n.val + j.val)).toInt.toNat = 64 * n.val + j.val := by
  rw [BitVec.toInt_eq_toNat_of_lt (by rw [BitVec.toNat_ofNat]; omega), BitVec.toNat_ofNat, Int.toNat_natCast]
  omega

/-- Key `j` of chunk `n`'s band. -/
theorem band_k (x0 : FVec Ideal S32768x6144 .bf16) (s : Fin 16) (n : Fin 32) (j : Fin 576) (h : Fin 32) (d : Fin 64) :
    val_main_v44 (F := Ideal) x0 (ix5 s n j h d) = Cert.KernelIdeal.Value.padded x0 s (64 * n.val + j.val) ⟨2048 + (64 * h.val + d.val), by omega⟩ := by
  unfold val_main_v44
  exact (gather_band _ _ s n j h d ⟨64 * n.val + j.val, by omega⟩ (by rw [slot_index, slot_nat])).trans (pad_k x0 s _ h d)

/-- Value `j` of chunk `n`'s band. -/
theorem band_v (x0 : FVec Ideal S32768x6144 .bf16) (s : Fin 16) (n : Fin 32) (j : Fin 576) (h : Fin 32) (d : Fin 64) :
    val_main_v51 (F := Ideal) x0 (ix5 s n j h d) = Cert.KernelIdeal.Value.padded x0 s (64 * n.val + j.val) ⟨4096 + (64 * h.val + d.val), by omega⟩ := by
  unfold val_main_v51
  exact (gather_band _ _ s n j h d ⟨64 * n.val + j.val, by omega⟩ (by
    have e : val_main_v50 (F := Ideal) (ix3 n j 0) = val_main_v43 (F := Ideal) (ix3 n j 0) := rfl
    rw [e, slot_index, slot_nat])).trans (pad_v x0 s _ h d)

/-- Whether key `j` of chunk `n`'s band lies in the sequence. -/
theorem valid (n : Fin 32) (j : Fin 576) : val_main_v61 (F := Ideal) (ix4 n 0 0 j) = if 512 ≤ 64 * n.val + j.val then 1#1 else 0#1 := by
  have h : ∀ n : Fin 32, ∀ j : Fin 576, IntOp.cmpi CmpIPredicate.sge (IntOp.subi (IntOp.addi (IntOp.muli (BitVec.ofNat 32 n.val) 64#32) (BitVec.ofNat 32 j.val)) 512#32) 0#32
      = if 512 ≤ 64 * n.val + j.val then 1#1 else 0#1 := by decide +kernel
  rw [← h n j]
  rfl

/-- The reference's scale and the kernel's are one eighth. -/
theorem eighth_f32 : Ideal.ofBits FTy.f32 0x3E000000#32 = (((1 : ℝ) / 8 : ℝ) : EReal) := by
  simp [Ideal.ofBits, Ideal.ieee, -EReal.coe_mul]; norm_num

theorem eighth_bf16 : Ideal.ofBits FTy.bf16 0x3E00#16 = (((1 : ℝ) / 8 : ℝ) : EReal) := by
  simp [Ideal.ofBits, Ideal.ieee, -EReal.coe_mul]; norm_num

/-- The masked score of query `64 n + q` under head `h` at key `j` of its band. -/
theorem score_apply (x0 : FVec Ideal S32768x6144 .bf16) (x1 : FVec Ideal S32x320 .f32) (s : Fin 16) (n h : Fin 32) (q : Fin 64) (j : Fin 576) (r : Fin 2048)
    (hr : r.val = 64 * n.val + q.val) :
    val_main_v62 (F := Ideal) x0 x1 (ix5 s n h q j) = Cert.KernelIdeal.Value.scores x0 (val_main_v30 (F := Ideal) x1) s r h j := by
  have hv : val_main_call3_v1 (F := Ideal) (ix5 s n h q j) = val_main_v61 (F := Ideal) (ix4 n 0 0 j) := by
    rfl
  rw [val_main_v62_apply, hv, valid]
  unfold Cert.KernelIdeal.Value.scores
  have e1 : r.val / 64 = n.val := by omega
  have e2 : (⟨r.val % 64, by omega⟩ : Fin 64) = q := Fin.ext (by simp only; omega)
  simp only [e1, e2]
  by_cases hn : 512 ≤ 64 * n.val + j.val
  · rw [if_pos hn, if_pos hn]
    refine Eq.trans (b := val_main_v56 (F := Ideal) x0 x1 (ix5 s n h q j)) rfl ?_
    rw [val_main_v56_apply, val_main_v53_apply]
    have hb : ∀ k, val_main_v44 (F := Ideal) x0 (ridx_main_v53 (ix5 s n h q j) k) = Cert.KernelIdeal.Value.padded x0 s (64 * n.val + j.val) ⟨2048 + (64 * h.val + k.val), by omega⟩ := by
      intro k
      refine (congrArg (val_main_v44 (F := Ideal) x0) ?_).trans (band_k x0 s n j h k)
      funext a; exact Fin.ext (by fin_cases a <;> rfl)
    have hq : ∀ k, val_main_v52 (F := Ideal) x0 (lidx_main_v53 (ix5 s n h q j) k) = x0 (ix2 ⟨2048 * s.val + r.val, by omega⟩ ⟨64 * h.val + k.val, by omega⟩) * Ideal.ofBits FTy.bf16 0x3E00#16 := by
      intro k
      have e : lidx_main_v53 (ix5 s n h q j) k = ix5 s n q h k := by
        funext a; exact Fin.ext (by fin_cases a <;> rfl)
      rw [e, eighth_bf16, ← eighth_f32]
      pointwise [val_main_v52, val_main_v7, val_main_v5, val_main_v2, val_main_v1, val_main_v0, val_main_v6]
      have e3 : (ix2 (⟨s.val * 2048 + (n.val * 64 + q.val), by omega⟩ : Fin 32768) (⟨h.val * 64 + k.val, by omega⟩ : Fin 6144))
          = ix2 ⟨2048 * s.val + r.val, by omega⟩ ⟨64 * h.val + k.val, by omega⟩ :=
        congrArg₂ ix2 (Fin.ext (by simp only; omega)) (Fin.ext (by simp only; omega))
      exact congrArg (fun z => x0 z * Ideal.ofBits FTy.f32 0x3E000000#32) e3
    have hc : val_main_v55 (F := Ideal) x1 (ix5 s n h q j) = val_main_v30 (F := Ideal) x1 (ix3 h q j) := by
      rw [val_main_v55_apply, val_main_v54_apply]
      congr 1
      funext a; exact Fin.ext (by fin_cases a <;> rfl)
    rw [hc]
    simp only [hb, hq]
    rfl
  · rw [if_neg hn, if_neg hn]
    refine Eq.trans (b := val_main_call3_v2 (F := Ideal) (ix5 s n h q j)) rfl ?_
    exact Cert.KernelIdeal.Value.neg_inf

/-- The greatest score of a query. -/
theorem max_apply (x0 : FVec Ideal S32768x6144 .bf16) (x1 : FVec Ideal S32x320 .f32) (s : Fin 16) (n h : Fin 32) (q : Fin 64) (r : Fin 2048)
    (hr : r.val = 64 * n.val + q.val) :
    val_main_v65 (F := Ideal) x0 x1 (ix4 s n h q)
      = Finset.univ.fold max ⊥ (Cert.KernelIdeal.Value.scores x0 (val_main_v30 (F := Ideal) x1) s r h) := by
  rw [val_main_v65_apply]
  unfold val_main_v63
  have e := fun j => score_apply x0 x1 s n h q j r hr
  generalize val_main_v62 (F := Ideal) x0 x1 = z at e ⊢
  generalize Cert.KernelIdeal.Value.scores x0 (val_main_v30 (F := Ideal) x1) s r h = w at e ⊢
  pointwise []
  have c1 : val_main_cst_15 (F := Ideal) (Shape.Idx.first h_S_) = (⊥ : EReal) := Cert.KernelIdeal.Value.neg_inf
  have c2 : val_main_v64 (F := Ideal) (ix4 s n h q) = (⊥ : EReal) := Cert.KernelIdeal.Value.neg_inf
  rw [c1, c2]
  simp only [e]
  exact max_eq_right bot_le

/-- The reference's result. -/
theorem result_apply (x0 : FVec Ideal S32768x6144 .bf16) (x1 : FVec Ideal S32x320 .f32) (s : Fin 16) (n h : Fin 32) (q d : Fin 64) (r : Fin 2048)
    (hr : r.val = 64 * n.val + q.val) :
    val_main_v74 (F := Ideal) x0 x1 (ix5 s n h d q) = ∑ j, Cert.KernelIdeal.Value.padded x0 s (64 * n.val + j.val) ⟨4096 + (64 * h.val + d.val), by omega⟩
      * Ideal.div (Ideal.exp (Cert.KernelIdeal.Value.scores x0 (val_main_v30 (F := Ideal) x1) s r h j
            - Finset.univ.fold max ⊥ (Cert.KernelIdeal.Value.scores x0 (val_main_v30 (F := Ideal) x1) s r h)))
          (∑ k, Ideal.exp (Cert.KernelIdeal.Value.scores x0 (val_main_v30 (F := Ideal) x1) s r h k
            - Finset.univ.fold max ⊥ (Cert.KernelIdeal.Value.scores x0 (val_main_v30 (F := Ideal) x1) s r h))) := by
  have hx : ∀ j, val_main_v69 (F := Ideal) x0 x1 (ix5 s n h q j) = Ideal.exp (Cert.KernelIdeal.Value.scores x0 (val_main_v30 (F := Ideal) x1) s r h j
            - Finset.univ.fold max ⊥ (Cert.KernelIdeal.Value.scores x0 (val_main_v30 (F := Ideal) x1) s r h)) := by
    intro j
    rw [val_main_v69_apply, val_main_v68_apply, val_main_v67_apply, val_main_v66_apply, score_apply x0 x1 s n h q j r hr]
    have e : idx_main_v66 (idx_main_v67 (ix5 s n h q j)) = ix4 s n h q := by
      funext a; exact Fin.ext (by fin_cases a <;> rfl)
    rw [e, max_apply x0 x1 s n h q r hr]
    rfl
  rw [val_main_v74_apply]
  refine Finset.sum_congr rfl fun j _ => ?_
  have e1 : lidx_main_v74 (ix5 s n h d q) j = ix5 s n j h d := by
    funext a; exact Fin.ext (by fin_cases a <;> rfl)
  have e2 : ridx_main_v74 (ix5 s n h d q) j = ix5 s n h q j := by
    funext a; exact Fin.ext (by fin_cases a <;> rfl)
  rw [e1, e2, band_v, val_main_v73_apply, hx, val_main_v72_apply, val_main_v71_apply, val_main_v70_apply]
  have e3 : ∀ k, idx_main_v70 (idx_main_v71 (idx_main_v72 (ix5 s n h q j))) k = ix5 s n h q k := by
    intro k
    funext a; exact Fin.ext (by fin_cases a <;> rfl)
  simp only [e3, hx]
  have e4 : val_main_cst_17 (F := Ideal) (Shape.Idx.first h_S_) = 0 := by
    show Ideal.ofBits FTy.f32 0#32 = 0
    simp [Ideal.ofBits, Ideal.ieee]
  rw [e4, zero_add]
  rfl

end Cert.ReferenceIdeal.Read
end
-- ==== Proof.Softmax.lean ====
module

public import proofs.«01_k».proof.Proof.AttentionPay

/-!
# Softmax over real and masked scores

Weights divided before the weighted sum and after it agree where every score is a real number or
minus infinity, one at least is real, and every value is real.
-/

@[expose] public section

noncomputable section

open Idealize.ShloMosaic

namespace Cert.KernelIdeal.Value

/-- An extended real that is a real number. -/
def IsReal (x : EReal) : Prop := ∃ r : ℝ, x = (r : EReal)

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem coe_sum {ι : Type} (S : Finset ι) (f : ι → ℝ) : (∑ i ∈ S, ((f i : ℝ) : EReal)) = ((∑ i ∈ S, f i : ℝ) : EReal) := by
  classical
  induction S using Finset.induction_on with
  | empty => simp
  | insert a S ha ih => rw [Finset.sum_insert ha, Finset.sum_insert ha, ih, EReal.coe_add]

theorem IsReal.sum {ι : Type} (S : Finset ι) (f : ι → EReal) (h : ∀ i, IsReal (f i)) : IsReal (∑ i ∈ S, f i) := by
  choose g hg using h
  refine ⟨∑ i ∈ S, g i, ?_⟩
  rw [← coe_sum]
  exact Finset.sum_congr rfl fun i _ => hg i

/-- The greatest of masked scores, one of them real, is real. -/
theorem max_real {n : ℕ} (s : Fin n → EReal) (h : ∀ j, IsReal (s j) ∨ s j = ⊥) (j₀ : Fin n) (h₀ : IsReal (s j₀)) :
    IsReal (Finset.univ.fold max ⊥ s) := by
  have hS : ∀ S : Finset (Fin n), IsReal (S.fold max ⊥ s) ∨ (S.fold max ⊥ s = ⊥ ∧ ∀ j ∈ S, s j = ⊥) := by
    intro S
    classical
    induction S using Finset.induction_on with
    | empty => exact Or.inr ⟨Finset.fold_empty, fun j hj => absurd hj (Finset.notMem_empty j)⟩
    | insert a S ha ih =>
      rw [Finset.fold_insert ha]
      rcases h a with hr | hb
      · rcases ih with ih | ⟨ih, _⟩
        · rcases max_choice (s a) (S.fold max ⊥ s) with e | e
          · exact Or.inl (by rw [e]; exact hr)
          · exact Or.inl (by rw [e]; exact ih)
        · exact Or.inl (by rw [ih, max_eq_left bot_le]; exact hr)
      · rw [hb, max_eq_right bot_le]
        rcases ih with ih | ⟨ih, hall⟩
        · exact Or.inl ih
        · refine Or.inr ⟨ih, fun j hj => ?_⟩
          rcases Finset.mem_insert.mp hj with e | e
          · rw [e]; exact hb
          · exact hall j e
  rcases hS Finset.univ with hr | ⟨_, hall⟩
  · exact hr
  · obtain ⟨r, hr⟩ := h₀
    rw [hall j₀ (Finset.mem_univ _)] at hr
    exact absurd hr (EReal.bot_ne_coe r)

/-- A softmax divides before its weighted sum or after it. -/
theorem soft_eq (s v : Fin 576 → EReal) (h : ∀ j, IsReal (s j) ∨ s j = ⊥) (j₀ : Fin 576) (h₀ : IsReal (s j₀)) (hv : ∀ j, IsReal (v j)) :
    soft s v = ∑ j, v j * Ideal.div (Ideal.exp (s j - Finset.univ.fold max ⊥ s)) (∑ k, Ideal.exp (s k - Finset.univ.fold max ⊥ s)) := by
  obtain ⟨M, hM⟩ := max_real s h j₀ h₀
  unfold soft
  rw [hM]
  have hp : ∀ j, ∃ p : ℝ, 0 ≤ p ∧ Ideal.exp (s j - (M : EReal)) = (p : EReal) := by
    intro j
    rcases h j with ⟨a, ha⟩ | hb
    · refine ⟨Real.exp (a - M), (Real.exp_pos _).le, ?_⟩
      rw [ha, ← EReal.coe_sub]
      rfl
    · refine ⟨0, le_refl _, ?_⟩
      rw [hb, EReal.bot_sub]
      rfl
  choose p hp0 hpe using hp
  choose w hw using hv
  have hpos : 0 < ∑ j, p j := by
    refine Finset.sum_pos' (fun j _ => hp0 j) ⟨j₀, Finset.mem_univ _, ?_⟩
    obtain ⟨a, ha⟩ := h₀
    have : Ideal.exp (s j₀ - (M : EReal)) = ((Real.exp (a - M) : ℝ) : EReal) := by
      rw [ha, ← EReal.coe_sub]
      rfl
    rw [hpe j₀] at this
    rw [EReal.coe_eq_coe_iff.mp this]
    exact Real.exp_pos _
  simp only [hpe, hw]
  rw [coe_sum]
  simp only [Ideal.div_coe hpos.ne', ← EReal.coe_mul]
  rw [coe_sum, coe_sum, ← EReal.coe_mul, Finset.sum_mul]
  congr 1
  exact Finset.sum_congr rfl fun j _ => by ring

end Cert.KernelIdeal.Value

end
-- ==== Proof.AttentionClaims.lean ====
module

public import proofs.«01_k».proof.Defs
public import proofs.«01_k».proof.Proof.AttentionReference
public import proofs.«01_k».proof.Proof.Softmax
public import proofs.«01_k».proof.Proof.Gen.Kernel.Frame
public import Idealize.ShloMosaic.Lib.Quiescent
public import Idealize.ShloMosaic.Lib.ReduceAll

/-!
# The attention's claims

The kernel runs as printed and idealized, the reference runs, and where the arguments are finite the
idealized kernel and the reference end with equal results.
-/

@[expose] public section

set_option maxRecDepth 16384

noncomputable section

namespace Cert.AttentionClaims

open Idealize.ShloMosaic Idealize.SL.Sem
open Cert.KernelIdeal.Value (IsReal padded scores attention soft_eq)

/-- The shape facts the precondition takes. -/
instance finiteFacts : Cert.Pre_finite.Facts where
  bitsLt_bf16_f32 := by decide
  bcast_S_S32768x6144 := by decide
  reducesTo_S32768x6144_S_d0_1 := by decide
  h_S_ := by decide
  bcast_S_S32x320 := by decide
  reducesTo_S32x320_S_d0_1 := by decide

/-- An extended real whose absolute value is less than infinity is a real number. -/
theorem isReal_of_lt (x : EReal) (h : FloatOps.cmpf (F := Ideal) (φ := .f32) .olt (FloatOps.hostAbsf (F := Ideal) (φ := .f32) x) (Ideal.ofBits .f32 0x7F800000#32) = 1#1) : IsReal x := by
  have ht : Ideal.ofBits FTy.f32 0x7F800000#32 = (⊤ : EReal) := by simp [Ideal.ofBits, Ideal.ieee]
  rw [ht] at h
  induction x using EReal.rec with
  | bot => exact absurd h (by simp [FloatOps.cmpf, FloatOps.hostAbsf, Ideal.cmp])
  | top => exact absurd h (by simp [FloatOps.cmpf, FloatOps.hostAbsf, Ideal.cmp])
  | coe r => exact ⟨r, rfl⟩

/-- Under the precondition every element of either argument is a real number. -/
theorem finite_args (X : FVec Ideal Cert.Pre_finite.S32768x6144 .bf16) (B : FVec Ideal Cert.Pre_finite.S32x320 .f32)
    (h : Cert.Pre_finite.fn (F := Ideal) X B = fun _ => 1#1) : (∀ i, IsReal (X i)) ∧ (∀ i, IsReal (B i)) := by
  have h0 := congrFun h ix0
  obtain ⟨hX, hB⟩ := IntOp.andi_eq_one.1 h0
  haveI : Subsingleton Cert.Pre_finite.S_.Idx := ⟨fun a b => funext fun i => i.elim0⟩
  exact ⟨fun i => isReal_of_lt _ (Host.reduce_andi_all _ _ _ _ _ hX i), fun i => isReal_of_lt _ (Host.reduce_andi_all _ _ _ _ _ hB i)⟩

/-- A padded row holds real numbers. -/
theorem padded_real (X : FVec Ideal Cert.KernelIdeal.S32768x6144 .bf16) (hX : ∀ i, IsReal (X i)) (s : Fin 16) (r : ℕ) (col : Fin 6144) :
    IsReal (padded X s r col) := by
  unfold padded
  split
  · exact hX _
  · exact ⟨0, rfl⟩

/-- A score is a real number inside the sequence and minus infinity before its start. -/
theorem scores_real (X : FVec Ideal Cert.KernelIdeal.S32768x6144 .bf16) (T : FVec Ideal Cert.KernelIdeal.S32x64x576 .f32)
    (hX : ∀ i, IsReal (X i)) (hT : ∀ i, IsReal (T i)) (s : Fin 16) (r : Fin 2048) (h : Fin 32) (j : Fin 576) :
    IsReal (scores X T s r h j) ∨ scores X T s r h j = ⊥ := by
  unfold scores
  split
  · refine Or.inl (IsReal.add (IsReal.sum _ _ fun d => IsReal.mul (IsReal.mul (hX _) ⟨_, Cert.ReferenceIdeal.Read.eighth_bf16⟩) (padded_real X hX _ _ _)) (hT _))
  · exact Or.inr rfl

/-- The last key of a band is inside the sequence. -/
theorem scores_last (X : FVec Ideal Cert.KernelIdeal.S32768x6144 .bf16) (T : FVec Ideal Cert.KernelIdeal.S32x64x576 .f32)
    (hX : ∀ i, IsReal (X i)) (hT : ∀ i, IsReal (T i)) (s : Fin 16) (r : Fin 2048) (h : Fin 32) :
    IsReal (scores X T s r h ⟨575, by decide⟩) := by
  unfold scores
  rw [if_pos (by show 512 ≤ 64 * (r.val / 64) + 575; omega)]
  exact IsReal.add (IsReal.sum _ _ fun d => IsReal.mul (IsReal.mul (hX _) ⟨_, Cert.ReferenceIdeal.Read.eighth_bf16⟩) (padded_real X hX _ _ _)) (hT _)

/-- The kernel's attention and the reference's agree on finite arguments. -/
theorem attention_eq (X : FVec Ideal Cert.ReferenceIdeal.S32768x6144 .bf16) (B : FVec Ideal Cert.ReferenceIdeal.S32x320 .f32)
    (hX : ∀ i, IsReal (X i)) (hB : ∀ i, IsReal (B i)) (y : Cert.ReferenceIdeal.S32768x2048.Idx) :
    attention X (Cert.ReferenceIdeal.Read.val_main_v30 (F := Ideal) B) ⟨(y 0).val / 2048, by have h : (y 0).val < 32768 := (y 0).isLt; omega⟩
        ⟨(y 0).val % 2048, by omega⟩ ⟨(y 1).val / 64, by have h : (y 1).val < 2048 := (y 1).isLt; omega⟩ ⟨(y 1).val % 64, by omega⟩
      = Cert.ReferenceIdeal.Read.val_main_v77 (F := Ideal) X B y := by
  have hT : ∀ i, IsReal (Cert.ReferenceIdeal.Read.val_main_v30 (F := Ideal) B i) := by
    intro i
    unfold Cert.ReferenceIdeal.Read.val_main_v30 Host.gather
    exact hB _
  have hy0 : (y 0).val < 32768 := (y 0).isLt
  have hy1 : (y 1).val < 2048 := (y 1).isLt
  have e : Cert.ReferenceIdeal.Read.idx_main_v75 (Cert.ReferenceIdeal.Read.idx_main_v76 y)
      = ix5 (⟨(y 0).val / 2048, by omega⟩ : Fin 16) (⟨(y 0).val % 2048 / 64, by omega⟩ : Fin 32) (⟨(y 1).val / 64, by omega⟩ : Fin 32)
        (⟨(y 1).val % 64, by omega⟩ : Fin 64) (⟨(y 0).val % 2048 % 64, by omega⟩ : Fin 64) := by
    funext a
    refine Fin.ext ?_
    fin_cases a
    · show ((y 0).val * 2048 + (y 1).val) / 4194304 = (y 0).val / 2048; omega
    · show ((y 0).val * 2048 + (y 1).val) / 131072 % 32 = (y 0).val % 2048 / 64; omega
    · show ((y 0).val * 2048 + (y 1).val) / 64 % 32 = (y 1).val / 64; omega
    · show ((y 0).val * 2048 + (y 1).val) % 64 = (y 1).val % 64; omega
    · show ((y 0).val * 2048 + (y 1).val) / 2048 % 64 = (y 0).val % 2048 % 64; omega
  have hr : Cert.ReferenceIdeal.Read.val_main_v77 (F := Ideal) X B y = Cert.ReferenceIdeal.Read.val_main_v74 (F := Ideal) X B
      (Cert.ReferenceIdeal.Read.idx_main_v75 (Cert.ReferenceIdeal.Read.idx_main_v76 y)) := by
    rw [← Cert.ReferenceIdeal.Read.val_main_v75_apply, ← Cert.ReferenceIdeal.Read.val_main_v76_apply]
    rfl
  rw [hr, e, Cert.ReferenceIdeal.Read.result_apply X B _ _ _ _ _ ⟨(y 0).val % 2048, by omega⟩ (by show (y 0).val % 2048 = 64 * ((y 0).val % 2048 / 64) + (y 0).val % 2048 % 64; omega)]
  unfold attention
  exact soft_eq _ _ (scores_real X _ hX hT _ _ _) ⟨575, by decide⟩ (scores_last X _ hX hT _ _ _) (fun j => padded_real X hX _ _ _)

/-- The attention kernel, as printed, runs and leaves its arguments and the semaphores as they were. -/
theorem kernel : quiescent_Kernel (hKernel := Cert.Kernel.Gen.facts) :=
  fun m g _ => Cert.Kernel.Gen.frame m g

/-- The idealized attention kernel runs and leaves its arguments and the semaphores as they were. -/
theorem kernelIdeal : quiescent_KernelIdeal (hKernelIdeal := Cert.KernelIdeal.Gen.facts) :=
  fun m g _ => Cert.KernelIdeal.Gen.frame m g

/-- So it does under the precondition. -/
theorem kernelIdeal_pre : quiescent_KernelIdeal_pre_finite (hKernelIdeal := Cert.KernelIdeal.Gen.facts) :=
  fun m g _ => Cert.KernelIdeal.Gen.frame m g

/-- The reference runs and leaves its arguments and the semaphores as they were. -/
theorem referenceIdeal : quiescent_ReferenceIdeal (hReferenceIdeal := Cert.ReferenceIdeal.Gen.facts) :=
  fun m g _ => (θ_run Cert.ReferenceIdeal.defs _ _).mono
    (fun r h => ⟨fun c => (h c).2, sem_eq_zero_of_no_sems (by decide) r.2⟩)
    (Cert.ReferenceIdeal.Value.run (F := Ideal) m g)

/-- So it does under the precondition. -/
theorem referenceIdeal_pre : quiescent_ReferenceIdeal_pre_finite (hReferenceIdeal := Cert.ReferenceIdeal.Gen.facts) :=
  fun m g _ => referenceIdeal m g trivial

/-- On finite arguments the idealized attention kernel and the reference end with the same array. -/
theorem algebraic : algebraic_KernelIdeal_ReferenceIdeal_pre_finite (hKernelIdeal := Cert.KernelIdeal.Gen.facts)
    (hReferenceIdeal := Cert.ReferenceIdeal.Gen.facts) := by
  intro m g m' g' hpre hag
  refine ⟨fun c => Cert.ReferenceIdeal.Read.val_main_v77 (F := Ideal) (m ((c.tc : Thread _ _).loc Cert.KernelIdeal.main_arg0))
    (m ((c.tc : Thread _ _).loc Cert.KernelIdeal.main_arg1)), ?_, ?_⟩
  · refine (θ_run Cert.KernelIdeal.defs _ _).mono
      (fun r h c => ⟨((h c).1).trans ((Cert.KernelIdeal.Value.final m c).trans ?_), (h c).2⟩)
      (Cert.KernelIdeal.Value.run_blocks (F := Ideal) m g)
    obtain ⟨hX, hB⟩ := finite_args _ _ (hpre c)
    funext y
    exact attention_eq _ _ hX hB y
  · refine (θ_run Cert.ReferenceIdeal.defs _ _).mono (fun r h c => ⟨((h c).1).trans ?_, (h c).2⟩)
      (Cert.ReferenceIdeal.Value.run (F := Ideal) m' g')
    rw [Cert.ReferenceIdeal.Read.val_main_v77_eq m' c, (hag c).1, (hag c).2]

end Cert.AttentionClaims

end
-- ==== Proof.Projection.lean ====
module

public import proofs.«01_k».proof.Proof.Gen.Kernel2Ideal.Value
public import proofs.«01_k».proof.Proof.Gen.Reference2Ideal.Run
public import Idealize.ShloMosaic.Lib.Pipeline.ValueKit
public import Idealize.ShloMosaic.Lib.Pipeline.Covers
public import Idealize.ShloMosaic.Lib.Pipeline.ReadBack

/-!
# The projection

The kernel multiplies a block of rows of the activations by a block of columns of the weights; the
block of weights is copied to a scratch at the first row block of each column block and read from
there at the others. The result is the plain product.
-/

@[expose] public section

set_option maxRecDepth 16384

noncomputable section

open Idealize.ShloMosaic Idealize.ShloMosaic.TcCoe Idealize.SL.Sem
open Idealize.ShloMosaic.Pipeline (Dat)

namespace Cert.Kernel2Ideal.Value

open Cert.Kernel2Ideal Cert.Kernel2Ideal.Gen

variable (m : (ℓ : Loc nD τ sig) → Buf (Elt Ideal) ℓ)

/-- The reference's product, over the two argument arrays. -/
abbrev product (X : FVec Ideal S32768x2048 .bf16) (W : FVec Ideal S2x2048x8192 .f32) : FVec Ideal S32768x8192 .f32 :=
  Host.dotGeneral Cert.Reference2Ideal.dot_S32768x2048_S2048x8192_S32768x8192_1_0_0_1_n_n none
    (extf .f32 X Cert.Reference2Ideal.Gen.bitsLt_bf16_f32)
    (shapeCast _ (extractStridedSlice Cert.Reference2Ideal.S1x2048x8192 ![0, 0, 0] W
      Cert.Reference2Ideal.Gen.slices_S2x2048x8192_S1x2048x8192_0_0_0)
      Cert.Reference2Ideal.Gen.shapeCasts_S1x2048x8192_S2048x8192)

/-- The block of each window at grid point `t`: the row block is `t % 32`, the column block `t / 32`. -/
theorem idx : ∀ t : Fin cfg0.N, win0_0.index t = ![t.val % 32, 0] ∧ win0_1.index t = ![0, 0, t.val / 32]
    ∧ win0_2.index t = ![t.val % 32, t.val / 32] :=
  (by decide +kernel : ∀ t : Fin grid0.N, _)

/-- At the first row block of a column block the scratch is filled with the block of weights. -/
theorem scratch_fill (c : Dev nD) (t : Fin cfg0.N) (h : t.val % 32 = 0) (y : S2048x1024.Idx) (j : Fin 8192)
    (hj : j.val = 1024 * (t.val / 32) + (y 1).val) :
    (outsAt0 m c t.val t.isLt).2 y = m ((c : Thread nD τ).loc main_arg1) (ix3 0 (y 0) j) := by
  rw [outsAt0_A m c t h]
  frame_out
  pointwise [k0_pay1]
  blk_ext [iblk, V, idx t]

/-- After grid point `n` the scratch holds the block of weights of the column block `n / 32`. -/
theorem scratch (c : Dev nD) : ∀ (n : ℕ) (hn : n < cfg0.N) (y : S2048x1024.Idx) (j : Fin 8192), j.val = 1024 * (n / 32) + (y 1).val →
    (outsAt0 m c n hn).2 y = m ((c : Thread nD τ).loc main_arg1) (ix3 0 (y 0) j) := by
  intro n
  induction n with
  | zero =>
    intro hn y j hj
    exact scratch_fill m c ⟨0, hn⟩ rfl y j hj
  | succ n ih =>
    intro hn y j hj
    by_cases h : (n + 1) % 32 = 0
    · exact scratch_fill m c ⟨n + 1, hn⟩ h y j hj
    · have := ih (by omega) y j (by omega)
      rw [outsAt0_B m c ⟨n + 1, hn⟩ h]
      exact this

/-- What grid point `t` leaves in the block of the result is the reference's product there. -/
theorem point (c : Dev nD) (t : Fin cfg0.N) (y : S1024x1024.Idx) :
    (outsAt0 m c t.val t.isLt).1 y
      = product (m ((c : Thread nD τ).loc main_arg0)) (m ((c : Thread nD τ).loc main_arg1)) (((cfg0.win 2).blk t).view.emb y) := by
  have hsc := scratch m c t.val t.isLt
  by_cases h : t.val % 32 = 0
  · rw [outsAt0_A m c t h]
    frame_out
    pointwise [k0_pay2, k0_pay1, product]
    blk_point [iblk, V, idx t]
  · rw [outsAt0_B m c t h]
    have hprev := scratch m c (t.val - 1) (by omega)
    have hN : t.val < 256 := lt_of_lt_of_eq t.isLt (by decide +kernel)
    have hy : (y 1).val < 1024 := (y 1).isLt
    frame_out
    try simp only [read_unread_whole]
    pointwise [k0_pay2, product]
    refine Finset.sum_congr rfl fun k _ => ?_
    congr 1
    · blk_ext [iblk, V, idx t]
    · rw [hprev (ix2 k (y 1)) ⟨1024 * (t.val / 32) + (y 1).val, by omega⟩
          (by show 1024 * (t.val / 32) + (y 1).val = 1024 * ((t.val - 1) / 32) + (y 1).val; omega)]
      blk_ext [iblk, V, idx t]

/-- The result array after the run is the reference's product of the arguments. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  blk_simp
  rw [after0_2]
  exact point m c t y

end Cert.Kernel2Ideal.Value

end
-- ==== Proof.ProjectionClaims.lean ====
module

public import proofs.«01_k».proof.Defs
public import proofs.«01_k».proof.Proof.Projection
public import proofs.«01_k».proof.Proof.Gen.Kernel2.Frame
public import Idealize.ShloMosaic.Lib.Quiescent

/-!
# The projection's claims

The kernel runs as printed and idealized, the reference runs, and the idealized kernel and the
reference end with equal results.
-/

@[expose] public section

noncomputable section

namespace Cert.ProjectionClaims

open Idealize.ShloMosaic Idealize.SL.Sem

/-- The projection kernel, as printed, runs and leaves its arguments and the semaphores as they were. -/
theorem kernel : quiescent_Kernel2 (hKernel2 := Cert.Kernel2.Gen.facts) :=
  fun m g _ => Cert.Kernel2.Gen.frame m g

/-- The idealized projection kernel runs and leaves its arguments and the semaphores as they were. -/
theorem kernelIdeal : quiescent_Kernel2Ideal (hKernel2Ideal := Cert.Kernel2Ideal.Gen.facts) :=
  fun m g _ => Cert.Kernel2Ideal.Gen.frame m g

/-- The reference runs and leaves its arguments and the semaphores as they were. -/
theorem referenceIdeal : quiescent_Reference2Ideal (hReference2Ideal := Cert.Reference2Ideal.Gen.facts) :=
  fun m g _ => (θ_run Cert.Reference2Ideal.defs _ _).mono
    (fun r h => ⟨fun c => (h c).2, sem_eq_zero_of_no_sems (by decide) r.2⟩)
    (Cert.Reference2Ideal.Value.run (F := Ideal) m g)

/-- The idealized projection kernel and the reference end with the same array: the product. -/
theorem algebraic : algebraic_Kernel2Ideal_Reference2Ideal (hKernel2Ideal := Cert.Kernel2Ideal.Gen.facts)
    (hReference2Ideal := Cert.Reference2Ideal.Gen.facts) := by
  intro m g m' g' _ hag
  refine ⟨fun c => Cert.Kernel2Ideal.Value.product (m ((c.tc : Thread _ _).loc Cert.Kernel2Ideal.main_arg0))
    (m ((c.tc : Thread _ _).loc Cert.Kernel2Ideal.main_arg1)), ?_, ?_⟩
  · exact (θ_run Cert.Kernel2Ideal.defs _ _).mono
      (fun r h c => ⟨((h c).1).trans (Cert.Kernel2Ideal.Value.final m c), (h c).2⟩)
      (Cert.Kernel2Ideal.Value.run_blocks (F := Ideal) m g)
  · refine (θ_run Cert.Reference2Ideal.defs _ _).mono (fun r h c => ⟨((h c).1).trans ?_, (h c).2⟩)
      (Cert.Reference2Ideal.Value.run (F := Ideal) m' g')
    rw [(hag c).1, (hag c).2]

end Cert.ProjectionClaims

end
-- ==== Proof.ExpertsRuns.lean ====
module

public import proofs.«01_k».proof.Proof.Gen.Kernel3
public import proofs.«01_k».proof.Proof.Gen.Kernel3.Skeleton
public import proofs.«01_k».proof.Proof.Gen.Kernel3.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

namespace Cert.Kernel3.Experts

open Cert.Kernel3 Cert.Kernel3.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-- The resource the triples below are stated over. -/
local notation "𝕄" => MT nD τ sig Unit (Elt Bits) ℕ (UR sig nD τ) ℕ

/-! ## The tables, the scratches and the words a point reads of the tables -/

/-- The table of the blocks' experts, as the kernel is handed it. -/
abbrev tabE : Memref sig .tc .smem S576 .i32 := Memref.whole main_arg1
/-- The table of the number of used blocks. -/
abbrev tabN : Memref sig .tc .smem S1 .i32 := Memref.whole main_arg2
/-- The scratch that keeps the rounded gate and up weights. -/
abbrev scrG : Memref sig .tc .vmem S2048x768 .bf16 := Memref.whole cc0_scratch0
/-- The scratch that keeps the rounded down weights. -/
abbrev scrD : Memref sig .tc .vmem S384x2048 .bf16 := Memref.whole cc0_scratch1

/-- The expert of point `i`. -/
abbrev expertAt (i : grid0.Coords) (T0 : S576.Idx → Elt Bits .i32) : BitVec 32 :=
  View.readAt (Elt Bits) tabE.view (Rect.unit (s := S576) (k0_off1 i) S1.size (k0_off1_inb i)).toLoadRect T0 (Shape.Idx.first (numel1_S1.symm ▸ Nat.one_pos))
/-- The expert of the point before `i`. -/
abbrev expertBefore (i : grid0.Coords) (T0 : S576.Idx → Elt Bits .i32) : BitVec 32 :=
  View.readAt (Elt Bits) tabE.view (Rect.unit (s := S576) (k0_off2 i) S1.size (k0_off2_inb i)).toLoadRect T0 (Shape.Idx.first (numel1_S1.symm ▸ Nat.one_pos))
/-- The number of used blocks. -/
abbrev usedWord (T1 : S1.Idx → Elt Bits .i32) : BitVec 32 :=
  View.readAt (Elt Bits) tabN.view (Rect.unit (s := S1) ![0] S1.size inb_S1_S1_0).toLoadRect T1 (Shape.Idx.first (numel1_S1.symm ▸ Nat.one_pos))
/-- The word whose being 1 makes point `i` round the weights anew: it is the first point, or its expert changed. -/
abbrev reload (i : grid0.Coords) (T0 : S576.Idx → Elt Bits .i32) : BitVec 1 :=
  Scalar.cmpi .ne (Scalar.extui (Scalar.ori (Scalar.cmpi .eq (BitVec.ofNat 32 (i 0).val) 0#32) (Scalar.cmpi .ne (expertAt i T0) (expertBefore i T0)))) 0#32

/-- THE BODY'S TRIPLE: on whole staging buffers holding `x0`, `x1`, `x2`, the tables `T0`, `T1` and the scratches `a0`,
    `a1`, the body at point `i` ends with the inputs and the tables as they were, the pieces `out` written into the
    output's buffer, and the scratches holding `b0`, `b1`. -/
def Runs (c : Dev nD) (i : grid0.Coords) (arg3 : Memref sig .tc .vmem S512x1024 .i32) (harg3 : arg3.IsWhole)
    (arg4 : Memref sig .tc .vmem S1x1x2048x768 .f32) (harg4 : arg4.IsWhole) (arg5 : Memref sig .tc .vmem S1x1x384x2048 .f32) (harg5 : arg5.IsWhole)
    (arg6 : Memref sig .tc .vmem S512x2048 .bf16) (harg6 : arg6.IsWhole) (T0 : S576.Idx → Elt Bits .i32) (T1 : S1.Idx → Elt Bits .i32)
    (x0 : S512x1024.Idx → Elt Bits .i32) (x1 : S1x1x2048x768.Idx → Elt Bits .f32) (x2 : S1x1x384x2048.Idx → Elt Bits .f32)
    (a0 : Buf (Elt Bits) ((c : Thread nD τ).loc cc0_scratch0)) (a1 : Buf (Elt Bits) ((c : Thread nD τ).loc cc0_scratch1))
    (out : List (View.Piece (Elt Bits) S512x2048 .bf16))
    (b0 : Buf (Elt Bits) ((c : Thread nD τ).loc cc0_scratch0)) (b1 : Buf (Elt Bits) ((c : Thread nD τ).loc cc0_scratch1)) : Prop :=
  ∀ K : PUnit → sProp 𝕄,
    iprop((arg3.view.loc (c : Thread nD τ) ↦[arg3.view.set]{fullShare} arg3.view.rep x0)
      ∗ (arg4.view.loc (c : Thread nD τ) ↦[arg4.view.set]{fullShare} arg4.view.rep x1)
      ∗ (arg5.view.loc (c : Thread nD τ) ↦[arg5.view.set]{fullShare} arg5.view.rep x2)
      ∗ (tabE.view.loc (c : Thread nD τ) ↦{fullShare.right} T0)
      ∗ (tabN.view.loc (c : Thread nD τ) ↦{fullShare.right} T1)
      ∗ (∃ d, owns (c : Thread nD τ) arg6 fullShare d)
      ∗ (scrG.view.loc (c : Thread nD τ) ↦{fullShare} a0)
      ∗ (scrD.view.loc (c : Thread nD τ) ↦{fullShare} a1)
      ∗ (iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (tabE.view.loc (c : Thread nD τ) ↦{fullShare.right} T0)
          ∗ (tabN.view.loc (c : Thread nD τ) ↦{fullShare.right} T1)
          ∗ (∃ f, arg6.view.loc (c : Thread nD τ) ↦[arg6.view.set]{fullShare} arg6.view.writes (Elt Bits) f out)
          ∗ (scrG.view.loc (c : Thread nD τ) ↦{fullShare} b0)
          ∗ (scrD.view.loc (c : Thread nD τ) ↦{fullShare} b1)) -∗ K ⟨⟩))
      ⊢ wp frame (wpE (defs₀ (F := Bits)) Variants.none c none) Set.univ
          (cc0__expert_kernel i tabE (Memref.isWhole_whole _) tabN (Memref.isWhole_whole _) arg3 harg3 arg4 harg4 arg5 harg5 arg6 harg6
            scrG (Memref.isWhole_whole _) scrD (Memref.isWhole_whole _)) K

variable (c : Dev nD) (i : grid0.Coords) (arg3 : Memref sig .tc .vmem S512x1024 .i32) (harg3 : arg3.IsWhole)
  (arg4 : Memref sig .tc .vmem S1x1x2048x768 .f32) (harg4 : arg4.IsWhole) (arg5 : Memref sig .tc .vmem S1x1x384x2048 .f32) (harg5 : arg5.IsWhole)
  (arg6 : Memref sig .tc .vmem S512x2048 .bf16) (harg6 : arg6.IsWhole) (T0 : S576.Idx → Elt Bits .i32) (T1 : S1.Idx → Elt Bits .i32)
  (x0 : S512x1024.Idx → Elt Bits .i32) (x1 : S1x1x2048x768.Idx → Elt Bits .f32) (x2 : S1x1x384x2048.Idx → Elt Bits .f32)

set_option backward.proofsInPublic true in
set_option maxHeartbeats 8000000 in
/-- A used point that rounds the weights anew: the pieces it writes and what it leaves in the scratches, with the triple. -/
noncomputable def runReloadUsed (hc : reload i T0 = 1#1)
    (h2 : k0_cond2 i (usedWord T1) = 1#1) (h3 : ¬(k0_cond3 i (usedWord T1) = 1#1)) :
    Σ' (out : List (View.Piece (Elt Bits) S512x2048 .bf16)) (b0 : Buf (Elt Bits) ((c : Thread nD τ).loc cc0_scratch0)),
      { b1 : Buf (Elt Bits) ((c : Thread nD τ).loc cc0_scratch1) //
        ∀ (a0 : Buf (Elt Bits) ((c : Thread nD τ).loc cc0_scratch0)) (a1 : Buf (Elt Bits) ((c : Thread nD τ).loc cc0_scratch1)), Runs c i arg3 harg3 arg4 harg4 arg5 harg5 arg6 harg6 T0 T1 x0 x1 x2 a0 a1 out b0 b1 } :=
  ⟨_, _, _, fun (a0 : Buf (Elt Bits) ((c : Thread nD τ).loc cc0_scratch0)) (a1 : Buf (Elt Bits) ((c : Thread nD τ).loc cc0_scratch1)) => by
    unfold Runs
    intro K
    unfold owns
    rw [cc0__expert_kernel_eq_skeleton]; unfold cc0__expert_kernel_skel
    iintro ⟨H0, H1, H2, HT0, HT1, ⟨%d3, %f3, -, HO⟩, HS0, HS1, Hk⟩
    have hS0 : scrG.IsWhole := Memref.isWhole_whole _
    have hS1 : scrD.IsWhole := Memref.isWhole_whole _
    have hT0 : tabE.IsWhole := Memref.isWhole_whole _
    have hT1 : tabN.IsWhole := Memref.isWhole_whole _
    sl_exec! (disch := first | (guard_target = Scalar.cmpi = _; exact hc) | (guard_target = k0_cond2 _ _ = _; exact h2) | (guard_target = ¬(k0_cond3 _ _ = _); exact h3))
    sl_step
    iapply Hk
    isplitl [H0]; · iexact H0
    isplitl [H1]; · iexact H1
    isplitl [H2]; · iexact H2
    isplitl [HT0]; · iexact HT0
    isplitl [HT1]; · iexact HT1
    isplitl [HO]; · iexists _; iexact HO
    isplitl [HS0]; · iexact HS0
    iexact HS1⟩

set_option backward.proofsInPublic true in
set_option maxHeartbeats 8000000 in
/-- A used point that keeps the rounded weights `a0`, `a1`. -/
noncomputable def runKeepUsed (a0 : Buf (Elt Bits) ((c : Thread nD τ).loc cc0_scratch0)) (a1 : Buf (Elt Bits) ((c : Thread nD τ).loc cc0_scratch1)) (hc : ¬(reload i T0 = 1#1))
    (h2 : k0_cond2 i (usedWord T1) = 1#1) (h3 : ¬(k0_cond3 i (usedWord T1) = 1#1)) :
    Σ' (out : List (View.Piece (Elt Bits) S512x2048 .bf16)) (b0 : Buf (Elt Bits) ((c : Thread nD τ).loc cc0_scratch0)),
      { b1 : Buf (Elt Bits) ((c : Thread nD τ).loc cc0_scratch1) //
        Runs c i arg3 harg3 arg4 harg4 arg5 harg5 arg6 harg6 T0 T1 x0 x1 x2 a0 a1 out b0 b1 } :=
  ⟨_, _, _, by
    unfold Runs
    intro K
    unfold owns
    rw [cc0__expert_kernel_eq_skeleton]; unfold cc0__expert_kernel_skel
    iintro ⟨H0, H1, H2, HT0, HT1, ⟨%d3, %f3, -, HO⟩, HS0, HS1, Hk⟩
    have hS0 : scrG.IsWhole := Memref.isWhole_whole _
    have hS1 : scrD.IsWhole := Memref.isWhole_whole _
    have hT0 : tabE.IsWhole := Memref.isWhole_whole _
    have hT1 : tabN.IsWhole := Memref.isWhole_whole _
    sl_exec! (disch := first | (guard_target = ¬(Scalar.cmpi = _); exact hc) | (guard_target = k0_cond2 _ _ = _; exact h2) | (guard_target = ¬(k0_cond3 _ _ = _); exact h3))
    sl_step
    iapply Hk
    isplitl [H0]; · iexact H0
    isplitl [H1]; · iexact H1
    isplitl [H2]; · iexact H2
    isplitl [HT0]; · iexact HT0
    isplitl [HT1]; · iexact HT1
    isplitl [HO]; · iexists _; iexact HO
    isplitl [HS0]; · iexact HS0
    iexact HS1⟩

set_option backward.proofsInPublic true in
set_option maxHeartbeats 8000000 in
/-- An unused point that keeps the rounded weights. -/
noncomputable def runKeepUnused (a0 : Buf (Elt Bits) ((c : Thread nD τ).loc cc0_scratch0)) (a1 : Buf (Elt Bits) ((c : Thread nD τ).loc cc0_scratch1)) (hc : ¬(reload i T0 = 1#1))
    (h2 : ¬(k0_cond2 i (usedWord T1) = 1#1)) (h3 : k0_cond3 i (usedWord T1) = 1#1) :
    Σ' (out : List (View.Piece (Elt Bits) S512x2048 .bf16)) (b0 : Buf (Elt Bits) ((c : Thread nD τ).loc cc0_scratch0)),
      { b1 : Buf (Elt Bits) ((c : Thread nD τ).loc cc0_scratch1) //
        Runs c i arg3 harg3 arg4 harg4 arg5 harg5 arg6 harg6 T0 T1 x0 x1 x2 a0 a1 out b0 b1 } :=
  ⟨_, _, _, by
    unfold Runs
    intro K
    unfold owns
    rw [cc0__expert_kernel_eq_skeleton]; unfold cc0__expert_kernel_skel
    iintro ⟨H0, H1, H2, HT0, HT1, ⟨%d3, %f3, -, HO⟩, HS0, HS1, Hk⟩
    have hS0 : scrG.IsWhole := Memref.isWhole_whole _
    have hS1 : scrD.IsWhole := Memref.isWhole_whole _
    have hT0 : tabE.IsWhole := Memref.isWhole_whole _
    have hT1 : tabN.IsWhole := Memref.isWhole_whole _
    sl_exec! (disch := first | (guard_target = ¬(Scalar.cmpi = _); exact hc) | (guard_target = ¬(k0_cond2 _ _ = _); exact h2) | (guard_target = k0_cond3 _ _ = _; exact h3))
    sl_step
    iapply Hk
    isplitl [H0]; · iexact H0
    isplitl [H1]; · iexact H1
    isplitl [H2]; · iexact H2
    isplitl [HT0]; · iexact HT0
    isplitl [HT1]; · iexact HT1
    isplitl [HO]; · iexists _; iexact HO
    isplitl [HS0]; · iexact HS0
    iexact HS1⟩

set_option backward.proofsInPublic true in
set_option maxHeartbeats 8000000 in
/-- An unused point that rounds the weights anew. -/
noncomputable def runReloadUnused (hc : reload i T0 = 1#1)
    (h2 : ¬(k0_cond2 i (usedWord T1) = 1#1)) (h3 : k0_cond3 i (usedWord T1) = 1#1) :
    Σ' (out : List (View.Piece (Elt Bits) S512x2048 .bf16)) (b0 : Buf (Elt Bits) ((c : Thread nD τ).loc cc0_scratch0)),
      { b1 : Buf (Elt Bits) ((c : Thread nD τ).loc cc0_scratch1) //
        ∀ (a0 : Buf (Elt Bits) ((c : Thread nD τ).loc cc0_scratch0)) (a1 : Buf (Elt Bits) ((c : Thread nD τ).loc cc0_scratch1)), Runs c i arg3 harg3 arg4 harg4 arg5 harg5 arg6 harg6 T0 T1 x0 x1 x2 a0 a1 out b0 b1 } :=
  ⟨_, _, _, fun (a0 : Buf (Elt Bits) ((c : Thread nD τ).loc cc0_scratch0)) (a1 : Buf (Elt Bits) ((c : Thread nD τ).loc cc0_scratch1)) => by
    unfold Runs
    intro K
    unfold owns
    rw [cc0__expert_kernel_eq_skeleton]; unfold cc0__expert_kernel_skel
    iintro ⟨H0, H1, H2, HT0, HT1, ⟨%d3, %f3, -, HO⟩, HS0, HS1, Hk⟩
    have hS0 : scrG.IsWhole := Memref.isWhole_whole _
    have hS1 : scrD.IsWhole := Memref.isWhole_whole _
    have hT0 : tabE.IsWhole := Memref.isWhole_whole _
    have hT1 : tabN.IsWhole := Memref.isWhole_whole _
    sl_exec! (disch := first | (guard_target = Scalar.cmpi = _; exact hc) | (guard_target = ¬(k0_cond2 _ _ = _); exact h2) | (guard_target = k0_cond3 _ _ = _; exact h3))
    sl_step
    iapply Hk
    isplitl [H0]; · iexact H0
    isplitl [H1]; · iexact H1
    isplitl [H2]; · iexact H2
    isplitl [HT0]; · iexact HT0
    isplitl [HT1]; · iexact HT1
    isplitl [HO]; · iexists _; iexact HO
    isplitl [HS0]; · iexact HS0
    iexact HS1⟩

end Cert.Kernel3.Experts

end
-- ==== Proof.ExpertsSteps.lean ====
module

public import proofs.«01_k».proof.Proof.ExpertsTables
public import Idealize.ShloMosaic.Lib.VecWindow

@[expose] public section

set_option maxRecDepth 16384
set_option Elab.async false

noncomputable section

namespace Cert.Kernel3.Experts

open Cert.Kernel3 Cert.Kernel3.Gen
open Idealize.ShloMosaic
open Idealize.ShloMosaic.TcCoe Idealize.ShloMosaic.Tactic

/-! ## The four paths over named contents -/

/-- The scratch of gate and up weights, once the weights `x1` are rounded into it. -/
def gateBuf (c : Dev nD) (x1 : S1x1x2048x768.Idx → Elt Bits .f32) : Buf (Elt Bits) ((c : Thread nD τ).loc cc0_scratch0) :=
  (View.whole cc0_scratch0).writes (Elt Bits) (View.whole cc0_scratch0).junk
    [⟨Rect.unit (s := S2048x768) ![0, 0] S2048x768.size inb_S2048x768_S2048x768_0_0, k0_pay1 x1⟩]

/-- The scratch of down weights, once the weights `x2` are rounded into it. -/
def downBuf (c : Dev nD) (x2 : S1x1x384x2048.Idx → Elt Bits .f32) : Buf (Elt Bits) ((c : Thread nD τ).loc cc0_scratch1) :=
  (View.whole cc0_scratch1).writes (Elt Bits) (View.whole cc0_scratch1).junk
    [⟨Rect.unit (s := S384x2048) ![0, 0] S384x2048.size inb_S384x2048_S384x2048_0_0, k0_pay2 x2⟩]

/-- The upper half of the gate and up weights a scratch holds. -/
def loOf (c : Dev nD) (a0 : Buf (Elt Bits) ((c : Thread nD τ).loc cc0_scratch0)) : Vec Bits S1024x768 .bf16 :=
  View.readAt (Elt Bits) scrG.view (Rect.unit (s := S2048x768) ![0, 0] S1024x768.size inb_S2048x768_S1024x768_0_0).toLoadRect a0
/-- The lower half of them. -/
def hiOf (c : Dev nD) (a0 : Buf (Elt Bits) ((c : Thread nD τ).loc cc0_scratch0)) : Vec Bits S1024x768 .bf16 :=
  View.readAt (Elt Bits) scrG.view (Rect.unit (s := S2048x768) ![1024, 0] S1024x768.size inb_S2048x768_S1024x768_1024_0).toLoadRect a0
/-- The down weights a scratch holds. -/
def dnOf (c : Dev nD) (a1 : Buf (Elt Bits) ((c : Thread nD τ).loc cc0_scratch1)) : Vec Bits S384x2048 .bf16 :=
  View.readAt (Elt Bits) scrD.view (Rect.unit (s := S384x2048) ![0, 0] S384x2048.size inb_S384x2048_S384x2048_0_0).toLoadRect a1

/-- What a used point writes: 128 rows at a time, from the packed rows `q0` … `q3` and the weights. -/
def usedPieces (q0 q1 q2 q3 : Vec Bits S128x1024 .i32) (lo hi : Vec Bits S1024x768 .bf16) (dn : Vec Bits S384x2048 .bf16) :
    List (View.Piece (Elt Bits) S512x2048 .bf16) :=
  [⟨Rect.unit (s := S512x2048) ![384, 0] S128x2048.size inb_S512x2048_S128x2048_384_0,
      k0_pay3 (k0_pay12 q3 lo hi) (k0_pay13 q3 lo hi) (k0_pay14 q3 lo hi) (FloatOps.ofBits .f32 1065353216#32) dn⟩,
    ⟨Rect.unit (s := S512x2048) ![256, 0] S128x2048.size inb_S512x2048_S128x2048_256_0,
      k0_pay11 (k0_pay9 q2 lo) hi (k0_pay10 q2) (constant S128x768 .f32 0x00000000#32) dn⟩,
    ⟨Rect.unit (s := S512x2048) ![128, 0] S128x2048.size inb_S512x2048_S128x2048_128_0, k0_pay8 (k0_pay6 q1) (k0_pay7 q1) lo hi dn⟩,
    ⟨Rect.unit (s := S512x2048) ![0, 0] S128x2048.size inb_S512x2048_S128x2048_0_0, k0_pay5 q0 lo hi dn⟩]

/-- What an unused point writes. -/
def unusedPieces : List (View.Piece (Elt Bits) S512x2048 .bf16) :=
  [⟨Rect.unit (s := S512x2048) ![0, 0] S512x2048.size inb_S512x2048_S512x2048_0_0, k0_pay4 (F := Bits)⟩]

/-- 128 rows of a block of packed rows, from row `r`. -/
def rowsAt (x0 : S512x1024.Idx → Elt Bits .i32) (r : ℕ) (h : ∀ a, (![r, 0] : Fin 2 → ℕ) a + S128x1024.size a ≤ S512x1024.size a) : Vec Bits S128x1024 .i32 :=
  fun y => x0 ((Rect.unit (s := S512x1024) ![r, 0] S128x1024.size h).toLoadRect.idx y)

/-- What a used point writes, from the packed rows' block and the scratches. -/
def blockPieces (c : Dev nD) (x0 : S512x1024.Idx → Elt Bits .i32) (a0 : Buf (Elt Bits) ((c : Thread nD τ).loc cc0_scratch0))
    (a1 : Buf (Elt Bits) ((c : Thread nD τ).loc cc0_scratch1)) : List (View.Piece (Elt Bits) S512x2048 .bf16) :=
  usedPieces (rowsAt x0 0 inb_S512x1024_S128x1024_0_0) (rowsAt x0 128 inb_S512x1024_S128x1024_128_0)
    (rowsAt x0 256 inb_S512x1024_S128x1024_256_0) (rowsAt x0 384 inb_S512x1024_S128x1024_384_0) (loOf c a0) (hiOf c a0) (dnOf c a1)

variable (c : Dev nD) (i : grid0.Coords) (arg3 : Memref sig .tc .vmem S512x1024 .i32) (harg3 : arg3.IsWhole)
  (arg4 : Memref sig .tc .vmem S1x1x2048x768 .f32) (harg4 : arg4.IsWhole) (arg5 : Memref sig .tc .vmem S1x1x384x2048 .f32) (harg5 : arg5.IsWhole)
  (arg6 : Memref sig .tc .vmem S512x2048 .bf16) (harg6 : arg6.IsWhole) (T0 : S576.Idx → Elt Bits .i32) (T1 : S1.Idx → Elt Bits .i32)
  (x0 : S512x1024.Idx → Elt Bits .i32) (x1 : S1x1x2048x768.Idx → Elt Bits .f32) (x2 : S1x1x384x2048.Idx → Elt Bits .f32)
  (a0 : Buf (Elt Bits) ((c : Thread nD τ).loc cc0_scratch0)) (a1 : Buf (Elt Bits) ((c : Thread nD τ).loc cc0_scratch1))

/-- The weights a load takes of a whole staging buffer of gate and up weights. -/
theorem load_gate : View.readAt (Elt Bits) arg4.view (Rect.unit (s := S1x1x2048x768) ![0, 0, 0, 0] S1x1x2048x768.size inb_S1x1x2048x768_S1x1x2048x768_0_0_0_0).toLoadRect
    (arg4.view.rep x1) = x1 := View.readAt_rep_full arg4.view x1 _
/-- The weights a load takes of a whole staging buffer of down weights. -/
theorem load_down : View.readAt (Elt Bits) arg5.view (Rect.unit (s := S1x1x384x2048) ![0, 0, 0, 0] S1x1x384x2048.size inb_S1x1x384x2048_S1x1x384x2048_0_0_0_0).toLoadRect
    (arg5.view.rep x2) = x2 := View.readAt_rep_full arg5.view x2 _
/-- The rows a load takes of a staging buffer of packed rows. -/
theorem load_rows (r : ℕ) (h : ∀ a, (![r, 0] : Fin 2 → ℕ) a + S128x1024.size a ≤ S512x1024.size a) :
    View.readAt (Elt Bits) arg3.view (Rect.unit (s := S512x1024) ![r, 0] S128x1024.size h).toLoadRect (arg3.view.rep x0) = rowsAt x0 r h := by
  rw [View.readAt_rep]; rfl

/-- A triple over other names of what the point leaves. -/
theorem Runs.congr {c : Dev nD} {i : grid0.Coords} {arg3 : Memref sig .tc .vmem S512x1024 .i32} {harg3 : arg3.IsWhole}
    {arg4 : Memref sig .tc .vmem S1x1x2048x768 .f32} {harg4 : arg4.IsWhole} {arg5 : Memref sig .tc .vmem S1x1x384x2048 .f32} {harg5 : arg5.IsWhole}
    {arg6 : Memref sig .tc .vmem S512x2048 .bf16} {harg6 : arg6.IsWhole} {T0 : S576.Idx → Elt Bits .i32} {T1 : S1.Idx → Elt Bits .i32}
    {x0 : S512x1024.Idx → Elt Bits .i32} {x1 : S1x1x2048x768.Idx → Elt Bits .f32} {x2 : S1x1x384x2048.Idx → Elt Bits .f32}
    {a0 b0 b0' : Buf (Elt Bits) ((c : Thread nD τ).loc cc0_scratch0)} {a1 b1 b1' : Buf (Elt Bits) ((c : Thread nD τ).loc cc0_scratch1)}
    {o o' : List (View.Piece (Elt Bits) S512x2048 .bf16)}
    (h : Runs c i arg3 harg3 arg4 harg4 arg5 harg5 arg6 harg6 T0 T1 x0 x1 x2 a0 a1 o b0 b1) (e : o = o') (e0 : b0 = b0') (e1 : b1 = b1') :
    Runs c i arg3 harg3 arg4 harg4 arg5 harg5 arg6 harg6 T0 T1 x0 x1 x2 a0 a1 o' b0' b1' := by
  subst e; subst e0; subst e1; exact h

/-- A used point that keeps the weights. -/
theorem keepUsed (hc : ¬(reload i T0 = 1#1)) (h2 : k0_cond2 i (usedWord T1) = 1#1) (h3 : ¬(k0_cond3 i (usedWord T1) = 1#1)) :
    Runs c i arg3 harg3 arg4 harg4 arg5 harg5 arg6 harg6 T0 T1 x0 x1 x2 a0 a1 (blockPieces c x0 a0 a1) a0 a1 := by
  refine (runKeepUsed c i arg3 harg3 arg4 harg4 arg5 harg5 arg6 harg6 T0 T1 x0 x1 x2 a0 a1 hc h2 h3).2.2.2.congr ?_ ?_ ?_
  · unfold blockPieces
    rw [← load_rows arg3 x0, ← load_rows arg3 x0, ← load_rows arg3 x0, ← load_rows arg3 x0]
    sl_kernel_rfl
  · sl_kernel_rfl
  · sl_kernel_rfl

/-- A used point that rounds the weights anew. -/
theorem reloadUsed (hc : reload i T0 = 1#1) (h2 : k0_cond2 i (usedWord T1) = 1#1) (h3 : ¬(k0_cond3 i (usedWord T1) = 1#1)) :
    Runs c i arg3 harg3 arg4 harg4 arg5 harg5 arg6 harg6 T0 T1 x0 x1 x2 a0 a1 (blockPieces c x0 (gateBuf c x1) (downBuf c x2)) (gateBuf c x1) (downBuf c x2) := by
  refine ((runReloadUsed c i arg3 harg3 arg4 harg4 arg5 harg5 arg6 harg6 T0 T1 x0 x1 x2 hc h2 h3).2.2.2 a0 a1).congr ?_ ?_ ?_
  · refine Eq.trans (b := usedPieces (View.readAt (Elt Bits) arg3.view (Rect.unit (s := S512x1024) ![0, 0] S128x1024.size inb_S512x1024_S128x1024_0_0).toLoadRect (arg3.view.rep x0))
        (View.readAt (Elt Bits) arg3.view (Rect.unit (s := S512x1024) ![128, 0] S128x1024.size inb_S512x1024_S128x1024_128_0).toLoadRect (arg3.view.rep x0))
        (View.readAt (Elt Bits) arg3.view (Rect.unit (s := S512x1024) ![256, 0] S128x1024.size inb_S512x1024_S128x1024_256_0).toLoadRect (arg3.view.rep x0))
        (View.readAt (Elt Bits) arg3.view (Rect.unit (s := S512x1024) ![384, 0] S128x1024.size inb_S512x1024_S128x1024_384_0).toLoadRect (arg3.view.rep x0))
        (loOf c (gateBuf c (View.readAt (Elt Bits) arg4.view (Rect.unit (s := S1x1x2048x768) ![0, 0, 0, 0] S1x1x2048x768.size inb_S1x1x2048x768_S1x1x2048x768_0_0_0_0).toLoadRect (arg4.view.rep x1))))
        (hiOf c (gateBuf c (View.readAt (Elt Bits) arg4.view (Rect.unit (s := S1x1x2048x768) ![0, 0, 0, 0] S1x1x2048x768.size inb_S1x1x2048x768_S1x1x2048x768_0_0_0_0).toLoadRect (arg4.view.rep x1))))
        (dnOf c (downBuf c (View.readAt (Elt Bits) arg5.view (Rect.unit (s := S1x1x384x2048) ![0, 0, 0, 0] S1x1x384x2048.size inb_S1x1x384x2048_S1x1x384x2048_0_0_0_0).toLoadRect (arg5.view.rep x2))))) (by sl_kernel_rfl) ?_
    rw [load_gate, load_down, load_rows, load_rows, load_rows, load_rows]
    rfl
  · refine Eq.trans (b := gateBuf c (View.readAt (Elt Bits) arg4.view (Rect.unit (s := S1x1x2048x768) ![0, 0, 0, 0] S1x1x2048x768.size inb_S1x1x2048x768_S1x1x2048x768_0_0_0_0).toLoadRect (arg4.view.rep x1))) (by sl_kernel_rfl) ?_
    rw [load_gate]
  · refine Eq.trans (b := downBuf c (View.readAt (Elt Bits) arg5.view (Rect.unit (s := S1x1x384x2048) ![0, 0, 0, 0] S1x1x384x2048.size inb_S1x1x384x2048_S1x1x384x2048_0_0_0_0).toLoadRect (arg5.view.rep x2))) (by sl_kernel_rfl) ?_
    rw [load_down]

/-- An unused point that keeps the weights. -/
theorem keepUnused (hc : ¬(reload i T0 = 1#1)) (h2 : ¬(k0_cond2 i (usedWord T1) = 1#1)) (h3 : k0_cond3 i (usedWord T1) = 1#1) :
    Runs c i arg3 harg3 arg4 harg4 arg5 harg5 arg6 harg6 T0 T1 x0 x1 x2 a0 a1 unusedPieces a0 a1 :=
  (runKeepUnused c i arg3 harg3 arg4 harg4 arg5 harg5 arg6 harg6 T0 T1 x0 x1 x2 a0 a1 hc h2 h3).2.2.2.congr
    (by sl_kernel_rfl) (by sl_kernel_rfl) (by sl_kernel_rfl)

/-- An unused point that rounds the weights anew. -/
theorem reloadUnused (hc : reload i T0 = 1#1) (h2 : ¬(k0_cond2 i (usedWord T1) = 1#1)) (h3 : k0_cond3 i (usedWord T1) = 1#1) :
    Runs c i arg3 harg3 arg4 harg4 arg5 harg5 arg6 harg6 T0 T1 x0 x1 x2 a0 a1 unusedPieces (gateBuf c x1) (downBuf c x2) := by
  refine ((runReloadUnused c i arg3 harg3 arg4 harg4 arg5 harg5 arg6 harg6 T0 T1 x0 x1 x2 hc h2 h3).2.2.2 a0 a1).congr (by sl_kernel_rfl) ?_ ?_
  · refine Eq.trans (b := gateBuf c (View.readAt (Elt Bits) arg4.view (Rect.unit (s := S1x1x2048x768) ![0, 0, 0, 0] S1x1x2048x768.size inb_S1x1x2048x768_S1x1x2048x768_0_0_0_0).toLoadRect (arg4.view.rep x1))) (by sl_kernel_rfl) ?_
    rw [load_gate]
  · refine Eq.trans (b := downBuf c (View.readAt (Elt Bits) arg5.view (Rect.unit (s := S1x1x384x2048) ![0, 0, 0, 0] S1x1x384x2048.size inb_S1x1x384x2048_S1x1x384x2048_0_0_0_0).toLoadRect (arg5.view.rep x2))) (by sl_kernel_rfl) ?_
    rw [load_down]

/-- What a used point writes covers its block. -/
theorem used_cover (q0 q1 q2 q3 : Vec Bits S128x1024 .i32) (lo hi : Vec Bits S1024x768 .bf16) (dn : Vec Bits S384x2048 .bf16) :
    ∀ y : S512x2048.Idx, ∃ p ∈ usedPieces q0 q1 q2 q3 lo hi dn, y ∈ p.1.set :=
  View.cover_of_tiledL _ S128x2048.size (by sl_kernel_rfl)

/-- What an unused point writes covers its block. -/
theorem unused_cover : ∀ y : S512x2048.Idx, ∃ p ∈ unusedPieces, y ∈ p.1.set :=
  View.cover_of_tiledL _ S512x2048.size (by sl_kernel_rfl)

end Cert.Kernel3.Experts

end
-- ==== Proof.ExpertsLaunch.lean ====
module

public import proofs.«01_k».proof.Proof.ExpertsSteps
public import Idealize.ShloMosaic.Lib.Pipeline.Quiescent
public import Idealize.ShloMosaic.Lib.Claim
public import Idealize.ShloMosaic.Lib.Pipeline.ValueKit

@[expose] public section

set_option maxRecDepth 16384
set_option Elab.async false

noncomputable section

namespace Cert.Kernel3.Experts

open Cert.Kernel3 Cert.Kernel3.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resource the certificate is stated over. -/
local notation "𝕄" => MT nD τ sig Unit (Elt Bits) ℕ (UR sig nD τ) ℕ

/-- The proof's resource algebra: the rounds library's, embedded whole. -/
abbrev EP : Emb (UR sig nD τ) 𝕄 := emb₁

variable {T0 : S576.Idx → Elt Bits .i32} {T1 : S1.Idx → Elt Bits .i32} (hT : Tables T0 T1)
variable (m : (ℓ : Loc nD τ sig) → Buf (Elt Bits) ℓ) (ρ : Dev nD → PrngReg)

/-! ## The pipeline at the tables -/

/-- The tables, admissible. -/
def adm : (pcfg0 (F := Bits)).Adm := ⟨tables T0 T1, tables_ok hT⟩
/-- The pipeline at them. -/
abbrev cfgA : Pipeline.Cfg sig Λ₀ := cfg0 (F := Bits) (adm hT)
/-- The program's pipelines at them. -/
abbrev pcs : Fin 1 → Pipeline.Cfg sig Λ₀ := Pipeline.pin (pcfgs (F := Bits)) fun _ => adm hT

/-- Point `t`'s coordinates. -/
abbrev crd (t : Fin (cfgA hT).N) : (cfgA hT).grid.Coords := (cfgA hT).grid.coords t

/-- The staging buffer of the packed rows at a point. -/
abbrev ms0 (t : Fin (cfgA hT).N) : Memref sig .tc .vmem S512x1024 .i32 := spec0_0.stage ((cfgA hT).slots t (0 : Fin 4))
abbrev hs0 (t : Fin (cfgA hT).N) : (ms0 hT t).IsWhole := hstage0_0 (((cfgA hT).slots t (0 : Fin 4)).cast nbuf0_0)
/-- The staging buffer of the gate and up weights at a point. -/
abbrev ms1 (t : Fin (cfgA hT).N) : Memref sig .tc .vmem S1x1x2048x768 .f32 := spec0_1.stage ((cfgA hT).slots t (1 : Fin 4))
abbrev hs1 (t : Fin (cfgA hT).N) : (ms1 hT t).IsWhole := hstage0_1 (((cfgA hT).slots t (1 : Fin 4)).cast nbuf0_1)
/-- The staging buffer of the down weights at a point. -/
abbrev ms2 (t : Fin (cfgA hT).N) : Memref sig .tc .vmem S1x1x384x2048 .f32 := spec0_2.stage ((cfgA hT).slots t (2 : Fin 4))
abbrev hs2 (t : Fin (cfgA hT).N) : (ms2 hT t).IsWhole := hstage0_2 (((cfgA hT).slots t (2 : Fin 4)).cast nbuf0_2)
/-- The staging buffer of the result at a point. -/
abbrev ms3 (t : Fin (cfgA hT).N) : Memref sig .tc .vmem S512x2048 .bf16 := spec0_3.stage ((cfgA hT).slots t (3 : Fin 4))
abbrev hs3 (t : Fin (cfgA hT).N) : (ms3 hT t).IsWhole := hstage0_3 (((cfgA hT).slots t (3 : Fin 4)).cast nbuf0_3)

/-- Window `w`'s block at point `t`, read off its array at launch. -/
def iblk (c : Dev nD) (w : Fin (cfgA hT).W) (t : Fin (cfgA hT).N) : (((cfgA hT).win w).xblock (crd hT t)).Idx → Elt Bits ((cfgA hT).win w).elt :=
  (((cfgA hT).win w).blk t).view.read (Elt Bits) ((s₀ m ρ).mem (((cfgA hT).win w).arr.view.loc (c : Thread nD τ)))

/-- A point's one coordinate is its number. -/
theorem crd_val (t : Fin (cfgA hT).N) : ((crd hT t) 0).val = t.val := by
  have h := Pipeline.Grid.coords_val (G := grid0) t 0 (S := 1) (B := 576) (by decide) rfl
  have ht : t.val < 576 := lt_of_lt_of_eq t.isLt N_0
  exact h.trans (by omega)

/-- The number of used blocks, as the idle table reads it. -/
theorem atD_used : (tables T0 T1).atD 1 ![0] = usedWord T1 := by
  refine (dif_pos (show ∀ a : Fin 1, (![0] : Fin 1 → ℕ) a + 1 ≤ S1.size a by intro a; match a with | 0 => exact Nat.le_refl _)).trans ?_
  show T1 _ = T1 _
  congr 1

/-- No point leaves the result's buffer unwritten. -/
theorem idle3 (t : Fin (cfgA hT).N) : (cfgA hT).idle (3 : Fin 4) ((cfgA hT).grid.coords t) = false := by
  show (!(k0_cond2 (crd hT t) ((tables T0 T1).atD 1 ![0]) == 1#1) && !(k0_cond3 (crd hT t) ((tables T0 T1).atD 1 ![0]) == 1#1)) = false
  rw [atD_used]
  have h := cond3_iff (crd hT t) (usedWord T1)
  by_cases h2 : k0_cond2 (crd hT t) (usedWord T1) = 1#1
  · rw [h2]; rfl
  · rw [h.2 h2]; simp

/-- Every point's result is written back. -/
theorem flush3 (t : Fin (cfgA hT).N) : ((cfgA hT).win (3 : Fin 4)).flush t = true := by
  have hi : ∀ s : Fin (cfgA hT).N, ((cfgA hT).win (3 : Fin 4)).index s (0 : Fin 2) = s.val := fun s => by
    have hs : s.val < 576 := lt_of_lt_of_eq s.isLt N_0
    show (BitVec.ofNat 32 ((crd hT s) 0).val).toNat = s.val
    rw [crd_val, WordCmp.toNat_ofNat_of_lt (by omega)]
  unfold Window.flush
  by_cases hl : t.val + 1 = (cfgA hT).grid.N
  · rw [decide_eq_true hl]; rfl
  · have hlt : t.val + 1 < (cfgA hT).grid.N := lt_of_le_of_ne t.isLt hl
    have : decide (∃ h : t.val + 1 < (cfgA hT).grid.N, ((cfgA hT).win (3 : Fin 4)).index ⟨t.val + 1, h⟩ ≠ ((cfgA hT).win (3 : Fin 4)).index t) = true := by
      refine decide_eq_true ⟨hlt, fun e => ?_⟩
      have e0 := congrFun e (0 : Fin 2)
      rw [hi, hi] at e0
      exact absurd e0 (Nat.succ_ne_self _)
    rw [this, Bool.or_true]; rfl

/-- The result's buffer holds nothing stored when a point's body starts. -/
theorem fresh3 (t : Fin (cfgA hT).N) : (cfgA hT).fresh (3 : Fin 4) t.val = true :=
  Pipeline.Cfg.fresh_tab (cfgA hT) (3 : Fin 4) (fun _ => true) rfl (fun t => by rw [flush3]; rfl) t.val (Nat.le_of_lt t.isLt)

/-! ## The blocks -/

/-- The gate and up weights at a point are those of its expert. -/
theorem gate_at (c : Dev nD) (t : Fin (cfgA hT).N) (y : S1x1x2048x768.Idx) (k : S4x64x2048x768.Idx) (h0 : (k 0).val = 0)
    (h1 : (k 1).val = (expertAt (crd hT t) T0).toNat) (h2 : (k 2).val = (y 2).val) (h3 : (k 3).val = (y 3).val) :
    iblk hT m ρ c (1 : Fin 4) t y = m ((c : Thread nD τ).loc main_arg3) k := by
  show m ((c : Thread nD τ).loc main_arg3) ((((cfgA hT).win (1 : Fin 4)).rect t).emb y) = _
  congr 1
  funext a
  refine Fin.ext ((Window.rect_emb_val _ t y a).trans ?_)
  match a with
  | 0 => rw [h0]; have := (y 0).isLt; show 0 * 1 + (y 0).val = 0; have h : (y 0).val < 1 := this; omega
  | 1 => rw [h1]; have := (y 1).isLt; show (expertAt (crd hT t) T0).toNat * 1 + (y 1).val = _; have h : (y 1).val < 1 := this; omega
  | 2 => rw [h2]; show 0 * 2048 + (y 2).val = _; omega
  | 3 => rw [h3]; show 0 * 768 + (y 3).val = _; omega

/-- The down weights at a point are those of its expert. -/
theorem down_at (c : Dev nD) (t : Fin (cfgA hT).N) (y : S1x1x384x2048.Idx) (k : S4x64x384x2048.Idx) (h0 : (k 0).val = 0)
    (h1 : (k 1).val = (expertAt (crd hT t) T0).toNat) (h2 : (k 2).val = (y 2).val) (h3 : (k 3).val = (y 3).val) :
    iblk hT m ρ c (2 : Fin 4) t y = m ((c : Thread nD τ).loc main_arg4) k := by
  show m ((c : Thread nD τ).loc main_arg4) ((((cfgA hT).win (2 : Fin 4)).rect t).emb y) = _
  congr 1
  funext a
  refine Fin.ext ((Window.rect_emb_val _ t y a).trans ?_)
  match a with
  | 0 => rw [h0]; have := (y 0).isLt; show 0 * 1 + (y 0).val = 0; have h : (y 0).val < 1 := this; omega
  | 1 => rw [h1]; have := (y 1).isLt; show (expertAt (crd hT t) T0).toNat * 1 + (y 1).val = _; have h : (y 1).val < 1 := this; omega
  | 2 => rw [h2]; show 0 * 384 + (y 2).val = _; omega
  | 3 => rw [h3]; show 0 * 2048 + (y 3).val = _; omega

/-- The index of an expert's gate and up weights. -/
def gateIx (e : ℕ) (he : e < 64) (y : S1x1x2048x768.Idx) : S4x64x2048x768.Idx :=
  fun | 0 => ⟨0, by decide⟩ | 1 => ⟨e, he⟩ | 2 => y 2 | 3 => y 3
/-- The index of an expert's down weights. -/
def downIx (e : ℕ) (he : e < 64) (y : S1x1x384x2048.Idx) : S4x64x384x2048.Idx :=
  fun | 0 => ⟨0, by decide⟩ | 1 => ⟨e, he⟩ | 2 => y 2 | 3 => y 3

include hT in
theorem expert_lt (i : grid0.Coords) : (expertAt i T0).toNat < 64 := hT.1 _

/-- Two points of one expert see the same gate and up weights. -/
theorem gate_same (c : Dev nD) (t s : Fin (cfgA hT).N) (e : expertAt (crd hT t) T0 = expertAt (crd hT s) T0) :
    iblk hT m ρ c (1 : Fin 4) t = iblk hT m ρ c (1 : Fin 4) s := by
  funext y
  rw [gate_at hT m ρ c t y (gateIx _ (expert_lt hT (crd hT t)) y) rfl rfl rfl rfl]
  exact (gate_at hT m ρ c s y (gateIx _ (expert_lt hT (crd hT t)) y) rfl (show (expertAt (crd hT t) T0).toNat = (expertAt (crd hT s) T0).toNat from by rw [e]) rfl rfl).symm

/-- Two points of one expert see the same down weights. -/
theorem down_same (c : Dev nD) (t s : Fin (cfgA hT).N) (e : expertAt (crd hT t) T0 = expertAt (crd hT s) T0) :
    iblk hT m ρ c (2 : Fin 4) t = iblk hT m ρ c (2 : Fin 4) s := by
  funext y
  rw [down_at hT m ρ c t y (downIx _ (expert_lt hT (crd hT t)) y) rfl rfl rfl rfl]
  exact (down_at hT m ρ c s y (downIx _ (expert_lt hT (crd hT t)) y) rfl (show (expertAt (crd hT t) T0).toNat = (expertAt (crd hT s) T0).toNat from by rw [e]) rfl rfl).symm

/-- The point before. -/
abbrev before (t : Fin (cfgA hT).N) : Fin (cfgA hT).N := ⟨t.val - 1, lt_of_le_of_lt (Nat.sub_le _ _) t.isLt⟩

/-- A point that keeps the weights is not the first, and the point before has its expert. -/
theorem keep_before (t : Fin (cfgA hT).N) (hc : ¬(reload (crd hT t) T0 = 1#1)) :
    t.val ≠ 0 ∧ expertAt (crd hT t) T0 = expertAt (crd hT (before hT t)) T0 := by
  obtain ⟨h0, e⟩ := keep_iff (crd hT t) T0 hc
  refine ⟨fun h => h0 ((crd_val hT t).trans h), e.trans ?_⟩
  rw [expertBefore_eq (crd hT t) h0, expertAt_eq]
  congr 1
  funext a
  match a with
  | 0 =>
    refine Fin.ext ?_
    show ((crd hT t) 0).val - 1 = ((crd hT (before hT t)) 0).val
    rw [crd_val, crd_val]

/-! ## What a point leaves -/

/-- The pieces point `t` writes of the result. -/
def outPieces (c : Dev nD) (t : Fin (cfgA hT).N) : List (View.Piece (Elt Bits) S512x2048 .bf16) :=
  if k0_cond2 (crd hT t) (usedWord T1) = 1#1 then
    blockPieces c (iblk hT m ρ c (0 : Fin 4) t) (gateBuf c (iblk hT m ρ c (1 : Fin 4) t)) (downBuf c (iblk hT m ρ c (2 : Fin 4) t))
  else unusedPieces

/-- They cover the block. -/
theorem out_cover (c : Dev nD) (t : Fin (cfgA hT).N) : ∀ y : S512x2048.Idx, ∃ p ∈ outPieces hT m ρ c t, y ∈ p.1.set := by
  unfold outPieces
  split
  · exact used_cover _ _ _ _ _ _ _
  · exact unused_cover

/-- The block of the result point `t` leaves. -/
def outBlock (c : Dev nD) (t : Fin (cfgA hT).N) : S512x2048.Idx → Elt Bits .bf16 :=
  View.read (Elt Bits) (ms3 hT t).view ((ms3 hT t).view.writes (Elt Bits) (ms3 hT t).view.junk (outPieces hT m ρ c t))

/-- The invariant before point `t`: the scratches hold the rounded weights of the point before (anything before the
    first point), and the body has its halves of the tables. -/
def Phi (c : Dev nD) (t : Fin ((cfgA hT).N + 1)) : sProp 𝕄 :=
  iprop((∃ a, ⌜∀ s : Fin (cfgA hT).N, t.val = s.val + 1 → a = gateBuf c (iblk hT m ρ c (1 : Fin 4) s)⌝ ∗ (scrG.view.loc (c : Thread nD τ) ↦{fullShare} a))
    ∗ (∃ a, ⌜∀ s : Fin (cfgA hT).N, t.val = s.val + 1 → a = downBuf c (iblk hT m ρ c (2 : Fin 4) s)⌝ ∗ (scrD.view.loc (c : Thread nD τ) ↦{fullShare} a))
    ∗ (tabE.view.loc (c : Thread nD τ) ↦{fullShare.right} T0) ∗ (tabN.view.loc (c : Thread nD τ) ↦{fullShare.right} T1))

/-- The proof data of the pipeline on core `c`. -/
def dats (_ : Fin 1) (c : Dev nD) : Dat τ (Elt Bits) Unit ℕ (UR sig nD τ) ℕ (cfgA hT) c where
  A w := (s₀ m ρ).mem (((cfgA hT).win w).arr.view.loc (c : Thread nD τ))
  after w t := match w with
    | ⟨0, _⟩ => iblk hT m ρ c (0 : Fin 4) t
    | ⟨1, _⟩ => iblk hT m ρ c (1 : Fin 4) t
    | ⟨2, _⟩ => iblk hT m ρ c (2 : Fin 4) t
    | ⟨3, _⟩ => outBlock hT m ρ c t
  Φ t := Phi hT m ρ c t
  q _ := fullShare
  owed _ := 0

theorem after_0 (c : Dev nD) (t : Fin (cfgA hT).N) : (dats hT m ρ 0 c).after (0 : Fin 4) t = iblk hT m ρ c (0 : Fin 4) t := rfl
theorem after_1 (c : Dev nD) (t : Fin (cfgA hT).N) : (dats hT m ρ 0 c).after (1 : Fin 4) t = iblk hT m ρ c (1 : Fin 4) t := rfl
theorem after_2 (c : Dev nD) (t : Fin (cfgA hT).N) : (dats hT m ρ 0 c).after (2 : Fin 4) t = iblk hT m ρ c (2 : Fin 4) t := rfl
theorem after_3 (c : Dev nD) (t : Fin (cfgA hT).N) : (dats hT m ρ 0 c).after (3 : Fin 4) t = outBlock hT m ρ c t := rfl

/-- The packed rows' buffer holds its block at a point. -/
theorem before_0 (c : Dev nD) (t : Fin (cfgA hT).N) (d) : (dats hT m ρ 0 c).before (0 : Fin 4) t d = iblk hT m ρ c (0 : Fin 4) t :=
  ((dats hT m ρ 0 c).before_in_eq_fetched (0 : Fin 4) rfl (fun _ => rfl) (fun _ _ _ => rfl) (fun t => by rw [after_0]; unfold Dat.blockOf iblk; rfl) t d).trans
    (by unfold Dat.fetched Dat.blockOf iblk; rfl)
/-- So does the gate and up weights' buffer. -/
theorem before_1 (c : Dev nD) (t : Fin (cfgA hT).N) (d) : (dats hT m ρ 0 c).before (1 : Fin 4) t d = iblk hT m ρ c (1 : Fin 4) t :=
  ((dats hT m ρ 0 c).before_in_eq_fetched (1 : Fin 4) rfl (fun _ => rfl) (fun _ _ _ => rfl) (fun t => by rw [after_1]; unfold Dat.blockOf iblk; rfl) t d).trans
    (by unfold Dat.fetched Dat.blockOf iblk; rfl)
/-- So does the down weights' buffer. -/
theorem before_2 (c : Dev nD) (t : Fin (cfgA hT).N) (d) : (dats hT m ρ 0 c).before (2 : Fin 4) t d = iblk hT m ρ c (2 : Fin 4) t :=
  ((dats hT m ρ 0 c).before_in_eq_fetched (2 : Fin 4) rfl (fun _ => rfl) (fun _ _ _ => rfl) (fun t => by rw [after_2]; unfold Dat.blockOf iblk; rfl) t d).trans
    (by unfold Dat.fetched Dat.blockOf iblk; rfl)

/-- The body at point `t` on its staging buffers. -/
abbrev bodyAt (t : Fin (cfgA hT).N) : Prog (TpuEff nD τ sig (Elt Bits) Λ₀ .tc) PUnit :=
  cc0__expert_kernel (crd hT t) (Memref.whole main_arg1) (Memref.isWhole_whole _) (Memref.whole main_arg2) (Memref.isWhole_whole _) (ms0 hT t) (hs0 hT t)
    (ms1 hT t) (hs1 hT t) (ms2 hT t) (hs2 hT t) (ms3 hT t) (hs3 hT t) (Memref.whole cc0_scratch0) (Memref.isWhole_whole _) (Memref.whole cc0_scratch1) (Memref.isWhole_whole _)

/-- One triple for every path: from scratches that hold the rounded weights of the point before, the body leaves those of
    this point, and the pieces of its block. -/
theorem step (c : Dev nD) (t : Fin (cfgA hT).N) (a0 : Buf (Elt Bits) ((c : Thread nD τ).loc cc0_scratch0)) (a1 : Buf (Elt Bits) ((c : Thread nD τ).loc cc0_scratch1))
    (h0 : ∀ s : Fin (cfgA hT).N, t.val = s.val + 1 → a0 = gateBuf c (iblk hT m ρ c (1 : Fin 4) s))
    (h1 : ∀ s : Fin (cfgA hT).N, t.val = s.val + 1 → a1 = downBuf c (iblk hT m ρ c (2 : Fin 4) s)) :
    Runs c (crd hT t) (ms0 hT t) (hs0 hT t) (ms1 hT t) (hs1 hT t) (ms2 hT t) (hs2 hT t) (ms3 hT t) (hs3 hT t) T0 T1
      (iblk hT m ρ c (0 : Fin 4) t) (iblk hT m ρ c (1 : Fin 4) t) (iblk hT m ρ c (2 : Fin 4) t) a0 a1 (outPieces hT m ρ c t)
      (gateBuf c (iblk hT m ρ c (1 : Fin 4) t)) (downBuf c (iblk hT m ρ c (2 : Fin 4) t)) := by
  have h3 := cond3_iff (crd hT t) (usedWord T1)
  by_cases hc : reload (crd hT t) T0 = 1#1
  · by_cases h2 : k0_cond2 (crd hT t) (usedWord T1) = 1#1
    · exact (reloadUsed c (crd hT t) (ms0 hT t) (hs0 hT t) (ms1 hT t) (hs1 hT t) (ms2 hT t) (hs2 hT t) (ms3 hT t) (hs3 hT t) T0 T1
        _ _ _ a0 a1 hc h2 (fun h => h3.1 h h2)).congr (by unfold outPieces; rw [if_pos h2]) rfl rfl
    · exact (reloadUnused c (crd hT t) (ms0 hT t) (hs0 hT t) (ms1 hT t) (hs1 hT t) (ms2 hT t) (hs2 hT t) (ms3 hT t) (hs3 hT t) T0 T1
        _ _ _ a0 a1 hc h2 (h3.2 h2)).congr (by unfold outPieces; rw [if_neg h2]) rfl rfl
  · obtain ⟨hz, e⟩ := keep_before hT t hc
    have hs : t.val = (before hT t).val + 1 := by show t.val = t.val - 1 + 1; omega
    have e0 : a0 = gateBuf c (iblk hT m ρ c (1 : Fin 4) t) := by rw [h0 _ hs, gate_same hT m ρ c t _ e]
    have e1 : a1 = downBuf c (iblk hT m ρ c (2 : Fin 4) t) := by rw [h1 _ hs, down_same hT m ρ c t _ e]
    subst e0; subst e1
    by_cases h2 : k0_cond2 (crd hT t) (usedWord T1) = 1#1
    · exact (keepUsed c (crd hT t) (ms0 hT t) (hs0 hT t) (ms1 hT t) (hs1 hT t) (ms2 hT t) (hs2 hT t) (ms3 hT t) (hs3 hT t) T0 T1
        _ _ _ _ _ hc h2 (fun h => h3.1 h h2)).congr (by unfold outPieces; rw [if_pos h2]) rfl rfl
    · exact (keepUnused c (crd hT t) (ms0 hT t) (hs0 hT t) (ms1 hT t) (hs1 hT t) (ms2 hT t) (hs2 hT t) (ms3 hT t) (hs3 hT t) T0 T1
        _ _ _ _ _ hc h2 (h3.2 h2)).congr (by unfold outPieces; rw [if_neg h2]) rfl rfl

set_option maxHeartbeats 4000000 in
/-- The body obligation at point `t`. -/
theorem sound_body (c : Dev nD) (t : Fin (cfgA hT).N) :
    iprop((dats hT m ρ 0 c).Φ t.castSucc ∗ (dats hT m ρ 0 c).owesAt () t.castSucc
        ∗ (∃ d, owns (c : Thread nD τ) (ms0 hT t) fullShare ((dats hT m ρ 0 c).before (0 : Fin 4) t d))
        ∗ (∃ d, owns (c : Thread nD τ) (ms1 hT t) fullShare ((dats hT m ρ 0 c).before (1 : Fin 4) t d))
        ∗ (∃ d, owns (c : Thread nD τ) (ms2 hT t) fullShare ((dats hT m ρ 0 c).before (2 : Fin 4) t d))
        ∗ (∃ d, owns (c : Thread nD τ) (ms3 hT t) fullShare ((dats hT m ρ 0 c).before (3 : Fin 4) t d)))
      ⊢ wp frame (wpE (defs₀ (F := Bits)) Variants.none c none) Set.univ (bodyAt hT t) fun _ =>
          iprop((dats hT m ρ 0 c).Φ t.succ ∗ (dats hT m ρ 0 c).owesAt () t.succ
            ∗ bigSep Finset.univ fun w : Fin (cfgA hT).W =>
                match (cfgA hT).idle w ((cfgA hT).grid.coords t) with
                | true =>
                  match ((cfgA hT).win w).flush t with
                  | false => iprop(∃ d, owns (c : Thread nD τ) (((cfgA hT).win w).stage ((cfgA hT).slots t w)) fullShare ((dats hT m ρ 0 c).before w t d))
                  | true => owns (c : Thread nD τ) (((cfgA hT).win w).stage ((cfgA hT).slots t w)) fullShare ((dats hT m ρ 0 c).after w t)
                | false => owns (c : Thread nD τ) (((cfgA hT).win w).stage ((cfgA hT).slots t w)) fullShare ((dats hT m ρ 0 c).after w t)) := by
  rw [bigSep_W0]
  rewrite [idle3 hT t]
  simp only [before_0, before_1, before_2, after_0, after_1, after_2, after_3]
  rewrite [show (dats hT m ρ 0 c).Φ t.succ = Phi hT m ρ c t.succ from rfl, show (dats hT m ρ 0 c).Φ t.castSucc = Phi hT m ρ c t.castSucc from rfl,
    show (dats hT m ρ 0 c).owesAt () t.succ = (dats hT m ρ 0 c).owesAt () t.castSucc from rfl]
  unfold Phi; simp only [Fin.val_castSucc, Fin.val_succ]
  iintro ⟨⟨⟨%a0, %ha0, HS0⟩, ⟨%a1, %ha1, HS1⟩, HT0, HT1⟩, Ho, ⟨%d0, H0⟩, ⟨%d1, H1⟩, ⟨%d2, H2⟩, ⟨%d3, H3⟩⟩
  iapply (step hT m ρ c t a0 a1 ha0 ha1 _)
  isplitl [H0]; · iapply rep_of_owns; iexact H0
  isplitl [H1]; · iapply rep_of_owns; iexact H1
  isplitl [H2]; · iapply rep_of_owns; iexact H2
  isplitl [HT0]; · iexact HT0
  isplitl [HT1]; · iexact HT1
  isplitl [H3]; · iexists _; iexact H3
  isplitl [HS0]; · iexact HS0
  isplitl [HS1]; · iexact HS1
  iintro ⟨H0, H1, H2, HT0, HT1, ⟨%e3, H3⟩, HS0, HS1⟩
  isplitl [HS0 HS1 HT0 HT1]
  · isplitl [HS0]
    · iexists _; isplitr; swap
      · iexact HS0
      · ipureintro; intro s hs; rw [show t = s from Fin.ext (Nat.succ.inj hs)]
    isplitl [HS1]
    · iexists _; isplitr; swap
      · iexact HS1
      · ipureintro; intro s hs; rw [show t = s from Fin.ext (Nat.succ.inj hs)]
    isplitl [HT0]
    · iexact HT0
    iexact HT1
  isplitl [Ho]; · iexact Ho
  isplitl [H0]
  · iapply owns_of_rep; iexact H0
  isplitl [H1]
  · iapply owns_of_rep; iexact H1
  isplitl [H2]
  · iapply owns_of_rep; iexact H2
  unfold owns; iexists _; isplitr; swap
  · iexact H3
  · ipureintro; exact View.read_writes_of_cover _ _ _ _ _ (out_cover hT m ρ c t)

/-- The library's body obligation, at every point. -/
theorem body_obligation (c : Dev nD) : BodyObligation (dats hT m ρ 0 c) (defs₀ (F := Bits)) Variants.none () Set.univ := fun t => by
  rw [bigSep_W0]
  exact sound_body hT m ρ c t

/-! ## The launch -/

/-- The launch memory holds the tables. -/
def Pinned (T0 : S576.Idx → Elt Bits .i32) (T1 : S1.Idx → Elt Bits .i32) (m : (ℓ : Loc nD τ sig) → Buf (Elt Bits) ℓ) : Prop :=
  (∀ c : Dev nD, m ((c : Thread nD τ).loc main_arg1) = T0) ∧ (∀ c : Dev nD, m ((c : Thread nD τ).loc main_arg2) = T1)

/-- The rounds library's launch element. -/
def u₀ : UR sig nD τ :=
  initOf (Pipeline.cells (pcs hT) ((launch0 (F := Bits)).cellOf_inj fun _ => adm hT))
    (Pipeline.launchToks (pcs hT) ((launch0 (F := Bits)).cellOf_inj fun _ => adm hT))

theorem share_eq (c : Dev nD) (w : Fin (cfgA hT).W) : (dats hT m ρ 0 c).share w = fullShare := by unfold Dat.share; split <;> rfl

/-- The tables as the launch hands them to the region, one by one. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point, from the tables and the scratches. -/
theorem phi_intro (c : Dev nD) :
    iprop(BI.emp ∗ Pipeline.prefHeld pre0 c (fun _ => fullShare.right) (adm hT).1 ∗ Pipeline.scopedRest spec0 c) ⊢ (dats hT m ρ 0 c).Φ 0 := by
  rw [prefHeld_eq, scopedRest0_eq, show (dats hT m ρ 0 c).Φ 0 = Phi hT m ρ c 0 from rfl]
  unfold Phi
  iintro ⟨-, ⟨HT0, HT1⟩, ⟨%a0, HS0⟩, ⟨%a1, HS1⟩⟩
  isplitl [HS0]
  · iexists a0; isplitr; swap
    · iexact HS0
    · ipureintro; intro s h; exact absurd h (Nat.succ_ne_zero _).symm
  isplitl [HS1]
  · iexists a1; isplitr; swap
    · iexact HS1
    · ipureintro; intro s h; exact absurd h (Nat.succ_ne_zero _).symm
  isplitl [HT0]
  · iexact HT0
  iexact HT1

/-- At the end the invariant gives the scratches back. -/
theorem phi_exit (c : Dev nD) : (dats hT m ρ 0 c).Φ (Fin.last (cfgA hT).N) ⊢ iprop(BI.emp ∗ Pipeline.scopedRest spec0 c) := by
  rw [scopedRest0_eq, show (dats hT m ρ 0 c).Φ (Fin.last (cfgA hT).N) = Phi hT m ρ c (Fin.last _) from rfl]
  unfold Phi
  iintro ⟨⟨%a0, -, HS0⟩, ⟨%a1, -, HS1⟩, -, -⟩
  isplitr; · iempintro
  isplitl [HS0]
  · iexists a0; iexact HS0
  iexists a1; iexact HS1

/-- What a final state holds: every array at what the pipeline computes, every table as it was. -/
def QC : PUnit × MemSt nD τ sig (Elt Bits) → Prop := fun r =>
  ∀ c : Dev nD, (∀ w : Fin (cfgA hT).W, r.2.mem (((cfgA hT).win w).arr.view.loc (c : Thread nD τ)) = (dats hT m ρ 0 c).arrAt w (cfgA hT).N)
    ∧ ∀ j, r.2.mem ((c : Thread nD τ).loc (pre0.ref j)) = (adm hT).1 j

theorem V_pre (hp : Pinned T0 T1 m) (c : Dev nD) (j : Fin 2) : m ((c : Thread nD τ).loc (pre0.ref j)) = (adm hT).1 j := by
  fin_cases j
  · exact hp.1 c
  · exact hp.2 c

set_option backward.isDefEq.respectTransparency.types false in
set_option maxHeartbeats 4000000 in
/-- From a memory that holds the tables, every execution terminates, every final state has each array at the computed
    contents, and every semaphore counter reads zero. -/
theorem run_main (hp : Pinned T0 T1 m) : θ_run (defs (F := Bits)) (onTc (τ := τ) (main (F := Bits))) (s₀ m ρ) (fun r => QC hT m ρ r ∧ r.2.sem = fun _ => 0) :=
  Pipeline.θ_run_region_noSem_pf_quiescent pcfgs (fun _ => adm hT) (dats hT m ρ) () ((launch0 (F := Bits)).cellOf_inj fun _ => adm hT) (0 : Fin 1)
    (launch0 (F := Bits)).win.to₀ (launch0 (F := Bits)).pre EP defs₀ Variants.none m ρ main
    (hbody := fun c => (body_obligation hT m ρ c).loose) (hne := (launch0 (F := Bits)).block_pos)
    (harr := (launch0 (F := Bits)).arr_whole) (hstage := (launch0 (F := Bits)).stage_whole) (howed := fun _ _ => rfl)
    (u₀ := u₀ hT) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs hT) (dats hT m ρ) 0 (launch0 (F := Bits)).win.arr_inj c (launch0 (F := Bits)).arr_whole
      (share_eq hT m ρ c) _ _ fun _ => rfl)
    (hpf := V_pre hT m hp)
    (X := fun _ => iprop(emp)) (Y := fun _ => iprop(emp)) (Z := fun _ => iprop(emp))
    (hX := fun c => by rw [unscopedRestP0_eq]; iintro -; isplitr <;> iempintro)
    (hin := phi_intro hT m ρ)
    (hout := phi_exit hT m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

include hT in
/-- From a memory that holds the tables, every execution terminates, leaves the arguments as they were and every semaphore
    counter at zero. -/
theorem frame_of (hp : Pinned T0 T1 m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).1 (0 : Fin 4)).trans ((dats hT m ρ 0 c).arrAt_in (0 : Fin 4) rfl _),
    ((h.1 c).2 0).trans (hp.1 c).symm, ((h.1 c).2 1).trans (hp.2 c).symm,
    ((h.1 c).1 (1 : Fin 4)).trans ((dats hT m ρ 0 c).arrAt_in (1 : Fin 4) rfl _),
    ((h.1 c).1 (2 : Fin 4)).trans ((dats hT m ρ 0 c).arrAt_in (2 : Fin 4) rfl _)⟩, h.2⟩) (run_main hT m ρ hp)

end Cert.Kernel3.Experts

end
-- ==== Proof.ExpertsIdealRuns.lean ====
module

public import proofs.«01_k».proof.Proof.Gen.Kernel3Ideal
public import proofs.«01_k».proof.Proof.Gen.Kernel3Ideal.Skeleton
public import proofs.«01_k».proof.Proof.Gen.Kernel3Ideal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.Kernel3Ideal.Experts

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-- The resource the triples below are stated over. -/
local notation "𝕄" => MT nD τ sig Unit (Elt Ideal) ℕ (UR sig nD τ) ℕ

/-! ## The tables, the scratches and the words a point reads of the tables -/

/-- The table of the blocks' experts, as the kernel is handed it. -/
abbrev tabE : Memref sig .tc .smem S576 .i32 := Memref.whole main_arg1
/-- The table of the number of used blocks. -/
abbrev tabN : Memref sig .tc .smem S1 .i32 := Memref.whole main_arg2
/-- The scratch that keeps the rounded gate and up weights. -/
abbrev scrG : Memref sig .tc .vmem S2048x768 .bf16 := Memref.whole cc0_scratch0
/-- The scratch that keeps the rounded down weights. -/
abbrev scrD : Memref sig .tc .vmem S384x2048 .bf16 := Memref.whole cc0_scratch1

/-- The expert of point `i`. -/
abbrev expertAt (i : grid0.Coords) (T0 : S576.Idx → Elt Ideal .i32) : BitVec 32 :=
  View.readAt (Elt Ideal) tabE.view (Rect.unit (s := S576) (k0_off1 i) S1.size (k0_off1_inb i)).toLoadRect T0 (Shape.Idx.first (numel1_S1.symm ▸ Nat.one_pos))
/-- The expert of the point before `i`. -/
abbrev expertBefore (i : grid0.Coords) (T0 : S576.Idx → Elt Ideal .i32) : BitVec 32 :=
  View.readAt (Elt Ideal) tabE.view (Rect.unit (s := S576) (k0_off2 i) S1.size (k0_off2_inb i)).toLoadRect T0 (Shape.Idx.first (numel1_S1.symm ▸ Nat.one_pos))
/-- The number of used blocks. -/
abbrev usedWord (T1 : S1.Idx → Elt Ideal .i32) : BitVec 32 :=
  View.readAt (Elt Ideal) tabN.view (Rect.unit (s := S1) ![0] S1.size inb_S1_S1_0).toLoadRect T1 (Shape.Idx.first (numel1_S1.symm ▸ Nat.one_pos))
/-- The word whose being 1 makes point `i` round the weights anew: it is the first point, or its expert changed. -/
abbrev reload (i : grid0.Coords) (T0 : S576.Idx → Elt Ideal .i32) : BitVec 1 :=
  Scalar.cmpi .ne (Scalar.extui (Scalar.ori (Scalar.cmpi .eq (BitVec.ofNat 32 (i 0).val) 0#32) (Scalar.cmpi .ne (expertAt i T0) (expertBefore i T0)))) 0#32

/-- THE BODY'S TRIPLE: on whole staging buffers holding `x0`, `x1`, `x2`, the tables `T0`, `T1` and the scratches `a0`,
    `a1`, the body at point `i` ends with the inputs and the tables as they were, the pieces `out` written into the
    output's buffer, and the scratches holding `b0`, `b1`. -/
def Runs (c : Dev nD) (i : grid0.Coords) (arg3 : Memref sig .tc .vmem S512x1024 .i32) (harg3 : arg3.IsWhole)
    (arg4 : Memref sig .tc .vmem S1x1x2048x768 .f32) (harg4 : arg4.IsWhole) (arg5 : Memref sig .tc .vmem S1x1x384x2048 .f32) (harg5 : arg5.IsWhole)
    (arg6 : Memref sig .tc .vmem S512x2048 .bf16) (harg6 : arg6.IsWhole) (T0 : S576.Idx → Elt Ideal .i32) (T1 : S1.Idx → Elt Ideal .i32)
    (x0 : S512x1024.Idx → Elt Ideal .i32) (x1 : S1x1x2048x768.Idx → Elt Ideal .f32) (x2 : S1x1x384x2048.Idx → Elt Ideal .f32)
    (a0 : Buf (Elt Ideal) ((c : Thread nD τ).loc cc0_scratch0)) (a1 : Buf (Elt Ideal) ((c : Thread nD τ).loc cc0_scratch1))
    (out : List (View.Piece (Elt Ideal) S512x2048 .bf16))
    (b0 : Buf (Elt Ideal) ((c : Thread nD τ).loc cc0_scratch0)) (b1 : Buf (Elt Ideal) ((c : Thread nD τ).loc cc0_scratch1)) : Prop :=
  ∀ K : PUnit → sProp 𝕄,
    iprop((arg3.view.loc (c : Thread nD τ) ↦[arg3.view.set]{fullShare} arg3.view.rep x0)
      ∗ (arg4.view.loc (c : Thread nD τ) ↦[arg4.view.set]{fullShare} arg4.view.rep x1)
      ∗ (arg5.view.loc (c : Thread nD τ) ↦[arg5.view.set]{fullShare} arg5.view.rep x2)
      ∗ (tabE.view.loc (c : Thread nD τ) ↦{fullShare.right} T0)
      ∗ (tabN.view.loc (c : Thread nD τ) ↦{fullShare.right} T1)
      ∗ (∃ d, owns (c : Thread nD τ) arg6 fullShare d)
      ∗ (scrG.view.loc (c : Thread nD τ) ↦{fullShare} a0)
      ∗ (scrD.view.loc (c : Thread nD τ) ↦{fullShare} a1)
      ∗ (iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (tabE.view.loc (c : Thread nD τ) ↦{fullShare.right} T0)
          ∗ (tabN.view.loc (c : Thread nD τ) ↦{fullShare.right} T1)
          ∗ (∃ f, arg6.view.loc (c : Thread nD τ) ↦[arg6.view.set]{fullShare} arg6.view.writes (Elt Ideal) f out)
          ∗ (scrG.view.loc (c : Thread nD τ) ↦{fullShare} b0)
          ∗ (scrD.view.loc (c : Thread nD τ) ↦{fullShare} b1)) -∗ K ⟨⟩))
      ⊢ wp frame (wpE (defs₀ (F := Ideal)) Variants.none c none) Set.univ
          (cc0__expert_kernel i tabE (Memref.isWhole_whole _) tabN (Memref.isWhole_whole _) arg3 harg3 arg4 harg4 arg5 harg5 arg6 harg6
            scrG (Memref.isWhole_whole _) scrD (Memref.isWhole_whole _)) K

variable (c : Dev nD) (i : grid0.Coords) (arg3 : Memref sig .tc .vmem S512x1024 .i32) (harg3 : arg3.IsWhole)
  (arg4 : Memref sig .tc .vmem S1x1x2048x768 .f32) (harg4 : arg4.IsWhole) (arg5 : Memref sig .tc .vmem S1x1x384x2048 .f32) (harg5 : arg5.IsWhole)
  (arg6 : Memref sig .tc .vmem S512x2048 .bf16) (harg6 : arg6.IsWhole) (T0 : S576.Idx → Elt Ideal .i32) (T1 : S1.Idx → Elt Ideal .i32)
  (x0 : S512x1024.Idx → Elt Ideal .i32) (x1 : S1x1x2048x768.Idx → Elt Ideal .f32) (x2 : S1x1x384x2048.Idx → Elt Ideal .f32)

set_option backward.proofsInPublic true in
set_option maxHeartbeats 8000000 in
/-- A used point that rounds the weights anew: the pieces it writes and what it leaves in the scratches, with the triple. -/
noncomputable def runReloadUsed (hc : reload i T0 = 1#1)
    (h2 : k0_cond2 i (usedWord T1) = 1#1) (h3 : ¬(k0_cond3 i (usedWord T1) = 1#1)) :
    Σ' (out : List (View.Piece (Elt Ideal) S512x2048 .bf16)) (b0 : Buf (Elt Ideal) ((c : Thread nD τ).loc cc0_scratch0)),
      { b1 : Buf (Elt Ideal) ((c : Thread nD τ).loc cc0_scratch1) //
        ∀ (a0 : Buf (Elt Ideal) ((c : Thread nD τ).loc cc0_scratch0)) (a1 : Buf (Elt Ideal) ((c : Thread nD τ).loc cc0_scratch1)), Runs c i arg3 harg3 arg4 harg4 arg5 harg5 arg6 harg6 T0 T1 x0 x1 x2 a0 a1 out b0 b1 } :=
  ⟨_, _, _, fun (a0 : Buf (Elt Ideal) ((c : Thread nD τ).loc cc0_scratch0)) (a1 : Buf (Elt Ideal) ((c : Thread nD τ).loc cc0_scratch1)) => by
    unfold Runs
    intro K
    unfold owns
    rw [cc0__expert_kernel_eq_skeleton]; unfold cc0__expert_kernel_skel
    iintro ⟨H0, H1, H2, HT0, HT1, ⟨%d3, %f3, -, HO⟩, HS0, HS1, Hk⟩
    have hS0 : scrG.IsWhole := Memref.isWhole_whole _
    have hS1 : scrD.IsWhole := Memref.isWhole_whole _
    have hT0 : tabE.IsWhole := Memref.isWhole_whole _
    have hT1 : tabN.IsWhole := Memref.isWhole_whole _
    sl_exec! (disch := first | (guard_target = Scalar.cmpi = _; exact hc) | (guard_target = k0_cond2 _ _ = _; exact h2) | (guard_target = ¬(k0_cond3 _ _ = _); exact h3))
    sl_step
    iapply Hk
    isplitl [H0]; · iexact H0
    isplitl [H1]; · iexact H1
    isplitl [H2]; · iexact H2
    isplitl [HT0]; · iexact HT0
    isplitl [HT1]; · iexact HT1
    isplitl [HO]; · iexists _; iexact HO
    isplitl [HS0]; · iexact HS0
    iexact HS1⟩

set_option backward.proofsInPublic true in
set_option maxHeartbeats 8000000 in
/-- A used point that keeps the rounded weights `a0`, `a1`. -/
noncomputable def runKeepUsed (a0 : Buf (Elt Ideal) ((c : Thread nD τ).loc cc0_scratch0)) (a1 : Buf (Elt Ideal) ((c : Thread nD τ).loc cc0_scratch1)) (hc : ¬(reload i T0 = 1#1))
    (h2 : k0_cond2 i (usedWord T1) = 1#1) (h3 : ¬(k0_cond3 i (usedWord T1) = 1#1)) :
    Σ' (out : List (View.Piece (Elt Ideal) S512x2048 .bf16)) (b0 : Buf (Elt Ideal) ((c : Thread nD τ).loc cc0_scratch0)),
      { b1 : Buf (Elt Ideal) ((c : Thread nD τ).loc cc0_scratch1) //
        Runs c i arg3 harg3 arg4 harg4 arg5 harg5 arg6 harg6 T0 T1 x0 x1 x2 a0 a1 out b0 b1 } :=
  ⟨_, _, _, by
    unfold Runs
    intro K
    unfold owns
    rw [cc0__expert_kernel_eq_skeleton]; unfold cc0__expert_kernel_skel
    iintro ⟨H0, H1, H2, HT0, HT1, ⟨%d3, %f3, -, HO⟩, HS0, HS1, Hk⟩
    have hS0 : scrG.IsWhole := Memref.isWhole_whole _
    have hS1 : scrD.IsWhole := Memref.isWhole_whole _
    have hT0 : tabE.IsWhole := Memref.isWhole_whole _
    have hT1 : tabN.IsWhole := Memref.isWhole_whole _
    sl_exec! (disch := first | (guard_target = ¬(Scalar.cmpi = _); exact hc) | (guard_target = k0_cond2 _ _ = _; exact h2) | (guard_target = ¬(k0_cond3 _ _ = _); exact h3))
    sl_step
    iapply Hk
    isplitl [H0]; · iexact H0
    isplitl [H1]; · iexact H1
    isplitl [H2]; · iexact H2
    isplitl [HT0]; · iexact HT0
    isplitl [HT1]; · iexact HT1
    isplitl [HO]; · iexists _; iexact HO
    isplitl [HS0]; · iexact HS0
    iexact HS1⟩

set_option backward.proofsInPublic true in
set_option maxHeartbeats 8000000 in
/-- An unused point that keeps the rounded weights. -/
noncomputable def runKeepUnused (a0 : Buf (Elt Ideal) ((c : Thread nD τ).loc cc0_scratch0)) (a1 : Buf (Elt Ideal) ((c : Thread nD τ).loc cc0_scratch1)) (hc : ¬(reload i T0 = 1#1))
    (h2 : ¬(k0_cond2 i (usedWord T1) = 1#1)) (h3 : k0_cond3 i (usedWord T1) = 1#1) :
    Σ' (out : List (View.Piece (Elt Ideal) S512x2048 .bf16)) (b0 : Buf (Elt Ideal) ((c : Thread nD τ).loc cc0_scratch0)),
      { b1 : Buf (Elt Ideal) ((c : Thread nD τ).loc cc0_scratch1) //
        Runs c i arg3 harg3 arg4 harg4 arg5 harg5 arg6 harg6 T0 T1 x0 x1 x2 a0 a1 out b0 b1 } :=
  ⟨_, _, _, by
    unfold Runs
    intro K
    unfold owns
    rw [cc0__expert_kernel_eq_skeleton]; unfold cc0__expert_kernel_skel
    iintro ⟨H0, H1, H2, HT0, HT1, ⟨%d3, %f3, -, HO⟩, HS0, HS1, Hk⟩
    have hS0 : scrG.IsWhole := Memref.isWhole_whole _
    have hS1 : scrD.IsWhole := Memref.isWhole_whole _
    have hT0 : tabE.IsWhole := Memref.isWhole_whole _
    have hT1 : tabN.IsWhole := Memref.isWhole_whole _
    sl_exec! (disch := first | (guard_target = ¬(Scalar.cmpi = _); exact hc) | (guard_target = ¬(k0_cond2 _ _ = _); exact h2) | (guard_target = k0_cond3 _ _ = _; exact h3))
    sl_step
    iapply Hk
    isplitl [H0]; · iexact H0
    isplitl [H1]; · iexact H1
    isplitl [H2]; · iexact H2
    isplitl [HT0]; · iexact HT0
    isplitl [HT1]; · iexact HT1
    isplitl [HO]; · iexists _; iexact HO
    isplitl [HS0]; · iexact HS0
    iexact HS1⟩

set_option backward.proofsInPublic true in
set_option maxHeartbeats 8000000 in
/-- An unused point that rounds the weights anew. -/
noncomputable def runReloadUnused (hc : reload i T0 = 1#1)
    (h2 : ¬(k0_cond2 i (usedWord T1) = 1#1)) (h3 : k0_cond3 i (usedWord T1) = 1#1) :
    Σ' (out : List (View.Piece (Elt Ideal) S512x2048 .bf16)) (b0 : Buf (Elt Ideal) ((c : Thread nD τ).loc cc0_scratch0)),
      { b1 : Buf (Elt Ideal) ((c : Thread nD τ).loc cc0_scratch1) //
        ∀ (a0 : Buf (Elt Ideal) ((c : Thread nD τ).loc cc0_scratch0)) (a1 : Buf (Elt Ideal) ((c : Thread nD τ).loc cc0_scratch1)), Runs c i arg3 harg3 arg4 harg4 arg5 harg5 arg6 harg6 T0 T1 x0 x1 x2 a0 a1 out b0 b1 } :=
  ⟨_, _, _, fun (a0 : Buf (Elt Ideal) ((c : Thread nD τ).loc cc0_scratch0)) (a1 : Buf (Elt Ideal) ((c : Thread nD τ).loc cc0_scratch1)) => by
    unfold Runs
    intro K
    unfold owns
    rw [cc0__expert_kernel_eq_skeleton]; unfold cc0__expert_kernel_skel
    iintro ⟨H0, H1, H2, HT0, HT1, ⟨%d3, %f3, -, HO⟩, HS0, HS1, Hk⟩
    have hS0 : scrG.IsWhole := Memref.isWhole_whole _
    have hS1 : scrD.IsWhole := Memref.isWhole_whole _
    have hT0 : tabE.IsWhole := Memref.isWhole_whole _
    have hT1 : tabN.IsWhole := Memref.isWhole_whole _
    sl_exec! (disch := first | (guard_target = Scalar.cmpi = _; exact hc) | (guard_target = ¬(k0_cond2 _ _ = _); exact h2) | (guard_target = k0_cond3 _ _ = _; exact h3))
    sl_step
    iapply Hk
    isplitl [H0]; · iexact H0
    isplitl [H1]; · iexact H1
    isplitl [H2]; · iexact H2
    isplitl [HT0]; · iexact HT0
    isplitl [HT1]; · iexact HT1
    isplitl [HO]; · iexists _; iexact HO
    isplitl [HS0]; · iexact HS0
    iexact HS1⟩

end Cert.Kernel3Ideal.Experts

end
-- ==== Proof.ExpertsIdealTables.lean ====
module

public import proofs.«01_k».proof.Proof.ExpertsIdealRuns
public import Idealize.ShloMosaic.Lib.WordCmp
public import Idealize.ShloMosaic.Lib.Pipeline.Covers

@[expose] public section

set_option maxRecDepth 16384

noncomputable section

namespace Cert.Kernel3Ideal.Experts

open Cert.Kernel3Ideal Cert.Kernel3Ideal.Gen
open Idealize.ShloMosaic
open Idealize.ShloMosaic.TcCoe Idealize.ShloMosaic.Tactic

/-! ## What the certificate asks of the two tables -/

/-- Every block's expert is one of the 64, and at least one block is used. -/
def Tables (T0 : S576.Idx → Elt Ideal .i32) (T1 : S1.Idx → Elt Ideal .i32) : Prop :=
  (∀ x, BitVec.toNat (T0 x) < 64) ∧ (∀ x, 1 ≤ BitVec.toInt (T1 x))

/-- The two tables, as the launch takes them. -/
def tables (T0 : S576.Idx → Elt Ideal .i32) (T1 : S1.Idx → Elt Ideal .i32) : pre0.Contents (Elt Ideal) :=
  fun | ⟨0, _⟩ => T0 | ⟨1, _⟩ => T1 | ⟨_ + 2, h⟩ => absurd h (by simp)

variable {T0 : S576.Idx → Elt Ideal .i32} {T1 : S1.Idx → Elt Ideal .i32}

/-- A block index of four axes is inside its array as its axes are. -/
theorem inside4 {a b c d : ℕ} (ha : a < 4) (hb : b < 64) (hc : c = 0) (hd : d = 0) {p q : ℕ} :
    ∀ x : Fin 4, ((![a, b, c, d] : Fin 4 → ℕ) x + 1) * (![1, 1, p, q] : Fin 4 → ℕ) x ≤ (![4, 64, p, q] : Fin 4 → ℕ) x := by
  intro x; subst hc; subst hd
  match x with
  | 0 => change (a + 1) * 1 ≤ 4; omega
  | 1 => change (b + 1) * 1 ≤ 64; omega
  | 2 => change (0 + 1) * p ≤ p; omega
  | 3 => change (0 + 1) * q ≤ q; omega

/-- The block of a point's rows is a block of the rows: the point, or the last used block where that is before it. -/
theorem min_lt (i : grid0.Coords) (v : BitVec 32) (h : 1 ≤ v.toInt) :
    (Scalar.minsi (BitVec.ofNat 32 (i 0).val) (Scalar.subi v 1#32)).toNat < 576 := by
  have hi : (i 0).val < 576 := (i 0).isLt
  have hb : (BitVec.ofNat 32 (i 0).val).toNat = (i 0).val := WordCmp.toNat_ofNat_of_lt (by omega)
  have hI : (BitVec.ofNat 32 (i 0).val).toInt = ((i 0).val : Int) := WordCmp.toInt_ofNat_of_lt (by norm_num; omega)
  show (if (BitVec.ofNat 32 (i 0).val).slt (v - 1#32) then BitVec.ofNat 32 (i 0).val else v - 1#32).toNat < 576
  split
  · omega
  · rename_i hs
    rw [BitVec.slt_iff_toInt_lt, hI] at hs
    have hv : v.toInt = (v.toNat : Int) := WordCmp.toInt_eq_toNat_of_lt_half ((WordCmp.toInt_nonneg_iff_lt_half v).1 (by omega))
    have hlt := (WordCmp.toInt_nonneg_iff_lt_half v).1 (by omega)
    have hsub : (v - 1#32).toNat = v.toNat - 1 := by
      rw [BitVec.toNat_sub_of_le (by show (1#32).toNat ≤ v.toNat; simp; omega)]; rfl
    have h2 : (v - 1#32).toInt = ((v - 1#32).toNat : Int) := WordCmp.toInt_eq_toNat_of_lt_half (by rw [hsub]; norm_num at hlt ⊢; omega)
    rw [h2, hsub] at hs
    rw [hsub]; omega

/-- At a used point it is the point itself. -/
theorem min_eq (i : grid0.Coords) (v : BitVec 32) (h : (BitVec.ofNat 32 (i 0).val).slt v = true) :
    (Scalar.minsi (BitVec.ofNat 32 (i 0).val) (Scalar.subi v 1#32)).toNat = (i 0).val := by
  have hi : (i 0).val < 576 := (i 0).isLt
  have hb : (BitVec.ofNat 32 (i 0).val).toNat = (i 0).val := WordCmp.toNat_ofNat_of_lt (by omega)
  have hI : (BitVec.ofNat 32 (i 0).val).toInt = ((i 0).val : Int) := WordCmp.toInt_ofNat_of_lt (by norm_num; omega)
  rw [BitVec.slt_iff_toInt_lt, hI] at h
  have hv : v.toInt = (v.toNat : Int) := WordCmp.toInt_eq_toNat_of_lt_half ((WordCmp.toInt_nonneg_iff_lt_half v).1 (by omega))
  have hlt := (WordCmp.toInt_nonneg_iff_lt_half v).1 (by omega)
  have hsub : (v - 1#32).toNat = v.toNat - 1 := by
    rw [BitVec.toNat_sub_of_le (by show (1#32).toNat ≤ v.toNat; simp; omega)]; rfl
  have h2 : (v - 1#32).toInt = ((v - 1#32).toNat : Int) := WordCmp.toInt_eq_toNat_of_lt_half (by rw [hsub]; norm_num at hlt ⊢; omega)
  show (if (BitVec.ofNat 32 (i 0).val).slt (v - 1#32) then BitVec.ofNat 32 (i 0).val else v - 1#32).toNat = _
  split
  · exact hb
  · rename_i hs
    rw [BitVec.slt_iff_toInt_lt, hI, h2, hsub] at hs
    rw [hsub]; omega

/-- The launch's side condition holds of such tables: every block fetched is inside its array. -/
theorem tables_ok (hT : Tables T0 T1) : ok0 (F := Ideal) (tables T0 T1) := by
  refine ⟨fun i => ⟨?_, .inl rfl⟩, fun i => ⟨?_, .inl rfl⟩, fun i => ⟨?_, .inl rfl⟩⟩
  · have h := min_lt i (usedWord T1) (hT.2 _)
    intro a
    match a with
    | 0 =>
      change ((Scalar.minsi (BitVec.ofNat 32 (i 0).val) (Scalar.subi (usedWord T1) 1#32)).toNat + 1) * 512 ≤ 294912
      omega
    | 1 => change (0 + 1) * 1024 ≤ 1024; omega
  · exact inside4 (p := 2048) (q := 768) (by decide) (hT.1 _) rfl rfl
  · exact inside4 (p := 384) (q := 2048) (by decide) (hT.1 _) rfl rfl

/-! ## The decisions at a point -/

/-- The word "the point is used" is the comparison itself. -/
theorem cond2_iff (i : grid0.Coords) (v : BitVec 32) : k0_cond2 i v = 1#1 ↔ (BitVec.ofNat 32 (i 0).val).slt v = true := by
  show BitVec.ofBool ((BitVec.setWidth 32 (BitVec.ofBool ((BitVec.ofNat 32 (i 0).val).slt v))) != 0#32) = 1#1 ↔ _
  cases (BitVec.ofNat 32 (i 0).val).slt v <;> decide

/-- An unused point takes the other branch. -/
theorem cond3_iff (i : grid0.Coords) (v : BitVec 32) : k0_cond3 i v = 1#1 ↔ ¬(k0_cond2 i v = 1#1) := by
  rw [cond2_iff]
  have e : (v.sle (BitVec.ofNat 32 (i 0).val)) = !((BitVec.ofNat 32 (i 0).val).slt v) := by
    rw [Bool.eq_iff_iff]; simp only [BitVec.sle_iff_toInt_le, Bool.not_eq_true', ← Bool.not_eq_true, BitVec.slt_iff_toInt_lt]; omega
  show BitVec.ofBool ((BitVec.setWidth 32 (BitVec.ofBool (v.sle (BitVec.ofNat 32 (i 0).val)))) != 0#32) = 1#1 ↔ _
  rw [e]
  cases (BitVec.ofNat 32 (i 0).val).slt v <;> decide

/-- A point that keeps the weights is not the first, and its expert is the one before's. -/
theorem keep_iff (i : grid0.Coords) (T0 : S576.Idx → Elt Ideal .i32) :
    ¬(reload i T0 = 1#1) → (i 0).val ≠ 0 ∧ expertAt i T0 = expertBefore i T0 := by
  have hi : (i 0).val < 576 := (i 0).isLt
  show ¬(BitVec.ofBool ((BitVec.setWidth 32 (BitVec.ofBool (BitVec.ofNat 32 (i 0).val == 0#32) ||| BitVec.ofBool (expertAt i T0 != expertBefore i T0))) != 0#32) = 1#1) → _
  intro h
  have hp : (BitVec.ofNat 32 (i 0).val == 0#32) = false := by
    cases h1 : (BitVec.ofNat 32 (i 0).val == 0#32)
    · rfl
    · rw [h1] at h; exact absurd (by cases (expertAt i T0 != expertBefore i T0) <;> decide) h
  have hq : (expertAt i T0 != expertBefore i T0) = false := by
    cases h1 : (expertAt i T0 != expertBefore i T0)
    · rfl
    · rw [h1] at h; exact absurd (by cases (BitVec.ofNat 32 (i 0).val == 0#32) <;> decide) h
  refine ⟨fun h0 => ?_, by simpa using hq⟩
  rw [h0] at hp; exact absurd hp (by decide)

/-- The one index of a one-element rectangle of the table of experts. -/
theorem tab_idx (off : Fin 1 → ℕ) (inb : ∀ a, off a + S1.size a ≤ S576.size a) (x : S1.Idx) :
    (Rect.unit (s := S576) off S1.size inb).toLoadRect.idx x = fun a => ⟨off a, lt_of_lt_of_le (Nat.lt_succ_self _) (by have h := inb a; match a, h with | 0, h => exact h)⟩ := by
  funext a
  refine Fin.ext ?_
  have hx : (x a).val = 0 := by have h := (x a).isLt; match a with | 0 => exact Nat.lt_one_iff.1 h
  show off a + 1 * (x a).val = off a
  omega

/-- The index `n` of the table of experts. -/
def ixE (n : ℕ) (h : n < 576) : S576.Idx := fun | 0 => ⟨n, h⟩

/-- The expert of a point, read off the table. -/
theorem expertAt_eq (i : grid0.Coords) : expertAt i T0 = T0 (ixE (i 0).val (i 0).isLt) := by
  show T0 ((Rect.unit (s := S576) (k0_off1 i) S1.size (k0_off1_inb i)).toLoadRect.idx (Shape.Idx.first (numel1_S1.symm ▸ Nat.one_pos))) = _
  rw [tab_idx]
  congr 1
  funext a
  refine Fin.ext ?_
  match a with
  | 0 => exact congrFun (k0_off1_eq i) 0

/-- The expert of the point before, read off the table. -/
theorem expertBefore_eq (i : grid0.Coords) (h : (i 0).val ≠ 0) :
    expertBefore i T0 = T0 (ixE ((i 0).val - 1) (lt_of_le_of_lt (Nat.sub_le _ _) (i 0).isLt)) := by
  have hi : (i 0).val < 576 := (i 0).isLt
  show T0 ((Rect.unit (s := S576) (k0_off2 i) S1.size (k0_off2_inb i)).toLoadRect.idx (Shape.Idx.first (numel1_S1.symm ▸ Nat.one_pos))) = _
  rw [tab_idx]
  congr 1
  funext a
  refine Fin.ext ?_
  match a with
  | 0 =>
    show (Scalar.maxsi (Scalar.subi (BitVec.ofNat 32 (i 0).val) 1#32) 0#32).toNat = (i 0).val - 1
    have e : Scalar.subi (BitVec.ofNat 32 (i 0).val) 1#32 = BitVec.ofNat 32 ((i 0).val - 1) := by
      apply BitVec.eq_of_toNat_eq
      show (BitVec.ofNat 32 (i 0).val - 1#32).toNat = _
      have hb : (BitVec.ofNat 32 (i 0).val).toNat = (i 0).val := WordCmp.toNat_ofNat_of_lt (by omega)
      rw [BitVec.toNat_sub_of_le (by show (1#32).toNat ≤ _; rw [hb]; show 1 ≤ _; omega), hb, WordCmp.toNat_ofNat_of_lt (a := (i 0).val - 1) (by omega)]
      exact congrArg _ rfl
    rw [e]
    show (if (0#32).slt (BitVec.ofNat 32 ((i 0).val - 1)) then BitVec.ofNat 32 ((i 0).val - 1) else 0#32).toNat = _
    have hI : (BitVec.ofNat 32 ((i 0).val - 1)).toInt = (((i 0).val - 1 : ℕ) : Int) := WordCmp.toInt_ofNat_of_lt (by norm_num; omega)
    split
    · exact WordCmp.toNat_ofNat_of_lt (by omega)
    · rename_i hn
      rw [BitVec.slt_iff_toInt_lt, hI] at hn
      have h0 : (0#32 : BitVec 32).toInt = 0 := rfl
      have h1 : (0#32 : BitVec 32).toNat = 0 := rfl
      rw [h0] at hn; rw [h1]; omega

end Cert.Kernel3Ideal.Experts

end
-- ==== Proof.ExpertsIdealSteps.lean ====
module

public import proofs.«01_k».proof.Proof.ExpertsIdealTables
public import Idealize.ShloMosaic.Lib.VecWindow

@[expose] public section

set_option maxRecDepth 16384
set_option Elab.async false

noncomputable section

namespace Cert.Kernel3Ideal.Experts

open Cert.Kernel3Ideal Cert.Kernel3Ideal.Gen
open Idealize.ShloMosaic
open Idealize.ShloMosaic.TcCoe Idealize.ShloMosaic.Tactic

/-! ## The four paths over named contents -/

/-- The scratch of gate and up weights, once the weights `x1` are rounded into it. -/
def gateBuf (c : Dev nD) (x1 : S1x1x2048x768.Idx → Elt Ideal .f32) : Buf (Elt Ideal) ((c : Thread nD τ).loc cc0_scratch0) :=
  (View.whole cc0_scratch0).writes (Elt Ideal) (View.whole cc0_scratch0).junk
    [⟨Rect.unit (s := S2048x768) ![0, 0] S2048x768.size inb_S2048x768_S2048x768_0_0, k0_pay1 x1⟩]

/-- The scratch of down weights, once the weights `x2` are rounded into it. -/
def downBuf (c : Dev nD) (x2 : S1x1x384x2048.Idx → Elt Ideal .f32) : Buf (Elt Ideal) ((c : Thread nD τ).loc cc0_scratch1) :=
  (View.whole cc0_scratch1).writes (Elt Ideal) (View.whole cc0_scratch1).junk
    [⟨Rect.unit (s := S384x2048) ![0, 0] S384x2048.size inb_S384x2048_S384x2048_0_0, k0_pay2 x2⟩]

/-- The upper half of the gate and up weights a scratch holds. -/
def loOf (c : Dev nD) (a0 : Buf (Elt Ideal) ((c : Thread nD τ).loc cc0_scratch0)) : Vec Ideal S1024x768 .bf16 :=
  View.readAt (Elt Ideal) scrG.view (Rect.unit (s := S2048x768) ![0, 0] S1024x768.size inb_S2048x768_S1024x768_0_0).toLoadRect a0
/-- The lower half of them. -/
def hiOf (c : Dev nD) (a0 : Buf (Elt Ideal) ((c : Thread nD τ).loc cc0_scratch0)) : Vec Ideal S1024x768 .bf16 :=
  View.readAt (Elt Ideal) scrG.view (Rect.unit (s := S2048x768) ![1024, 0] S1024x768.size inb_S2048x768_S1024x768_1024_0).toLoadRect a0
/-- The down weights a scratch holds. -/
def dnOf (c : Dev nD) (a1 : Buf (Elt Ideal) ((c : Thread nD τ).loc cc0_scratch1)) : Vec Ideal S384x2048 .bf16 :=
  View.readAt (Elt Ideal) scrD.view (Rect.unit (s := S384x2048) ![0, 0] S384x2048.size inb_S384x2048_S384x2048_0_0).toLoadRect a1

/-- What a used point writes: 128 rows at a time, from the packed rows `q0` … `q3` and the weights. -/
def usedPieces (q0 q1 q2 q3 : Vec Ideal S128x1024 .i32) (lo hi : Vec Ideal S1024x768 .bf16) (dn : Vec Ideal S384x2048 .bf16) :
    List (View.Piece (Elt Ideal) S512x2048 .bf16) :=
  [⟨Rect.unit (s := S512x2048) ![384, 0] S128x2048.size inb_S512x2048_S128x2048_384_0,
      k0_pay3 (k0_pay12 q3 lo hi) (k0_pay13 q3 lo hi) (k0_pay14 q3 lo hi) (FloatOps.ofBits .f32 1065353216#32) dn⟩,
    ⟨Rect.unit (s := S512x2048) ![256, 0] S128x2048.size inb_S512x2048_S128x2048_256_0,
      k0_pay11 (k0_pay9 q2 lo) hi (k0_pay10 q2) (constant S128x768 .f32 0x00000000#32) dn⟩,
    ⟨Rect.unit (s := S512x2048) ![128, 0] S128x2048.size inb_S512x2048_S128x2048_128_0, k0_pay8 (k0_pay6 q1) (k0_pay7 q1) lo hi dn⟩,
    ⟨Rect.unit (s := S512x2048) ![0, 0] S128x2048.size inb_S512x2048_S128x2048_0_0, k0_pay5 q0 lo hi dn⟩]

/-- What an unused point writes. -/
def unusedPieces : List (View.Piece (Elt Ideal) S512x2048 .bf16) :=
  [⟨Rect.unit (s := S512x2048) ![0, 0] S512x2048.size inb_S512x2048_S512x2048_0_0, k0_pay4 (F := Ideal)⟩]

/-- 128 rows of a block of packed rows, from row `r`. -/
def rowsAt (x0 : S512x1024.Idx → Elt Ideal .i32) (r : ℕ) (h : ∀ a, (![r, 0] : Fin 2 → ℕ) a + S128x1024.size a ≤ S512x1024.size a) : Vec Ideal S128x1024 .i32 :=
  fun y => x0 ((Rect.unit (s := S512x1024) ![r, 0] S128x1024.size h).toLoadRect.idx y)

/-- What a used point writes, from the packed rows' block and the scratches. -/
def blockPieces (c : Dev nD) (x0 : S512x1024.Idx → Elt Ideal .i32) (a0 : Buf (Elt Ideal) ((c : Thread nD τ).loc cc0_scratch0))
    (a1 : Buf (Elt Ideal) ((c : Thread nD τ).loc cc0_scratch1)) : List (View.Piece (Elt Ideal) S512x2048 .bf16) :=
  usedPieces (rowsAt x0 0 inb_S512x1024_S128x1024_0_0) (rowsAt x0 128 inb_S512x1024_S128x1024_128_0)
    (rowsAt x0 256 inb_S512x1024_S128x1024_256_0) (rowsAt x0 384 inb_S512x1024_S128x1024_384_0) (loOf c a0) (hiOf c a0) (dnOf c a1)

variable (c : Dev nD) (i : grid0.Coords) (arg3 : Memref sig .tc .vmem S512x1024 .i32) (harg3 : arg3.IsWhole)
  (arg4 : Memref sig .tc .vmem S1x1x2048x768 .f32) (harg4 : arg4.IsWhole) (arg5 : Memref sig .tc .vmem S1x1x384x2048 .f32) (harg5 : arg5.IsWhole)
  (arg6 : Memref sig .tc .vmem S512x2048 .bf16) (harg6 : arg6.IsWhole) (T0 : S576.Idx → Elt Ideal .i32) (T1 : S1.Idx → Elt Ideal .i32)
  (x0 : S512x1024.Idx → Elt Ideal .i32) (x1 : S1x1x2048x768.Idx → Elt Ideal .f32) (x2 : S1x1x384x2048.Idx → Elt Ideal .f32)
  (a0 : Buf (Elt Ideal) ((c : Thread nD τ).loc cc0_scratch0)) (a1 : Buf (Elt Ideal) ((c : Thread nD τ).loc cc0_scratch1))

/-- The weights a load takes of a whole staging buffer of gate and up weights. -/
theorem load_gate : View.readAt (Elt Ideal) arg4.view (Rect.unit (s := S1x1x2048x768) ![0, 0, 0, 0] S1x1x2048x768.size inb_S1x1x2048x768_S1x1x2048x768_0_0_0_0).toLoadRect
    (arg4.view.rep x1) = x1 := View.readAt_rep_full arg4.view x1 _
/-- The weights a load takes of a whole staging buffer of down weights. -/
theorem load_down : View.readAt (Elt Ideal) arg5.view (Rect.unit (s := S1x1x384x2048) ![0, 0, 0, 0] S1x1x384x2048.size inb_S1x1x384x2048_S1x1x384x2048_0_0_0_0).toLoadRect
    (arg5.view.rep x2) = x2 := View.readAt_rep_full arg5.view x2 _
/-- The rows a load takes of a staging buffer of packed rows. -/
theorem load_rows (r : ℕ) (h : ∀ a, (![r, 0] : Fin 2 → ℕ) a + S128x1024.size a ≤ S512x1024.size a) :
    View.readAt (Elt Ideal) arg3.view (Rect.unit (s := S512x1024) ![r, 0] S128x1024.size h).toLoadRect (arg3.view.rep x0) = rowsAt x0 r h := by
  rw [View.readAt_rep]; rfl

/-- A triple over other names of what the point leaves. -/
theorem Runs.congr {c : Dev nD} {i : grid0.Coords} {arg3 : Memref sig .tc .vmem S512x1024 .i32} {harg3 : arg3.IsWhole}
    {arg4 : Memref sig .tc .vmem S1x1x2048x768 .f32} {harg4 : arg4.IsWhole} {arg5 : Memref sig .tc .vmem S1x1x384x2048 .f32} {harg5 : arg5.IsWhole}
    {arg6 : Memref sig .tc .vmem S512x2048 .bf16} {harg6 : arg6.IsWhole} {T0 : S576.Idx → Elt Ideal .i32} {T1 : S1.Idx → Elt Ideal .i32}
    {x0 : S512x1024.Idx → Elt Ideal .i32} {x1 : S1x1x2048x768.Idx → Elt Ideal .f32} {x2 : S1x1x384x2048.Idx → Elt Ideal .f32}
    {a0 b0 b0' : Buf (Elt Ideal) ((c : Thread nD τ).loc cc0_scratch0)} {a1 b1 b1' : Buf (Elt Ideal) ((c : Thread nD τ).loc cc0_scratch1)}
    {o o' : List (View.Piece (Elt Ideal) S512x2048 .bf16)}
    (h : Runs c i arg3 harg3 arg4 harg4 arg5 harg5 arg6 harg6 T0 T1 x0 x1 x2 a0 a1 o b0 b1) (e : o = o') (e0 : b0 = b0') (e1 : b1 = b1') :
    Runs c i arg3 harg3 arg4 harg4 arg5 harg5 arg6 harg6 T0 T1 x0 x1 x2 a0 a1 o' b0' b1' := by
  subst e; subst e0; subst e1; exact h

/-- A used point that keeps the weights. -/
theorem keepUsed (hc : ¬(reload i T0 = 1#1)) (h2 : k0_cond2 i (usedWord T1) = 1#1) (h3 : ¬(k0_cond3 i (usedWord T1) = 1#1)) :
    Runs c i arg3 harg3 arg4 harg4 arg5 harg5 arg6 harg6 T0 T1 x0 x1 x2 a0 a1 (blockPieces c x0 a0 a1) a0 a1 := by
  refine (runKeepUsed c i arg3 harg3 arg4 harg4 arg5 harg5 arg6 harg6 T0 T1 x0 x1 x2 a0 a1 hc h2 h3).2.2.2.congr ?_ ?_ ?_
  · unfold blockPieces
    rw [← load_rows arg3 x0, ← load_rows arg3 x0, ← load_rows arg3 x0, ← load_rows arg3 x0]
    sl_kernel_rfl
  · sl_kernel_rfl
  · sl_kernel_rfl

/-- A used point that rounds the weights anew. -/
theorem reloadUsed (hc : reload i T0 = 1#1) (h2 : k0_cond2 i (usedWord T1) = 1#1) (h3 : ¬(k0_cond3 i (usedWord T1) = 1#1)) :
    Runs c i arg3 harg3 arg4 harg4 arg5 harg5 arg6 harg6 T0 T1 x0 x1 x2 a0 a1 (blockPieces c x0 (gateBuf c x1) (downBuf c x2)) (gateBuf c x1) (downBuf c x2) := by
  refine ((runReloadUsed c i arg3 harg3 arg4 harg4 arg5 harg5 arg6 harg6 T0 T1 x0 x1 x2 hc h2 h3).2.2.2 a0 a1).congr ?_ ?_ ?_
  · refine Eq.trans (b := usedPieces (View.readAt (Elt Ideal) arg3.view (Rect.unit (s := S512x1024) ![0, 0] S128x1024.size inb_S512x1024_S128x1024_0_0).toLoadRect (arg3.view.rep x0))
        (View.readAt (Elt Ideal) arg3.view (Rect.unit (s := S512x1024) ![128, 0] S128x1024.size inb_S512x1024_S128x1024_128_0).toLoadRect (arg3.view.rep x0))
        (View.readAt (Elt Ideal) arg3.view (Rect.unit (s := S512x1024) ![256, 0] S128x1024.size inb_S512x1024_S128x1024_256_0).toLoadRect (arg3.view.rep x0))
        (View.readAt (Elt Ideal) arg3.view (Rect.unit (s := S512x1024) ![384, 0] S128x1024.size inb_S512x1024_S128x1024_384_0).toLoadRect (arg3.view.rep x0))
        (loOf c (gateBuf c (View.readAt (Elt Ideal) arg4.view (Rect.unit (s := S1x1x2048x768) ![0, 0, 0, 0] S1x1x2048x768.size inb_S1x1x2048x768_S1x1x2048x768_0_0_0_0).toLoadRect (arg4.view.rep x1))))
        (hiOf c (gateBuf c (View.readAt (Elt Ideal) arg4.view (Rect.unit (s := S1x1x2048x768) ![0, 0, 0, 0] S1x1x2048x768.size inb_S1x1x2048x768_S1x1x2048x768_0_0_0_0).toLoadRect (arg4.view.rep x1))))
        (dnOf c (downBuf c (View.readAt (Elt Ideal) arg5.view (Rect.unit (s := S1x1x384x2048) ![0, 0, 0, 0] S1x1x384x2048.size inb_S1x1x384x2048_S1x1x384x2048_0_0_0_0).toLoadRect (arg5.view.rep x2))))) (by sl_kernel_rfl) ?_
    rw [load_gate, load_down, load_rows, load_rows, load_rows, load_rows]
    rfl
  · refine Eq.trans (b := gateBuf c (View.readAt (Elt Ideal) arg4.view (Rect.unit (s := S1x1x2048x768) ![0, 0, 0, 0] S1x1x2048x768.size inb_S1x1x2048x768_S1x1x2048x768_0_0_0_0).toLoadRect (arg4.view.rep x1))) (by sl_kernel_rfl) ?_
    rw [load_gate]
  · refine Eq.trans (b := downBuf c (View.readAt (Elt Ideal) arg5.view (Rect.unit (s := S1x1x384x2048) ![0, 0, 0, 0] S1x1x384x2048.size inb_S1x1x384x2048_S1x1x384x2048_0_0_0_0).toLoadRect (arg5.view.rep x2))) (by sl_kernel_rfl) ?_
    rw [load_down]

/-- An unused point that keeps the weights. -/
theorem keepUnused (hc : ¬(reload i T0 = 1#1)) (h2 : ¬(k0_cond2 i (usedWord T1) = 1#1)) (h3 : k0_cond3 i (usedWord T1) = 1#1) :
    Runs c i arg3 harg3 arg4 harg4 arg5 harg5 arg6 harg6 T0 T1 x0 x1 x2 a0 a1 unusedPieces a0 a1 :=
  (runKeepUnused c i arg3 harg3 arg4 harg4 arg5 harg5 arg6 harg6 T0 T1 x0 x1 x2 a0 a1 hc h2 h3).2.2.2.congr
    (by sl_kernel_rfl) (by sl_kernel_rfl) (by sl_kernel_rfl)

/-- An unused point that rounds the weights anew. -/
theorem reloadUnused (hc : reload i T0 = 1#1) (h2 : ¬(k0_cond2 i (usedWord T1) = 1#1)) (h3 : k0_cond3 i (usedWord T1) = 1#1) :
    Runs c i arg3 harg3 arg4 harg4 arg5 harg5 arg6 harg6 T0 T1 x0 x1 x2 a0 a1 unusedPieces (gateBuf c x1) (downBuf c x2) := by
  refine ((runReloadUnused c i arg3 harg3 arg4 harg4 arg5 harg5 arg6 harg6 T0 T1 x0 x1 x2 hc h2 h3).2.2.2 a0 a1).congr (by sl_kernel_rfl) ?_ ?_
  · refine Eq.trans (b := gateBuf c (View.readAt (Elt Ideal) arg4.view (Rect.unit (s := S1x1x2048x768) ![0, 0, 0, 0] S1x1x2048x768.size inb_S1x1x2048x768_S1x1x2048x768_0_0_0_0).toLoadRect (arg4.view.rep x1))) (by sl_kernel_rfl) ?_
    rw [load_gate]
  · refine Eq.trans (b := downBuf c (View.readAt (Elt Ideal) arg5.view (Rect.unit (s := S1x1x384x2048) ![0, 0, 0, 0] S1x1x384x2048.size inb_S1x1x384x2048_S1x1x384x2048_0_0_0_0).toLoadRect (arg5.view.rep x2))) (by sl_kernel_rfl) ?_
    rw [load_down]

/-- What a used point writes covers its block. -/
theorem used_cover (q0 q1 q2 q3 : Vec Ideal S128x1024 .i32) (lo hi : Vec Ideal S1024x768 .bf16) (dn : Vec Ideal S384x2048 .bf16) :
    ∀ y : S512x2048.Idx, ∃ p ∈ usedPieces q0 q1 q2 q3 lo hi dn, y ∈ p.1.set :=
  View.cover_of_tiledL _ S128x2048.size (by sl_kernel_rfl)

/-- What an unused point writes covers its block. -/
theorem unused_cover : ∀ y : S512x2048.Idx, ∃ p ∈ unusedPieces, y ∈ p.1.set :=
  View.cover_of_tiledL _ S512x2048.size (by sl_kernel_rfl)

end Cert.Kernel3Ideal.Experts

end
-- ==== Proof.ExpertsIdealLaunch.lean ====
module

public import proofs.«01_k».proof.Proof.ExpertsIdealSteps
public import Idealize.ShloMosaic.Lib.Pipeline.Quiescent
public import Idealize.ShloMosaic.Lib.Claim
public import Idealize.ShloMosaic.Lib.Pipeline.ValueKit

@[expose] public section

set_option maxRecDepth 16384
set_option Elab.async false

noncomputable section

namespace Cert.Kernel3Ideal.Experts

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resource the certificate is stated over. -/
local notation "𝕄" => MT nD τ sig Unit (Elt Ideal) ℕ (UR sig nD τ) ℕ

/-- The proof's resource algebra: the rounds library's, embedded whole. -/
abbrev EP : Emb (UR sig nD τ) 𝕄 := emb₁

variable {T0 : S576.Idx → Elt Ideal .i32} {T1 : S1.Idx → Elt Ideal .i32} (hT : Tables T0 T1)
variable (m : (ℓ : Loc nD τ sig) → Buf (Elt Ideal) ℓ) (ρ : Dev nD → PrngReg)

/-! ## The pipeline at the tables -/

/-- The tables, admissible. -/
def adm : (pcfg0 (F := Ideal)).Adm := ⟨tables T0 T1, tables_ok hT⟩
/-- The pipeline at them. -/
abbrev cfgA : Pipeline.Cfg sig Λ₀ := cfg0 (F := Ideal) (adm hT)
/-- The program's pipelines at them. -/
abbrev pcs : Fin 1 → Pipeline.Cfg sig Λ₀ := Pipeline.pin (pcfgs (F := Ideal)) fun _ => adm hT

/-- Point `t`'s coordinates. -/
abbrev crd (t : Fin (cfgA hT).N) : (cfgA hT).grid.Coords := (cfgA hT).grid.coords t

/-- The staging buffer of the packed rows at a point. -/
abbrev ms0 (t : Fin (cfgA hT).N) : Memref sig .tc .vmem S512x1024 .i32 := spec0_0.stage ((cfgA hT).slots t (0 : Fin 4))
abbrev hs0 (t : Fin (cfgA hT).N) : (ms0 hT t).IsWhole := hstage0_0 (((cfgA hT).slots t (0 : Fin 4)).cast nbuf0_0)
/-- The staging buffer of the gate and up weights at a point. -/
abbrev ms1 (t : Fin (cfgA hT).N) : Memref sig .tc .vmem S1x1x2048x768 .f32 := spec0_1.stage ((cfgA hT).slots t (1 : Fin 4))
abbrev hs1 (t : Fin (cfgA hT).N) : (ms1 hT t).IsWhole := hstage0_1 (((cfgA hT).slots t (1 : Fin 4)).cast nbuf0_1)
/-- The staging buffer of the down weights at a point. -/
abbrev ms2 (t : Fin (cfgA hT).N) : Memref sig .tc .vmem S1x1x384x2048 .f32 := spec0_2.stage ((cfgA hT).slots t (2 : Fin 4))
abbrev hs2 (t : Fin (cfgA hT).N) : (ms2 hT t).IsWhole := hstage0_2 (((cfgA hT).slots t (2 : Fin 4)).cast nbuf0_2)
/-- The staging buffer of the result at a point. -/
abbrev ms3 (t : Fin (cfgA hT).N) : Memref sig .tc .vmem S512x2048 .bf16 := spec0_3.stage ((cfgA hT).slots t (3 : Fin 4))
abbrev hs3 (t : Fin (cfgA hT).N) : (ms3 hT t).IsWhole := hstage0_3 (((cfgA hT).slots t (3 : Fin 4)).cast nbuf0_3)

/-- Window `w`'s block at point `t`, read off its array at launch. -/
def iblk (c : Dev nD) (w : Fin (cfgA hT).W) (t : Fin (cfgA hT).N) : (((cfgA hT).win w).xblock (crd hT t)).Idx → Elt Ideal ((cfgA hT).win w).elt :=
  (((cfgA hT).win w).blk t).view.read (Elt Ideal) ((s₀ m ρ).mem (((cfgA hT).win w).arr.view.loc (c : Thread nD τ)))

/-- A point's one coordinate is its number. -/
theorem crd_val (t : Fin (cfgA hT).N) : ((crd hT t) 0).val = t.val := by
  have h := Pipeline.Grid.coords_val (G := grid0) t 0 (S := 1) (B := 576) (by decide) rfl
  have ht : t.val < 576 := lt_of_lt_of_eq t.isLt N_0
  exact h.trans (by omega)

/-- The number of used blocks, as the idle table reads it. -/
theorem atD_used : (tables T0 T1).atD 1 ![0] = usedWord T1 := by
  refine (dif_pos (show ∀ a : Fin 1, (![0] : Fin 1 → ℕ) a + 1 ≤ S1.size a by intro a; match a with | 0 => exact Nat.le_refl _)).trans ?_
  show T1 _ = T1 _
  congr 1

/-- No point leaves the result's buffer unwritten. -/
theorem idle3 (t : Fin (cfgA hT).N) : (cfgA hT).idle (3 : Fin 4) ((cfgA hT).grid.coords t) = false := by
  show (!(k0_cond2 (crd hT t) ((tables T0 T1).atD 1 ![0]) == 1#1) && !(k0_cond3 (crd hT t) ((tables T0 T1).atD 1 ![0]) == 1#1)) = false
  rw [atD_used]
  have h := cond3_iff (crd hT t) (usedWord T1)
  by_cases h2 : k0_cond2 (crd hT t) (usedWord T1) = 1#1
  · rw [h2]; rfl
  · rw [h.2 h2]; simp

/-- Every point's result is written back. -/
theorem flush3 (t : Fin (cfgA hT).N) : ((cfgA hT).win (3 : Fin 4)).flush t = true := by
  have hi : ∀ s : Fin (cfgA hT).N, ((cfgA hT).win (3 : Fin 4)).index s (0 : Fin 2) = s.val := fun s => by
    have hs : s.val < 576 := lt_of_lt_of_eq s.isLt N_0
    show (BitVec.ofNat 32 ((crd hT s) 0).val).toNat = s.val
    rw [crd_val, WordCmp.toNat_ofNat_of_lt (by omega)]
  unfold Window.flush
  by_cases hl : t.val + 1 = (cfgA hT).grid.N
  · rw [decide_eq_true hl]; rfl
  · have hlt : t.val + 1 < (cfgA hT).grid.N := lt_of_le_of_ne t.isLt hl
    have : decide (∃ h : t.val + 1 < (cfgA hT).grid.N, ((cfgA hT).win (3 : Fin 4)).index ⟨t.val + 1, h⟩ ≠ ((cfgA hT).win (3 : Fin 4)).index t) = true := by
      refine decide_eq_true ⟨hlt, fun e => ?_⟩
      have e0 := congrFun e (0 : Fin 2)
      rw [hi, hi] at e0
      exact absurd e0 (Nat.succ_ne_self _)
    rw [this, Bool.or_true]; rfl

/-- The result's buffer holds nothing stored when a point's body starts. -/
theorem fresh3 (t : Fin (cfgA hT).N) : (cfgA hT).fresh (3 : Fin 4) t.val = true :=
  Pipeline.Cfg.fresh_tab (cfgA hT) (3 : Fin 4) (fun _ => true) rfl (fun t => by rw [flush3]; rfl) t.val (Nat.le_of_lt t.isLt)

/-! ## The blocks -/

/-- The gate and up weights at a point are those of its expert. -/
theorem gate_at (c : Dev nD) (t : Fin (cfgA hT).N) (y : S1x1x2048x768.Idx) (k : S4x64x2048x768.Idx) (h0 : (k 0).val = 0)
    (h1 : (k 1).val = (expertAt (crd hT t) T0).toNat) (h2 : (k 2).val = (y 2).val) (h3 : (k 3).val = (y 3).val) :
    iblk hT m ρ c (1 : Fin 4) t y = m ((c : Thread nD τ).loc main_arg3) k := by
  show m ((c : Thread nD τ).loc main_arg3) ((((cfgA hT).win (1 : Fin 4)).rect t).emb y) = _
  congr 1
  funext a
  refine Fin.ext ((Window.rect_emb_val _ t y a).trans ?_)
  match a with
  | 0 => rw [h0]; have := (y 0).isLt; show 0 * 1 + (y 0).val = 0; have h : (y 0).val < 1 := this; omega
  | 1 => rw [h1]; have := (y 1).isLt; show (expertAt (crd hT t) T0).toNat * 1 + (y 1).val = _; have h : (y 1).val < 1 := this; omega
  | 2 => rw [h2]; show 0 * 2048 + (y 2).val = _; omega
  | 3 => rw [h3]; show 0 * 768 + (y 3).val = _; omega

/-- The down weights at a point are those of its expert. -/
theorem down_at (c : Dev nD) (t : Fin (cfgA hT).N) (y : S1x1x384x2048.Idx) (k : S4x64x384x2048.Idx) (h0 : (k 0).val = 0)
    (h1 : (k 1).val = (expertAt (crd hT t) T0).toNat) (h2 : (k 2).val = (y 2).val) (h3 : (k 3).val = (y 3).val) :
    iblk hT m ρ c (2 : Fin 4) t y = m ((c : Thread nD τ).loc main_arg4) k := by
  show m ((c : Thread nD τ).loc main_arg4) ((((cfgA hT).win (2 : Fin 4)).rect t).emb y) = _
  congr 1
  funext a
  refine Fin.ext ((Window.rect_emb_val _ t y a).trans ?_)
  match a with
  | 0 => rw [h0]; have := (y 0).isLt; show 0 * 1 + (y 0).val = 0; have h : (y 0).val < 1 := this; omega
  | 1 => rw [h1]; have := (y 1).isLt; show (expertAt (crd hT t) T0).toNat * 1 + (y 1).val = _; have h : (y 1).val < 1 := this; omega
  | 2 => rw [h2]; show 0 * 384 + (y 2).val = _; omega
  | 3 => rw [h3]; show 0 * 2048 + (y 3).val = _; omega

/-- The index of an expert's gate and up weights. -/
def gateIx (e : ℕ) (he : e < 64) (y : S1x1x2048x768.Idx) : S4x64x2048x768.Idx :=
  fun | 0 => ⟨0, by decide⟩ | 1 => ⟨e, he⟩ | 2 => y 2 | 3 => y 3
/-- The index of an expert's down weights. -/
def downIx (e : ℕ) (he : e < 64) (y : S1x1x384x2048.Idx) : S4x64x384x2048.Idx :=
  fun | 0 => ⟨0, by decide⟩ | 1 => ⟨e, he⟩ | 2 => y 2 | 3 => y 3

include hT in
theorem expert_lt (i : grid0.Coords) : (expertAt i T0).toNat < 64 := hT.1 _

/-- Two points of one expert see the same gate and up weights. -/
theorem gate_same (c : Dev nD) (t s : Fin (cfgA hT).N) (e : expertAt (crd hT t) T0 = expertAt (crd hT s) T0) :
    iblk hT m ρ c (1 : Fin 4) t = iblk hT m ρ c (1 : Fin 4) s := by
  funext y
  rw [gate_at hT m ρ c t y (gateIx _ (expert_lt hT (crd hT t)) y) rfl rfl rfl rfl]
  exact (gate_at hT m ρ c s y (gateIx _ (expert_lt hT (crd hT t)) y) rfl (show (expertAt (crd hT t) T0).toNat = (expertAt (crd hT s) T0).toNat from by rw [e]) rfl rfl).symm

/-- Two points of one expert see the same down weights. -/
theorem down_same (c : Dev nD) (t s : Fin (cfgA hT).N) (e : expertAt (crd hT t) T0 = expertAt (crd hT s) T0) :
    iblk hT m ρ c (2 : Fin 4) t = iblk hT m ρ c (2 : Fin 4) s := by
  funext y
  rw [down_at hT m ρ c t y (downIx _ (expert_lt hT (crd hT t)) y) rfl rfl rfl rfl]
  exact (down_at hT m ρ c s y (downIx _ (expert_lt hT (crd hT t)) y) rfl (show (expertAt (crd hT t) T0).toNat = (expertAt (crd hT s) T0).toNat from by rw [e]) rfl rfl).symm

/-- The point before. -/
abbrev before (t : Fin (cfgA hT).N) : Fin (cfgA hT).N := ⟨t.val - 1, lt_of_le_of_lt (Nat.sub_le _ _) t.isLt⟩

/-- A point that keeps the weights is not the first, and the point before has its expert. -/
theorem keep_before (t : Fin (cfgA hT).N) (hc : ¬(reload (crd hT t) T0 = 1#1)) :
    t.val ≠ 0 ∧ expertAt (crd hT t) T0 = expertAt (crd hT (before hT t)) T0 := by
  obtain ⟨h0, e⟩ := keep_iff (crd hT t) T0 hc
  refine ⟨fun h => h0 ((crd_val hT t).trans h), e.trans ?_⟩
  rw [expertBefore_eq (crd hT t) h0, expertAt_eq]
  congr 1
  funext a
  match a with
  | 0 =>
    refine Fin.ext ?_
    show ((crd hT t) 0).val - 1 = ((crd hT (before hT t)) 0).val
    rw [crd_val, crd_val]

/-! ## What a point leaves -/

/-- The pieces point `t` writes of the result. -/
def outPieces (c : Dev nD) (t : Fin (cfgA hT).N) : List (View.Piece (Elt Ideal) S512x2048 .bf16) :=
  if k0_cond2 (crd hT t) (usedWord T1) = 1#1 then
    blockPieces c (iblk hT m ρ c (0 : Fin 4) t) (gateBuf c (iblk hT m ρ c (1 : Fin 4) t)) (downBuf c (iblk hT m ρ c (2 : Fin 4) t))
  else unusedPieces

/-- They cover the block. -/
theorem out_cover (c : Dev nD) (t : Fin (cfgA hT).N) : ∀ y : S512x2048.Idx, ∃ p ∈ outPieces hT m ρ c t, y ∈ p.1.set := by
  unfold outPieces
  split
  · exact used_cover _ _ _ _ _ _ _
  · exact unused_cover

/-- The block of the result point `t` leaves. -/
def outBlock (c : Dev nD) (t : Fin (cfgA hT).N) : S512x2048.Idx → Elt Ideal .bf16 :=
  View.read (Elt Ideal) (ms3 hT t).view ((ms3 hT t).view.writes (Elt Ideal) (ms3 hT t).view.junk (outPieces hT m ρ c t))

/-- The invariant before point `t`: the scratches hold the rounded weights of the point before (anything before the
    first point), and the body has its halves of the tables. -/
def Phi (c : Dev nD) (t : Fin ((cfgA hT).N + 1)) : sProp 𝕄 :=
  iprop((∃ a, ⌜∀ s : Fin (cfgA hT).N, t.val = s.val + 1 → a = gateBuf c (iblk hT m ρ c (1 : Fin 4) s)⌝ ∗ (scrG.view.loc (c : Thread nD τ) ↦{fullShare} a))
    ∗ (∃ a, ⌜∀ s : Fin (cfgA hT).N, t.val = s.val + 1 → a = downBuf c (iblk hT m ρ c (2 : Fin 4) s)⌝ ∗ (scrD.view.loc (c : Thread nD τ) ↦{fullShare} a))
    ∗ (tabE.view.loc (c : Thread nD τ) ↦{fullShare.right} T0) ∗ (tabN.view.loc (c : Thread nD τ) ↦{fullShare.right} T1))

/-- The proof data of the pipeline on core `c`. -/
def dats (_ : Fin 1) (c : Dev nD) : Dat τ (Elt Ideal) Unit ℕ (UR sig nD τ) ℕ (cfgA hT) c where
  A w := (s₀ m ρ).mem (((cfgA hT).win w).arr.view.loc (c : Thread nD τ))
  after w t := match w with
    | ⟨0, _⟩ => iblk hT m ρ c (0 : Fin 4) t
    | ⟨1, _⟩ => iblk hT m ρ c (1 : Fin 4) t
    | ⟨2, _⟩ => iblk hT m ρ c (2 : Fin 4) t
    | ⟨3, _⟩ => outBlock hT m ρ c t
  Φ t := Phi hT m ρ c t
  q _ := fullShare
  owed _ := 0

theorem after_0 (c : Dev nD) (t : Fin (cfgA hT).N) : (dats hT m ρ 0 c).after (0 : Fin 4) t = iblk hT m ρ c (0 : Fin 4) t := rfl
theorem after_1 (c : Dev nD) (t : Fin (cfgA hT).N) : (dats hT m ρ 0 c).after (1 : Fin 4) t = iblk hT m ρ c (1 : Fin 4) t := rfl
theorem after_2 (c : Dev nD) (t : Fin (cfgA hT).N) : (dats hT m ρ 0 c).after (2 : Fin 4) t = iblk hT m ρ c (2 : Fin 4) t := rfl
theorem after_3 (c : Dev nD) (t : Fin (cfgA hT).N) : (dats hT m ρ 0 c).after (3 : Fin 4) t = outBlock hT m ρ c t := rfl

/-- The packed rows' buffer holds its block at a point. -/
theorem before_0 (c : Dev nD) (t : Fin (cfgA hT).N) (d) : (dats hT m ρ 0 c).before (0 : Fin 4) t d = iblk hT m ρ c (0 : Fin 4) t :=
  ((dats hT m ρ 0 c).before_in_eq_fetched (0 : Fin 4) rfl (fun _ => rfl) (fun _ _ _ => rfl) (fun t => by rw [after_0]; unfold Dat.blockOf iblk; rfl) t d).trans
    (by unfold Dat.fetched Dat.blockOf iblk; rfl)
/-- So does the gate and up weights' buffer. -/
theorem before_1 (c : Dev nD) (t : Fin (cfgA hT).N) (d) : (dats hT m ρ 0 c).before (1 : Fin 4) t d = iblk hT m ρ c (1 : Fin 4) t :=
  ((dats hT m ρ 0 c).before_in_eq_fetched (1 : Fin 4) rfl (fun _ => rfl) (fun _ _ _ => rfl) (fun t => by rw [after_1]; unfold Dat.blockOf iblk; rfl) t d).trans
    (by unfold Dat.fetched Dat.blockOf iblk; rfl)
/-- So does the down weights' buffer. -/
theorem before_2 (c : Dev nD) (t : Fin (cfgA hT).N) (d) : (dats hT m ρ 0 c).before (2 : Fin 4) t d = iblk hT m ρ c (2 : Fin 4) t :=
  ((dats hT m ρ 0 c).before_in_eq_fetched (2 : Fin 4) rfl (fun _ => rfl) (fun _ _ _ => rfl) (fun t => by rw [after_2]; unfold Dat.blockOf iblk; rfl) t d).trans
    (by unfold Dat.fetched Dat.blockOf iblk; rfl)

/-- The body at point `t` on its staging buffers. -/
abbrev bodyAt (t : Fin (cfgA hT).N) : Prog (TpuEff nD τ sig (Elt Ideal) Λ₀ .tc) PUnit :=
  cc0__expert_kernel (crd hT t) (Memref.whole main_arg1) (Memref.isWhole_whole _) (Memref.whole main_arg2) (Memref.isWhole_whole _) (ms0 hT t) (hs0 hT t)
    (ms1 hT t) (hs1 hT t) (ms2 hT t) (hs2 hT t) (ms3 hT t) (hs3 hT t) (Memref.whole cc0_scratch0) (Memref.isWhole_whole _) (Memref.whole cc0_scratch1) (Memref.isWhole_whole _)

/-- One triple for every path: from scratches that hold the rounded weights of the point before, the body leaves those of
    this point, and the pieces of its block. -/
theorem step (c : Dev nD) (t : Fin (cfgA hT).N) (a0 : Buf (Elt Ideal) ((c : Thread nD τ).loc cc0_scratch0)) (a1 : Buf (Elt Ideal) ((c : Thread nD τ).loc cc0_scratch1))
    (h0 : ∀ s : Fin (cfgA hT).N, t.val = s.val + 1 → a0 = gateBuf c (iblk hT m ρ c (1 : Fin 4) s))
    (h1 : ∀ s : Fin (cfgA hT).N, t.val = s.val + 1 → a1 = downBuf c (iblk hT m ρ c (2 : Fin 4) s)) :
    Runs c (crd hT t) (ms0 hT t) (hs0 hT t) (ms1 hT t) (hs1 hT t) (ms2 hT t) (hs2 hT t) (ms3 hT t) (hs3 hT t) T0 T1
      (iblk hT m ρ c (0 : Fin 4) t) (iblk hT m ρ c (1 : Fin 4) t) (iblk hT m ρ c (2 : Fin 4) t) a0 a1 (outPieces hT m ρ c t)
      (gateBuf c (iblk hT m ρ c (1 : Fin 4) t)) (downBuf c (iblk hT m ρ c (2 : Fin 4) t)) := by
  have h3 := cond3_iff (crd hT t) (usedWord T1)
  by_cases hc : reload (crd hT t) T0 = 1#1
  · by_cases h2 : k0_cond2 (crd hT t) (usedWord T1) = 1#1
    · exact (reloadUsed c (crd hT t) (ms0 hT t) (hs0 hT t) (ms1 hT t) (hs1 hT t) (ms2 hT t) (hs2 hT t) (ms3 hT t) (hs3 hT t) T0 T1
        _ _ _ a0 a1 hc h2 (fun h => h3.1 h h2)).congr (by unfold outPieces; rw [if_pos h2]) rfl rfl
    · exact (reloadUnused c (crd hT t) (ms0 hT t) (hs0 hT t) (ms1 hT t) (hs1 hT t) (ms2 hT t) (hs2 hT t) (ms3 hT t) (hs3 hT t) T0 T1
        _ _ _ a0 a1 hc h2 (h3.2 h2)).congr (by unfold outPieces; rw [if_neg h2]) rfl rfl
  · obtain ⟨hz, e⟩ := keep_before hT t hc
    have hs : t.val = (before hT t).val + 1 := by show t.val = t.val - 1 + 1; omega
    have e0 : a0 = gateBuf c (iblk hT m ρ c (1 : Fin 4) t) := by rw [h0 _ hs, gate_same hT m ρ c t _ e]
    have e1 : a1 = downBuf c (iblk hT m ρ c (2 : Fin 4) t) := by rw [h1 _ hs, down_same hT m ρ c t _ e]
    subst e0; subst e1
    by_cases h2 : k0_cond2 (crd hT t) (usedWord T1) = 1#1
    · exact (keepUsed c (crd hT t) (ms0 hT t) (hs0 hT t) (ms1 hT t) (hs1 hT t) (ms2 hT t) (hs2 hT t) (ms3 hT t) (hs3 hT t) T0 T1
        _ _ _ _ _ hc h2 (fun h => h3.1 h h2)).congr (by unfold outPieces; rw [if_pos h2]) rfl rfl
    · exact (keepUnused c (crd hT t) (ms0 hT t) (hs0 hT t) (ms1 hT t) (hs1 hT t) (ms2 hT t) (hs2 hT t) (ms3 hT t) (hs3 hT t) T0 T1
        _ _ _ _ _ hc h2 (h3.2 h2)).congr (by unfold outPieces; rw [if_neg h2]) rfl rfl

set_option maxHeartbeats 4000000 in
/-- The body obligation at point `t`. -/
theorem sound_body (c : Dev nD) (t : Fin (cfgA hT).N) :
    iprop((dats hT m ρ 0 c).Φ t.castSucc ∗ (dats hT m ρ 0 c).owesAt () t.castSucc
        ∗ (∃ d, owns (c : Thread nD τ) (ms0 hT t) fullShare ((dats hT m ρ 0 c).before (0 : Fin 4) t d))
        ∗ (∃ d, owns (c : Thread nD τ) (ms1 hT t) fullShare ((dats hT m ρ 0 c).before (1 : Fin 4) t d))
        ∗ (∃ d, owns (c : Thread nD τ) (ms2 hT t) fullShare ((dats hT m ρ 0 c).before (2 : Fin 4) t d))
        ∗ (∃ d, owns (c : Thread nD τ) (ms3 hT t) fullShare ((dats hT m ρ 0 c).before (3 : Fin 4) t d)))
      ⊢ wp frame (wpE (defs₀ (F := Ideal)) Variants.none c none) Set.univ (bodyAt hT t) fun _ =>
          iprop((dats hT m ρ 0 c).Φ t.succ ∗ (dats hT m ρ 0 c).owesAt () t.succ
            ∗ bigSep Finset.univ fun w : Fin (cfgA hT).W =>
                match (cfgA hT).idle w ((cfgA hT).grid.coords t) with
                | true =>
                  match ((cfgA hT).win w).flush t with
                  | false => iprop(∃ d, owns (c : Thread nD τ) (((cfgA hT).win w).stage ((cfgA hT).slots t w)) fullShare ((dats hT m ρ 0 c).before w t d))
                  | true => owns (c : Thread nD τ) (((cfgA hT).win w).stage ((cfgA hT).slots t w)) fullShare ((dats hT m ρ 0 c).after w t)
                | false => owns (c : Thread nD τ) (((cfgA hT).win w).stage ((cfgA hT).slots t w)) fullShare ((dats hT m ρ 0 c).after w t)) := by
  rw [bigSep_W0]
  rewrite [idle3 hT t]
  simp only [before_0, before_1, before_2, after_0, after_1, after_2, after_3]
  rewrite [show (dats hT m ρ 0 c).Φ t.succ = Phi hT m ρ c t.succ from rfl, show (dats hT m ρ 0 c).Φ t.castSucc = Phi hT m ρ c t.castSucc from rfl,
    show (dats hT m ρ 0 c).owesAt () t.succ = (dats hT m ρ 0 c).owesAt () t.castSucc from rfl]
  unfold Phi; simp only [Fin.val_castSucc, Fin.val_succ]
  iintro ⟨⟨⟨%a0, %ha0, HS0⟩, ⟨%a1, %ha1, HS1⟩, HT0, HT1⟩, Ho, ⟨%d0, H0⟩, ⟨%d1, H1⟩, ⟨%d2, H2⟩, ⟨%d3, H3⟩⟩
  iapply (step hT m ρ c t a0 a1 ha0 ha1 _)
  isplitl [H0]; · iapply rep_of_owns; iexact H0
  isplitl [H1]; · iapply rep_of_owns; iexact H1
  isplitl [H2]; · iapply rep_of_owns; iexact H2
  isplitl [HT0]; · iexact HT0
  isplitl [HT1]; · iexact HT1
  isplitl [H3]; · iexists _; iexact H3
  isplitl [HS0]; · iexact HS0
  isplitl [HS1]; · iexact HS1
  iintro ⟨H0, H1, H2, HT0, HT1, ⟨%e3, H3⟩, HS0, HS1⟩
  isplitl [HS0 HS1 HT0 HT1]
  · isplitl [HS0]
    · iexists _; isplitr; swap
      · iexact HS0
      · ipureintro; intro s hs; rw [show t = s from Fin.ext (Nat.succ.inj hs)]
    isplitl [HS1]
    · iexists _; isplitr; swap
      · iexact HS1
      · ipureintro; intro s hs; rw [show t = s from Fin.ext (Nat.succ.inj hs)]
    isplitl [HT0]
    · iexact HT0
    iexact HT1
  isplitl [Ho]; · iexact Ho
  isplitl [H0]
  · iapply owns_of_rep; iexact H0
  isplitl [H1]
  · iapply owns_of_rep; iexact H1
  isplitl [H2]
  · iapply owns_of_rep; iexact H2
  unfold owns; iexists _; isplitr; swap
  · iexact H3
  · ipureintro; exact View.read_writes_of_cover _ _ _ _ _ (out_cover hT m ρ c t)

/-- The library's body obligation, at every point. -/
theorem body_obligation (c : Dev nD) : BodyObligation (dats hT m ρ 0 c) (defs₀ (F := Ideal)) Variants.none () Set.univ := fun t => by
  rw [bigSep_W0]
  exact sound_body hT m ρ c t

/-! ## The launch -/

/-- The launch memory holds the tables. -/
def Pinned (T0 : S576.Idx → Elt Ideal .i32) (T1 : S1.Idx → Elt Ideal .i32) (m : (ℓ : Loc nD τ sig) → Buf (Elt Ideal) ℓ) : Prop :=
  (∀ c : Dev nD, m ((c : Thread nD τ).loc main_arg1) = T0) ∧ (∀ c : Dev nD, m ((c : Thread nD τ).loc main_arg2) = T1)

/-- The rounds library's launch element. -/
def u₀ : UR sig nD τ :=
  initOf (Pipeline.cells (pcs hT) ((launch0 (F := Ideal)).cellOf_inj fun _ => adm hT))
    (Pipeline.launchToks (pcs hT) ((launch0 (F := Ideal)).cellOf_inj fun _ => adm hT))

theorem share_eq (c : Dev nD) (w : Fin (cfgA hT).W) : (dats hT m ρ 0 c).share w = fullShare := by unfold Dat.share; split <;> rfl

/-- The tables as the launch hands them to the region, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point, from the tables and the scratches. -/
theorem phi_intro (c : Dev nD) :
    iprop(BI.emp ∗ Pipeline.prefHeld pre0 c (fun _ => fullShare.right) (adm hT).1 ∗ Pipeline.scopedRest spec0 c) ⊢ (dats hT m ρ 0 c).Φ 0 := by
  rw [prefHeld_eq, scopedRest0_eq, show (dats hT m ρ 0 c).Φ 0 = Phi hT m ρ c 0 from rfl]
  unfold Phi
  iintro ⟨-, ⟨HT0, HT1⟩, ⟨%a0, HS0⟩, ⟨%a1, HS1⟩⟩
  isplitl [HS0]
  · iexists a0; isplitr; swap
    · iexact HS0
    · ipureintro; intro s h; exact absurd h (Nat.succ_ne_zero _).symm
  isplitl [HS1]
  · iexists a1; isplitr; swap
    · iexact HS1
    · ipureintro; intro s h; exact absurd h (Nat.succ_ne_zero _).symm
  isplitl [HT0]
  · iexact HT0
  iexact HT1

/-- At the end the invariant gives the scratches back. -/
theorem phi_exit (c : Dev nD) : (dats hT m ρ 0 c).Φ (Fin.last (cfgA hT).N) ⊢ iprop(BI.emp ∗ Pipeline.scopedRest spec0 c) := by
  rw [scopedRest0_eq, show (dats hT m ρ 0 c).Φ (Fin.last (cfgA hT).N) = Phi hT m ρ c (Fin.last _) from rfl]
  unfold Phi
  iintro ⟨⟨%a0, -, HS0⟩, ⟨%a1, -, HS1⟩, -, -⟩
  isplitr; · iempintro
  isplitl [HS0]
  · iexists a0; iexact HS0
  iexists a1; iexact HS1

/-- What a final state holds: every array at what the pipeline computes, every table as it was. -/
def QC : PUnit × MemSt nD τ sig (Elt Ideal) → Prop := fun r =>
  ∀ c : Dev nD, (∀ w : Fin (cfgA hT).W, r.2.mem (((cfgA hT).win w).arr.view.loc (c : Thread nD τ)) = (dats hT m ρ 0 c).arrAt w (cfgA hT).N)
    ∧ ∀ j, r.2.mem ((c : Thread nD τ).loc (pre0.ref j)) = (adm hT).1 j

theorem V_pre (hp : Pinned T0 T1 m) (c : Dev nD) (j : Fin 2) : m ((c : Thread nD τ).loc (pre0.ref j)) = (adm hT).1 j := by
  fin_cases j
  · exact hp.1 c
  · exact hp.2 c

set_option backward.isDefEq.respectTransparency.types false in
set_option maxHeartbeats 4000000 in
/-- From a memory that holds the tables, every execution terminates, every final state has each array at the computed
    contents, and every semaphore counter reads zero. -/
theorem run_main (hp : Pinned T0 T1 m) : θ_run (defs (F := Ideal)) (onTc (τ := τ) (main (F := Ideal))) (s₀ m ρ) (fun r => QC hT m ρ r ∧ r.2.sem = fun _ => 0) :=
  Pipeline.θ_run_region_noSem_pf_quiescent pcfgs (fun _ => adm hT) (dats hT m ρ) () ((launch0 (F := Ideal)).cellOf_inj fun _ => adm hT) (0 : Fin 1)
    (launch0 (F := Ideal)).win.to₀ (launch0 (F := Ideal)).pre EP defs₀ Variants.none m ρ main
    (hbody := fun c => (body_obligation hT m ρ c).loose) (hne := (launch0 (F := Ideal)).block_pos)
    (harr := (launch0 (F := Ideal)).arr_whole) (hstage := (launch0 (F := Ideal)).stage_whole) (howed := fun _ _ => rfl)
    (u₀ := u₀ hT) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs hT) (dats hT m ρ) 0 (launch0 (F := Ideal)).win.arr_inj c (launch0 (F := Ideal)).arr_whole
      (share_eq hT m ρ c) _ _ fun _ => rfl)
    (hpf := V_pre hT m hp)
    (X := fun _ => iprop(emp)) (Y := fun _ => iprop(emp)) (Z := fun _ => iprop(emp))
    (hX := fun c => by rw [unscopedRestP0_eq]; iintro -; isplitr <;> iempintro)
    (hin := phi_intro hT m ρ)
    (hout := phi_exit hT m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

include hT in
/-- From a memory that holds the tables, every execution terminates, leaves the arguments as they were and every semaphore
    counter at zero. -/
theorem frame_of (hp : Pinned T0 T1 m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).1 (0 : Fin 4)).trans ((dats hT m ρ 0 c).arrAt_in (0 : Fin 4) rfl _),
    ((h.1 c).2 0).trans (hp.1 c).symm, ((h.1 c).2 1).trans (hp.2 c).symm,
    ((h.1 c).1 (1 : Fin 4)).trans ((dats hT m ρ 0 c).arrAt_in (1 : Fin 4) rfl _),
    ((h.1 c).1 (2 : Fin 4)).trans ((dats hT m ρ 0 c).arrAt_in (2 : Fin 4) rfl _)⟩, h.2⟩) (run_main hT m ρ hp)

end Cert.Kernel3Ideal.Experts

end
-- ==== Proof.ExpertsFormula.lean ====
module

public import Idealize.ShloMosaic.Lib.Pipeline.ValueKit

/-!
# An expert's row

What a feed-forward expert makes of one row. The row is given packed: word `k` of 1024 carries entry `k` of the row in its
low half and entry `1024 + k` in its high half.
-/

@[expose] public section

set_option maxRecDepth 16384
set_option backward.proofsInPublic true

noncomputable section

namespace Cert.Experts

open Idealize.ShloMosaic

/-- The entry a word carries in its low half. -/
def low (w : BitVec 32) : EReal := Ideal.ofBits FTy.f32 (IntOp.shli ArithUnit.vector w 16#32)
/-- The entry a word carries in its high half. -/
def high (w : BitVec 32) : EReal := Ideal.ofBits FTy.f32 (IntOp.andi w 4294901760#32)

/-- A packed row times column `n` of the gate and up weights. -/
def hid (Q : Fin 1024 → BitVec 32) (W : Fin 2048 → Fin 768 → EReal) (n : Fin 768) : EReal :=
  ∑ k : Fin 1024, low (Q k) * W ⟨k.val, by omega⟩ n + ∑ k : Fin 1024, high (Q k) * W ⟨1024 + k.val, by omega⟩ n

/-- The gated activation: the gate times its logistic, times the up projection. -/
def gated (Q : Fin 1024 → BitVec 32) (W : Fin 2048 → Fin 768 → EReal) (n : Fin 384) : EReal :=
  hid Q W ⟨n.val, by omega⟩ * Ideal.div 1 (1 + Ideal.exp (0 - hid Q W ⟨n.val, by omega⟩)) * hid Q W ⟨384 + n.val, by omega⟩

/-- Entry `j` of the expert's row: the gated activation times column `j` of the down weights. -/
def expertRow (Q : Fin 1024 → BitVec 32) (W : Fin 2048 → Fin 768 → EReal) (D : Fin 384 → Fin 2048 → EReal) (j : Fin 2048) : EReal :=
  ∑ n : Fin 384, gated Q W n * D n j

end Cert.Experts

end
-- ==== Proof.ExpertsPay.lean ====
module

public import proofs.«01_k».proof.Proof.ExpertsIdealLaunch
public import proofs.«01_k».proof.Proof.ExpertsFormula

/-!
# The experts' kernel: what a point writes, entry by entry
-/

@[expose] public section

set_option maxRecDepth 16384
set_option backward.proofsInPublic true

noncomputable section

namespace Cert.Kernel3Ideal.Experts

open Cert.Kernel3Ideal Cert.Kernel3Ideal.Gen Cert.Experts
open Idealize.ShloMosaic
open Idealize.ShloMosaic.TcCoe

section payloads

variable (q : Vec Ideal S128x1024 .i32) (lo hi : Vec Ideal S1024x768 .bf16) (dn : Vec Ideal S384x2048 .bf16) (y : S128x2048.Idx)
  (Q : Fin 1024 → BitVec 32) (W : Fin 2048 → Fin 768 → EReal) (D : Fin 384 → Fin 2048 → EReal)
  (hq : ∀ k : Fin 1024, q (ix2 (y 0) k) = Q k) (hlo : ∀ (k : Fin 1024) (n : Fin 768), lo (ix2 k n) = W ⟨k.val, by omega⟩ n)
  (hhi : ∀ (k : Fin 1024) (n : Fin 768), hi (ix2 k n) = W ⟨1024 + k.val, by omega⟩ n) (hdn : ∀ n : Fin 384, dn (ix2 n (y 1)) = D n (y 1))

include hq hlo hhi hdn

/-- The first 128 rows. -/
theorem pay5_at : k0_pay5 q lo hi dn y = expertRow Q W D (y 1) := by
  pointwise [k0_pay5]
  simp only [hq, hlo, hhi, hdn]
  rfl
/-- The second 128 rows. -/
theorem pay8_at : k0_pay8 (k0_pay6 q) (k0_pay7 q) lo hi dn y = expertRow Q W D (y 1) := by
  pointwise [k0_pay8, k0_pay6, k0_pay7]
  simp only [hq, hlo, hhi, hdn]
  rfl
/-- The third 128 rows. -/
theorem pay11_at : k0_pay11 (k0_pay9 q lo) hi (k0_pay10 q) (constant S128x768 .f32 0x00000000#32) dn y = expertRow Q W D (y 1) := by
  pointwise [k0_pay11, k0_pay9, k0_pay10]
  simp only [hq, hlo, hhi, hdn]
  rfl
/-- The last 128 rows. -/
theorem pay3_at : k0_pay3 (k0_pay12 q lo hi) (k0_pay13 q lo hi) (k0_pay14 q lo hi) (FloatOps.ofBits .f32 1065353216#32) dn y = expertRow Q W D (y 1) := by
  pointwise [k0_pay3, k0_pay12, k0_pay13, k0_pay14]
  simp only [hq, hlo, hhi, hdn]
  rfl

end payloads

/-- The rounded gate and up weights, entry by entry. -/
theorem pay1_at (x1 : Vec Ideal S1x1x2048x768 .f32) (y : S2048x768.Idx) : k0_pay1 x1 y = x1 (ix4 0 0 (y 0) (y 1)) := by
  pointwise [k0_pay1]
/-- The rounded down weights, entry by entry. -/
theorem pay2_at (x2 : Vec Ideal S1x1x384x2048 .f32) (y : S384x2048.Idx) : k0_pay2 x2 y = x2 (ix4 0 0 (y 0) (y 1)) := by
  pointwise [k0_pay2]
/-- An unused block is zero. -/
theorem pay4_at (y : S512x2048.Idx) : k0_pay4 (F := Ideal) y = (0 : EReal) := by
  pointwise [k0_pay4]

end Cert.Kernel3Ideal.Experts

end
-- ==== Proof.ExpertsScratch.lean ====
module

public import proofs.«01_k».proof.Proof.ExpertsPay

/-!
# The experts' kernel: the scratches' weights, entry by entry
-/

@[expose] public section

set_option maxRecDepth 16384
set_option backward.proofsInPublic true

noncomputable section

namespace Cert.Kernel3Ideal.Experts

open Cert.Kernel3Ideal Cert.Kernel3Ideal.Gen Cert.Experts
open Idealize.ShloMosaic
open Idealize.ShloMosaic.TcCoe

/-- The scratch of gate and up weights, read whole. -/
theorem gateBuf_read (c : Dev nD) (x1 : Vec Ideal S1x1x2048x768 .f32) : View.read (Elt Ideal) scrG.view (gateBuf c x1) = k0_pay1 x1 := by
  have e : gateBuf c x1 = scrG.view.writes (Elt Ideal) scrG.view.junk [⟨Rect.unit (s := S2048x768) ![0, 0] S2048x768.size inb_S2048x768_S2048x768_0_0, k0_pay1 x1⟩] := by
    sl_kernel_rfl
  rw [e]
  exact View.read_writes_full scrG.view _ _ _ _

/-- The scratch of down weights, read whole. -/
theorem downBuf_read (c : Dev nD) (x2 : Vec Ideal S1x1x384x2048 .f32) : View.read (Elt Ideal) scrD.view (downBuf c x2) = k0_pay2 x2 := by
  have e : downBuf c x2 = scrD.view.writes (Elt Ideal) scrD.view.junk [⟨Rect.unit (s := S384x2048) ![0, 0] S384x2048.size inb_S384x2048_S384x2048_0_0, k0_pay2 x2⟩] := by
    sl_kernel_rfl
  rw [e]
  exact View.read_writes_full scrD.view _ _ _ _

/-- The upper half of the rounded gate and up weights. -/
theorem loOf_at (c : Dev nD) (x1 : Vec Ideal S1x1x2048x768 .f32) (n : Fin 1024) (j : Fin 768) :
    loOf c (gateBuf c x1) (ix2 n j) = x1 (ix4 0 0 ⟨n.val, by omega⟩ j) := by
  have e : loOf c (gateBuf c x1) (ix2 n j) = View.read (Elt Ideal) scrG.view (gateBuf c x1) ((Rect.unit (s := S2048x768) ![0, 0] S1024x768.size inb_S2048x768_S1024x768_0_0).toLoadRect.idx (ix2 n j)) := by
    unfold loOf
    exact rfl
  rw [e, gateBuf_read, pay1_at]
  congr 1
  funext a
  refine Fin.ext ?_
  match a with
  | 0 => rfl
  | 1 => rfl
  | 2 => show 0 + 1 * n.val = n.val; omega
  | 3 => show 0 + 1 * j.val = j.val; omega

/-- The lower half of them. -/
theorem hiOf_at (c : Dev nD) (x1 : Vec Ideal S1x1x2048x768 .f32) (n : Fin 1024) (j : Fin 768) :
    hiOf c (gateBuf c x1) (ix2 n j) = x1 (ix4 0 0 ⟨1024 + n.val, by omega⟩ j) := by
  have e : hiOf c (gateBuf c x1) (ix2 n j) = View.read (Elt Ideal) scrG.view (gateBuf c x1) ((Rect.unit (s := S2048x768) ![1024, 0] S1024x768.size inb_S2048x768_S1024x768_1024_0).toLoadRect.idx (ix2 n j)) := by
    unfold hiOf
    exact rfl
  rw [e, gateBuf_read, pay1_at]
  congr 1
  funext a
  refine Fin.ext ?_
  match a with
  | 0 => rfl
  | 1 => rfl
  | 2 => show 1024 + 1 * n.val = 1024 + n.val; omega
  | 3 => show 0 + 1 * j.val = j.val; omega

/-- The rounded down weights, loaded whole. -/
theorem dnOf_eq (c : Dev nD) (x2 : Vec Ideal S1x1x384x2048 .f32) : dnOf c (downBuf c x2) = k0_pay2 x2 := by
  unfold dnOf
  exact (View.readAt_full scrD.view _ _).trans (downBuf_read c x2)
/-- The rounded down weights. -/
theorem dnOf_at (c : Dev nD) (x2 : Vec Ideal S1x1x384x2048 .f32) (n : Fin 384) (j : Fin 2048) :
    dnOf c (downBuf c x2) (ix2 n j) = x2 (ix4 0 0 n j) := by
  rw [dnOf_eq]
  exact pay2_at x2 (ix2 n j)

end Cert.Kernel3Ideal.Experts

end
-- ==== Proof.ExpertsBlock.lean ====
module

public import proofs.«01_k».proof.Proof.ExpertsScratch

/-!
# The experts' kernel: a point's block, and the whole result
-/

@[expose] public section

set_option maxRecDepth 16384
set_option backward.proofsInPublic true

noncomputable section

namespace Cert.Kernel3Ideal.Experts

open Cert.Kernel3Ideal Cert.Kernel3Ideal.Gen Cert.Experts
open Idealize.ShloMosaic
open Idealize.ShloMosaic.TcCoe
open Idealize.ShloMosaic.Pipeline (Dat Cfg Window)

/-- A used block, entry by entry: the expert's row of the packed row. -/
theorem used_at {sig' : RefSig} {κ : Kind} {sp : Space} (v : View sig' κ sp S512x2048 .bf16) (f : v.ty.Contents (Elt Ideal))
    (c : Dev nD) (x0 : Vec Ideal S512x1024 .i32) (x1 : Vec Ideal S1x1x2048x768 .f32) (x2 : Vec Ideal S1x1x384x2048 .f32) (y : S512x2048.Idx) :
    v.read (Elt Ideal) (v.writes (Elt Ideal) f (blockPieces c x0 (gateBuf c x1) (downBuf c x2))) y
      = expertRow (fun k => x0 (ix2 (y 0) k)) (fun k n => x1 (ix4 0 0 k n)) (fun n j => x2 (ix4 0 0 n j)) (y 1) := by
  refine View.read_writes_apply_of_pieces (Val := Elt Ideal) v f
    (fun (y : S512x2048.Idx) => expertRow (fun k => x0 (ix2 (y 0) k)) (fun k n => x1 (ix4 0 0 k n)) (fun n j => x2 (ix4 0 0 n j)) (y 1)) _ ?_ y
    (used_cover _ _ _ _ _ _ _ y)
  have key : ∀ (r : ℕ) (h : ∀ a, (![r, 0] : Fin 2 → ℕ) a + S128x1024.size a ≤ S512x1024.size a)
      (h' : ∀ a, (![r, 0] : Fin 2 → ℕ) a + S128x2048.size a ≤ S512x2048.size a) (z : S128x2048.Idx),
      expertRow (fun k => rowsAt x0 r h (ix2 (z 0) k)) (fun k n => x1 (ix4 0 0 k n)) (fun n j => x2 (ix4 0 0 n j)) (z 1)
        = expertRow (fun k => x0 (ix2 (((Rect.unit (s := S512x2048) ![r, 0] S128x2048.size h').emb z) 0) k)) (fun k n => x1 (ix4 0 0 k n))
            (fun n j => x2 (ix4 0 0 n j)) (((Rect.unit (s := S512x2048) ![r, 0] S128x2048.size h').emb z) 1) := by
    intro r h h' z
    have e1 : (((Rect.unit (s := S512x2048) ![r, 0] S128x2048.size h').emb z) 1) = z 1 := by
      refine Fin.ext ?_
      show 0 + 1 * (z 1).val = (z 1).val
      omega
    have e0 : (fun k : Fin 1024 => rowsAt x0 r h (ix2 (z 0) k)) = fun k => x0 (ix2 (((Rect.unit (s := S512x2048) ![r, 0] S128x2048.size h').emb z) 0) k) := by
      funext k
      unfold rowsAt
      congr 1
      funext a
      refine Fin.ext ?_
      match a with
      | 0 => rfl
      | 1 => show 0 + 1 * k.val = k.val; omega
    rw [e0]
    exact congrArg _ e1.symm
  intro p hp z
  unfold blockPieces usedPieces at hp
  rcases List.mem_cons.mp hp with rfl | hp
  · exact (pay3_at _ _ _ _ z _ _ _ (fun _ => rfl) (loOf_at c x1) (hiOf_at c x1) (fun n => dnOf_at c x2 n (z 1))).trans (key 384 inb_S512x1024_S128x1024_384_0 inb_S512x2048_S128x2048_384_0 z)
  rcases List.mem_cons.mp hp with rfl | hp
  · exact (pay11_at _ _ _ _ z _ _ _ (fun _ => rfl) (loOf_at c x1) (hiOf_at c x1) (fun n => dnOf_at c x2 n (z 1))).trans (key 256 inb_S512x1024_S128x1024_256_0 inb_S512x2048_S128x2048_256_0 z)
  rcases List.mem_cons.mp hp with rfl | hp
  · exact (pay8_at _ _ _ _ z _ _ _ (fun _ => rfl) (loOf_at c x1) (hiOf_at c x1) (fun n => dnOf_at c x2 n (z 1))).trans (key 128 inb_S512x1024_S128x1024_128_0 inb_S512x2048_S128x2048_128_0 z)
  obtain rfl := List.mem_singleton.mp hp
  exact (pay5_at _ _ _ _ z _ _ _ (fun _ => rfl) (loOf_at c x1) (hiOf_at c x1) (fun n => dnOf_at c x2 n (z 1))).trans (key 0 inb_S512x1024_S128x1024_0_0 inb_S512x2048_S128x2048_0_0 z)

/-- An unused block is zero. -/
theorem unused_at {sig' : RefSig} {κ : Kind} {sp : Space} (v : View sig' κ sp S512x2048 .bf16) (f : v.ty.Contents (Elt Ideal)) (y : S512x2048.Idx) :
    v.read (Elt Ideal) (v.writes (Elt Ideal) f unusedPieces) y = (0 : EReal) := by
  refine View.read_writes_apply_of_pieces (Val := Elt Ideal) v f (fun _ => (0 : EReal)) _ ?_ y (unused_cover y)
  intro p hp z
  unfold unusedPieces at hp
  obtain rfl := List.mem_singleton.mp hp
  exact pay4_at z

variable {T0 : S576.Idx → Elt Ideal .i32} {T1 : S1.Idx → Elt Ideal .i32} (hT : Tables T0 T1)
variable (m : (ℓ : Loc nD τ sig) → Buf (Elt Ideal) ℓ) (ρ : Dev nD → PrngReg)

/-- The packed rows at a used point are its own 512. -/
theorem rows_at (c : Dev nD) (t : Fin (cfgA hT).N) (hu : k0_cond2 (crd hT t) (usedWord T1) = 1#1) (y : S512x1024.Idx) (k : S294912x1024.Idx)
    (h0 : (k 0).val = t.val * 512 + (y 0).val) (h1 : (k 1).val = (y 1).val) :
    iblk hT m ρ c (0 : Fin 4) t y = m ((c : Thread nD τ).loc main_arg0) k := by
  have hm := (min_eq (crd hT t) (usedWord T1) ((cond2_iff _ _).1 hu)).trans (crd_val hT t)
  show m ((c : Thread nD τ).loc main_arg0) ((((cfgA hT).win (0 : Fin 4)).rect t).emb y) = _
  congr 1
  funext a
  refine Fin.ext ((Window.rect_emb_val _ t y a).trans ?_)
  match a with
  | 0 =>
    rw [h0]
    show (Scalar.minsi (BitVec.ofNat 32 ((crd hT t) 0).val) (Scalar.subi (usedWord T1) 1#32)).toNat * 512 + (y 0).val = _
    rw [hm]
  | 1 => rw [h1]; show 0 * 1024 + (y 1).val = _; omega

/-- The experts' result: row `r` lies in block `r / 512`; an unused block is zero, and a used one holds the rows its expert makes. -/
def result (x0 : S294912x1024.Idx → Elt Ideal .i32) (x1 : S576.Idx → Elt Ideal .i32) (x2 : S1.Idx → Elt Ideal .i32)
    (x3 : S4x64x2048x768.Idx → Elt Ideal .f32) (x4 : S4x64x384x2048.Idx → Elt Ideal .f32) (h : ∀ x, BitVec.toNat (x1 x) < 64)
    (b : Fin 576) (r : Fin 294912) (j : Fin 2048) : EReal :=
  if BitVec.slt (BitVec.ofNat 32 b.val) (x2 (ix1 0)) = true then
    expertRow (fun k => x0 (ix2 r k)) (fun k n => x3 (ix4 0 ⟨BitVec.toNat (x1 (ix1 b)), h _⟩ k n)) (fun n j => x4 (ix4 0 ⟨BitVec.toNat (x1 (ix1 b)), h _⟩ n j)) j
  else 0

/-- The number of used blocks, read off its table. -/
theorem usedWord_eq (T1 : S1.Idx → Elt Ideal .i32) : usedWord T1 = T1 (ix1 0) := by
  show T1 _ = T1 _
  congr 1
  funext a
  match a with
  | 0 => exact Subsingleton.elim (α := Fin 1) _ _

/-- The block a point leaves, entry by entry. -/
theorem outBlock_at (c : Dev nD) (t : Fin (cfgA hT).N) (y : S512x2048.Idx) (b : Fin 576) (hb : b.val = t.val) (r : Fin 294912) (hr : r.val = t.val * 512 + (y 0).val) :
    outBlock hT m ρ c t y = result (m ((c : Thread nD τ).loc main_arg0)) T0 T1 (m ((c : Thread nD τ).loc main_arg3)) (m ((c : Thread nD τ).loc main_arg4)) hT.1 b r (y 1) := by
  have hw : (BitVec.slt (BitVec.ofNat 32 b.val) (T1 (ix1 0)) = true) ↔ k0_cond2 (crd hT t) (usedWord T1) = 1#1 := by
    rw [cond2_iff, usedWord_eq, crd_val, hb]
  have he : (expertAt (crd hT t) T0).toNat = BitVec.toNat (T0 (ix1 b)) := by
    have e : expertAt (crd hT t) T0 = T0 (ix1 b) := by
      rw [expertAt_eq]
      congr 1
      funext a
      match a with
      | 0 => refine Fin.ext ?_; exact (crd_val hT t).trans hb.symm
    rw [e]
  unfold outBlock result outPieces
  by_cases hu : k0_cond2 (crd hT t) (usedWord T1) = 1#1
  · rw [if_pos hu, if_pos (hw.2 hu)]
    refine (used_at (ms3 hT t).view _ c (iblk hT m ρ c (0 : Fin 4) t) (iblk hT m ρ c (1 : Fin 4) t) (iblk hT m ρ c (2 : Fin 4) t) y).trans ?_
    have e0 : (fun k : Fin 1024 => (iblk hT m ρ c (0 : Fin 4) t : S512x1024.Idx → BitVec 32) (ix2 (y 0) k)) = fun k => (m ((c : Thread nD τ).loc main_arg0) : S294912x1024.Idx → BitVec 32) (ix2 r k) := by
      funext k
      exact rows_at hT m ρ c t hu _ (ix2 r k) hr rfl
    have e1 : (fun (k : Fin 2048) (n : Fin 768) => (iblk hT m ρ c (1 : Fin 4) t : S1x1x2048x768.Idx → EReal) (ix4 0 0 k n))
        = fun k n => (m ((c : Thread nD τ).loc main_arg3) : S4x64x2048x768.Idx → EReal) (ix4 0 ⟨BitVec.toNat (T0 (ix1 b)), hT.1 _⟩ k n) := by
      funext k n
      exact gate_at hT m ρ c t _ (ix4 0 ⟨BitVec.toNat (T0 (ix1 b)), hT.1 _⟩ k n) rfl he.symm rfl rfl
    have e2 : (fun (n : Fin 384) (j : Fin 2048) => (iblk hT m ρ c (2 : Fin 4) t : S1x1x384x2048.Idx → EReal) (ix4 0 0 n j))
        = fun n j => (m ((c : Thread nD τ).loc main_arg4) : S4x64x384x2048.Idx → EReal) (ix4 0 ⟨BitVec.toNat (T0 (ix1 b)), hT.1 _⟩ n j) := by
      funext n j
      exact down_at hT m ρ c t _ (ix4 0 ⟨BitVec.toNat (T0 (ix1 b)), hT.1 _⟩ n j) rfl he.symm rfl rfl
    exact congrFun (congr (congr (congrArg expertRow e0) e1) e2) (y 1)
  · rw [if_neg hu, if_neg (fun h => hu (hw.1 h))]
    exact unused_at (ms3 hT t).view _ y

/-- The result's array once every point is done. -/
theorem final (c : Dev nD) : (dats hT m ρ 0 c).arrAt (3 : Fin 4) (cfgA hT).N
    = fun i : S294912x2048.Idx => result (m ((c : Thread nD τ).loc main_arg0)) T0 T1 (m ((c : Thread nD τ).loc main_arg3)) (m ((c : Thread nD τ).loc main_arg4)) hT.1
        ⟨(i 0).val / 512, by have h : (i 0).val < 294912 := (i 0).isLt; omega⟩ (i 0) (i 1) := by
  have hidx : ∀ t : Fin (cfgA hT).N, ((cfgA hT).win (3 : Fin 4)).index t (0 : Fin 2) = t.val := fun t => by
    have ht : t.val < 576 := lt_of_lt_of_eq t.isLt N_0
    show (BitVec.ofNat 32 ((crd hT t) 0).val).toNat = t.val
    rw [crd_val, WordCmp.toNat_ofNat_of_lt (by omega)]
  refine Dat.arrAt_eq_of_emb (dats hT m ρ 0 c) (3 : Fin 4) _ (fun t _ y => ?_) (fun i => ?_)
  · blk_simp
    have ht : t.val < 576 := lt_of_lt_of_eq t.isLt N_0
    have hy : (y (0 : Fin 2)).val < 512 := (y (0 : Fin 2)).isLt
    have e0 : (((((cfgA hT).win (3 : Fin 4)).blk t).view.emb y) (0 : Fin 2)).val = t.val * 512 + (y (0 : Fin 2)).val :=
      (Window.rect_emb_val ((cfgA hT).win (3 : Fin 4)) t y (0 : Fin 2)).trans (by rw [hidx t]; rfl)
    have e1 : (((((cfgA hT).win (3 : Fin 4)).blk t).view.emb y) (1 : Fin 2)).val = (y (1 : Fin 2)).val :=
      (Window.rect_emb_val ((cfgA hT).win (3 : Fin 4)) t y (1 : Fin 2)).trans (by show 0 * 2048 + (y (1 : Fin 2)).val = _; omega)
    have hb : (((cfgA hT).win (3 : Fin 4)).index t (0 : Fin 2) * 512 + (y (0 : Fin 2)).val) / 512 = t.val := by
      rw [hidx t]; omega
    rw [after_3]
    refine (outBlock_at hT m ρ c t y ⟨_, lt_of_eq_of_lt hb ht⟩ hb ((((cfgA hT).win (3 : Fin 4)).blk t).view.emb y (0 : Fin 2)) e0).trans ?_
    exact congrArg (result (m ((c : Thread nD τ).loc main_arg0)) T0 T1 (m ((c : Thread nD τ).loc main_arg3)) (m ((c : Thread nD τ).loc main_arg4)) hT.1 _ _)
      (Fin.ext e1.symm)
  · have hi : (i 0).val < 294912 := (i 0).isLt
    refine ⟨⟨(i 0).val / 512, lt_of_lt_of_eq (show (i 0).val / 512 < 576 by omega) N_0.symm⟩, flush3 hT _, ?_⟩
    mem_blk
    have hj : (i 1).val < 2048 := (i 1).isLt
    have e0 : ((cfgA hT).win (3 : Fin 4)).index ⟨(i 0).val / 512, lt_of_lt_of_eq (show (i 0).val / 512 < 576 by omega) N_0.symm⟩ (0 : Fin 2) = (i 0).val / 512 := hidx _
    have e1 : ((cfgA hT).win (3 : Fin 4)).index ⟨(i 0).val / 512, lt_of_lt_of_eq (show (i 0).val / 512 < 576 by omega) N_0.symm⟩ (1 : Fin 2) = 0 := rfl
    rw [e0, e1]
    omega

end Cert.Kernel3Ideal.Experts

end
-- ==== Proof.ExpertsReference.lean ====
module

public import proofs.«01_k».proof.Proof.Gen.Reference3Ideal.Run
public import proofs.«01_k».proof.Proof.Gen.Reference3Ideal.Read
public import proofs.«01_k».proof.Proof.ExpertsFormula
public import Idealize.ShloMosaic.Lib.WordCmp

/-!
# The reference's experts at an index
-/

@[expose] public section

set_option maxRecDepth 16384
set_option backward.proofsInPublic true

noncomputable section

open Idealize.ShloMosaic Idealize.ShloMosaic.TcCoe Idealize.SL.Sem

namespace Cert.Reference3Ideal.Read

open Cert.Reference3Ideal Cert.Reference3Ideal.Gen Cert.Experts

/-- The reference's gather of gate and up weights: the expert's, whole. -/
theorem gather_gate {α : Type} (x : S64x2048x768.Idx → α) (i : IVec S576x1 32) (b : Fin 576) (k : Fin 2048) (n : Fin 768) (e : Fin 64)
    (he : (i (ix2 b 0)).toInt.toNat = e.val) :
    Host.gather gather_S64x2048x768_S576x1_S576x2048x768_12_0_n_n_0_1_12048768 x i (ix3 b k n) = x (ix3 e k n) := by
  unfold Host.gather
  congr 1
  funext a
  refine Fin.ext ?_
  show GatherDims.start _ _ _ a + GatherDims.batchCoord _ _ a + GatherDims.offCoord _ _ a = _
  rw [GatherDims.batchCoord_eq_zero _ _ _ List.not_mem_nil]
  have kept : ∀ a : Fin 3, a ≠ 0 → GatherDims.start gather_S64x2048x768_S576x1_S576x2048x768_12_0_n_n_0_1_12048768 (ix3 b k n) i a = 0 := by
    intro a ha
    unfold GatherDims.start
    exact dif_neg (fun h => ha (List.mem_singleton.mp h))
  have hs : GatherDims.sKept gather_S64x2048x768_S576x1_S576x2048x768_12_0_n_n_0_1_12048768 = [1, 2] := by decide +kernel
  have axis : ∀ (a : Fin 3) (l : ℕ) (hl : l < 2) (ha : a ∈ GatherDims.sKept gather_S64x2048x768_S576x1_S576x2048x768_12_0_n_n_0_1_12048768), List.idxOf a [(1 : Fin 3), 2] = l →
      GatherDims.offCoord gather_S64x2048x768_S576x1_S576x2048x768_12_0_n_n_0_1_12048768 (ix3 b k n) a = (ix3 b k n (![(1 : Fin 3), 2] ⟨l, hl⟩)).val := by
    intro a l hl ha q
    unfold GatherDims.offCoord
    rw [dif_pos ha]
    have key : ∀ (i : ℕ) (hi : i < [(1 : Fin 3), 2].length), i = l →
        (ix3 b k n ([(1 : Fin 3), 2][i]'hi)).val = (ix3 b k n (![(1 : Fin 3), 2] ⟨l, hl⟩)).val := by
      intro i hi q
      subst q
      match i, hl with
      | 0, _ => rfl
      | 1, _ => rfl
    exact key _ _ (by rw [hs, q])
  match a with
  | ⟨0, h0⟩ =>
    rw [GatherDims.offCoord_eq_zero _ _ _ (fun h => ((GatherDims.mem_sKept _ _).mp h).1 (List.mem_singleton.mpr rfl))]
    have hm : (⟨0, h0⟩ : Fin 3) ∈ gather_S64x2048x768_S576x1_S576x2048x768_12_0_n_n_0_1_12048768.startIndexMap := List.mem_singleton.mpr rfl
    unfold GatherDims.start
    rw [dif_pos hm]
    have hsi : GatherDims.siIdx gather_S64x2048x768_S576x1_S576x2048x768_12_0_n_n_0_1_12048768 (ix3 b k n)
      ⟨List.idxOf (⟨0, h0⟩ : Fin 3) gather_S64x2048x768_S576x1_S576x2048x768_12_0_n_n_0_1_12048768.startIndexMap, List.idxOf_lt_length_iff.2 hm⟩ = ix2 b 0 := by
      funext c; refine Fin.ext ?_
      match c with
      | ⟨0, _⟩ => rfl
      | ⟨1, _⟩ => rfl
    refine (congrArg (fun z => min (i z).toInt.toNat (64 - 1) + 0 + 0) hsi).trans ?_
    show min (i (ix2 b 0)).toInt.toNat (64 - 1) + 0 + 0 = e.val
    rw [he]
    have := e.isLt
    omega
  | ⟨1, h1⟩ => exact (congrArg₂ (fun p q : ℕ => p + 0 + q) (kept (1 : Fin 3) (by decide)) (axis (1 : Fin 3) 0 (by decide) (by rw [hs]; decide) (by decide))).trans (Nat.zero_add _)
  | ⟨2, h2⟩ => exact (congrArg₂ (fun p q : ℕ => p + 0 + q) (kept (2 : Fin 3) (by decide)) (axis (2 : Fin 3) 1 (by decide) (by rw [hs]; decide) (by decide))).trans (Nat.zero_add _)

/-- The reference's gather of down weights: the expert's, whole. -/
theorem gather_down {α : Type} (x : S64x384x2048.Idx → α) (i : IVec S576x1 32) (b : Fin 576) (k : Fin 384) (n : Fin 2048) (e : Fin 64)
    (he : (i (ix2 b 0)).toInt.toNat = e.val) :
    Host.gather gather_S64x384x2048_S576x1_S576x384x2048_12_0_n_n_0_1_13842048 x i (ix3 b k n) = x (ix3 e k n) := by
  unfold Host.gather
  congr 1
  funext a
  refine Fin.ext ?_
  show GatherDims.start _ _ _ a + GatherDims.batchCoord _ _ a + GatherDims.offCoord _ _ a = _
  rw [GatherDims.batchCoord_eq_zero _ _ _ List.not_mem_nil]
  have kept : ∀ a : Fin 3, a ≠ 0 → GatherDims.start gather_S64x384x2048_S576x1_S576x384x2048_12_0_n_n_0_1_13842048 (ix3 b k n) i a = 0 := by
    intro a ha
    unfold GatherDims.start
    exact dif_neg (fun h => ha (List.mem_singleton.mp h))
  have hs : GatherDims.sKept gather_S64x384x2048_S576x1_S576x384x2048_12_0_n_n_0_1_13842048 = [1, 2] := by decide +kernel
  have axis : ∀ (a : Fin 3) (l : ℕ) (hl : l < 2) (ha : a ∈ GatherDims.sKept gather_S64x384x2048_S576x1_S576x384x2048_12_0_n_n_0_1_13842048), List.idxOf a [(1 : Fin 3), 2] = l →
      GatherDims.offCoord gather_S64x384x2048_S576x1_S576x384x2048_12_0_n_n_0_1_13842048 (ix3 b k n) a = (ix3 b k n (![(1 : Fin 3), 2] ⟨l, hl⟩)).val := by
    intro a l hl ha q
    unfold GatherDims.offCoord
    rw [dif_pos ha]
    have key : ∀ (i : ℕ) (hi : i < [(1 : Fin 3), 2].length), i = l →
        (ix3 b k n ([(1 : Fin 3), 2][i]'hi)).val = (ix3 b k n (![(1 : Fin 3), 2] ⟨l, hl⟩)).val := by
      intro i hi q
      subst q
      match i, hl with
      | 0, _ => rfl
      | 1, _ => rfl
    exact key _ _ (by rw [hs, q])
  match a with
  | ⟨0, h0⟩ =>
    rw [GatherDims.offCoord_eq_zero _ _ _ (fun h => ((GatherDims.mem_sKept _ _).mp h).1 (List.mem_singleton.mpr rfl))]
    have hm : (⟨0, h0⟩ : Fin 3) ∈ gather_S64x384x2048_S576x1_S576x384x2048_12_0_n_n_0_1_13842048.startIndexMap := List.mem_singleton.mpr rfl
    unfold GatherDims.start
    rw [dif_pos hm]
    have hsi : GatherDims.siIdx gather_S64x384x2048_S576x1_S576x384x2048_12_0_n_n_0_1_13842048 (ix3 b k n)
      ⟨List.idxOf (⟨0, h0⟩ : Fin 3) gather_S64x384x2048_S576x1_S576x384x2048_12_0_n_n_0_1_13842048.startIndexMap, List.idxOf_lt_length_iff.2 hm⟩ = ix2 b 0 := by
      funext c; refine Fin.ext ?_
      match c with
      | ⟨0, _⟩ => rfl
      | ⟨1, _⟩ => rfl
    refine (congrArg (fun z => min (i z).toInt.toNat (64 - 1) + 0 + 0) hsi).trans ?_
    show min (i (ix2 b 0)).toInt.toNat (64 - 1) + 0 + 0 = e.val
    rw [he]
    have := e.isLt
    omega
  | ⟨1, h1⟩ => exact (congrArg₂ (fun p q : ℕ => p + 0 + q) (kept (1 : Fin 3) (by decide)) (axis (1 : Fin 3) 0 (by decide) (by rw [hs]; decide) (by decide))).trans (Nat.zero_add _)
  | ⟨2, h2⟩ => exact (congrArg₂ (fun p q : ℕ => p + 0 + q) (kept (2 : Fin 3) (by decide)) (axis (2 : Fin 3) 1 (by decide) (by rw [hs]; decide) (by decide))).trans (Nat.zero_add _)

variable (x0 : (⟨S294912x1024, .i32⟩ : BufTy).Contents (Elt Ideal)) (x1 : (⟨S576, .i32⟩ : BufTy).Contents (Elt Ideal)) (x2 : (⟨S1, .i32⟩ : BufTy).Contents (Elt Ideal))
  (x3 : (⟨S4x64x2048x768, .f32⟩ : BufTy).Contents (Elt Ideal)) (x4 : (⟨S4x64x384x2048, .f32⟩ : BufTy).Contents (Elt Ideal))

/-- The first half of an unpacked row: the words' low halves. -/
theorem v7_low (b : Fin 576) (s : Fin 512) (k : Fin 1024) (r : Fin 294912) (hr : r.val = b.val * 512 + s.val) :
    val_main_v7 (F := Ideal) x0 (ix3 b s ⟨k.val, by omega⟩) = low (x0 (ix2 r k)) := by
  obtain ⟨r, hlt⟩ := r
  obtain rfl : r = b.val * 512 + s.val := hr
  pointwise [val_main_v7, val_main_v3, val_main_v2, val_main_v1, val_main_c, val_main_v6, val_main_v5, val_main_v4, val_main_c_0, val_main_v0]
  rfl

/-- The second half of it: the words' high halves. -/
theorem v7_high (b : Fin 576) (s : Fin 512) (k : Fin 1024) (r : Fin 294912) (hr : r.val = b.val * 512 + s.val) :
    val_main_v7 (F := Ideal) x0 (ix3 b s ⟨1024 + k.val, by omega⟩) = high (x0 (ix2 r k)) := by
  obtain ⟨r, hlt⟩ := r
  obtain rfl : r = b.val * 512 + s.val := hr
  pointwise [val_main_v7, val_main_v3, val_main_v2, val_main_v1, val_main_c, val_main_v6, val_main_v5, val_main_v4, val_main_c_0, val_main_v0]
  rfl

/-- The gate and up weights of the one layer used. -/
theorem v9_at (e : Fin 64) (k : Fin 2048) (n : Fin 768) : val_main_v9 (F := Ideal) x3 (ix3 e k n) = x3 (ix4 0 e k n) := by
  pointwise [val_main_v9, val_main_v8]
/-- Its down weights. -/
theorem v18_at (e : Fin 64) (k : Fin 384) (n : Fin 2048) : val_main_v18 (F := Ideal) x4 (ix3 e k n) = x4 (ix4 0 e k n) := by
  pointwise [val_main_v18, val_main_v17]

/-- An expert's number below 64 is not negative, so the wrap of negative numbers leaves it. -/
theorem wrap (v : BitVec 32) (h : v.toNat < 64) :
    Scalar.select (IntOp.cmpi CmpIPredicate.slt v 0#32) (IntOp.addi v 64#32) v = v := by
  have e : v.slt 0#32 = false := by
    rw [Bool.eq_false_iff, ne_eq, BitVec.slt_iff_toInt_lt, WordCmp.toInt_eq_toNat_of_lt_half (by norm_num; omega)]
    show ¬((v.toNat : Int) < 0)
    omega
  show (if BitVec.ofBool (v.slt 0#32) = 1#1 then _ else _) = _
  rw [e]
  rfl

/-- The index the first gather takes is the expert's number. -/
theorem v15_at (b : Fin 576) (h : BitVec.toNat (x1 (ix1 b)) < 64) : (val_main_v15 (F := Ideal) x1 (ix2 b 0)) = x1 (ix1 b) := by
  pointwise [val_main_v15, val_main_v14, val_main_v13, val_main_v12, val_main_v11, val_main_v10, val_main_c_1, val_main_c_2]
  exact wrap _ h
/-- So is the second's. -/
theorem v24_at (b : Fin 576) (h : BitVec.toNat (x1 (ix1 b)) < 64) : (val_main_v24 (F := Ideal) x1 (ix2 b 0)) = x1 (ix1 b) := by
  pointwise [val_main_v24, val_main_v23, val_main_v22, val_main_v21, val_main_v20, val_main_v19, val_main_c_3, val_main_c_4]
  exact wrap _ h

/-- A number below 64, read signed. -/
theorem toInt_toNat (v : BitVec 32) (h : v.toNat < 64) : v.toInt.toNat = v.toNat := by
  rw [WordCmp.toInt_eq_toNat_of_lt_half (by norm_num; omega)]
  exact Int.toNat_natCast _

/-- The gate and up weights of a block's expert. -/
theorem v16_at (b : Fin 576) (h : BitVec.toNat (x1 (ix1 b)) < 64) (k : Fin 2048) (n : Fin 768) :
    val_main_v16 (F := Ideal) x1 x3 (ix3 b k n) = x3 (ix4 0 ⟨BitVec.toNat (x1 (ix1 b)), h⟩ k n) := by
  unfold val_main_v16
  rw [gather_gate _ _ b k n ⟨BitVec.toNat (x1 (ix1 b)), h⟩ (by rw [v15_at x1 b h]; exact toInt_toNat _ h)]
  exact v9_at x3 _ _ _
/-- The down weights of a block's expert. -/
theorem v25_at (b : Fin 576) (h : BitVec.toNat (x1 (ix1 b)) < 64) (k : Fin 384) (n : Fin 2048) :
    val_main_v25 (F := Ideal) x1 x4 (ix3 b k n) = x4 (ix4 0 ⟨BitVec.toNat (x1 (ix1 b)), h⟩ k n) := by
  unfold val_main_v25
  rw [gather_down _ _ b k n ⟨BitVec.toNat (x1 (ix1 b)), h⟩ (by rw [v24_at x1 b h]; exact toInt_toNat _ h)]
  exact v18_at x4 _ _ _

/-- The first product: a packed row's, its two halves' sums together. -/
theorem v26_at (b : Fin 576) (h : BitVec.toNat (x1 (ix1 b)) < 64) (s : Fin 512) (n : Fin 768) (r : Fin 294912) (hr : r.val = b.val * 512 + s.val) :
    val_main_v26 (F := Ideal) x0 x1 x3 (ix3 b s n) = hid (fun k => x0 (ix2 r k)) (fun k n => x3 (ix4 0 ⟨BitVec.toNat (x1 (ix1 b)), h⟩ k n)) n := by
  have el : ∀ k : Fin 2048, lidx_main_v26 (ix3 b s n) k = ix3 b s k := fun k => funext fun a => by
    match a with
    | 0 => rfl
    | 1 => rfl
    | 2 => rfl
  have er : ∀ k : Fin 2048, ridx_main_v26 (ix3 b s n) k = ix3 b k n := fun k => funext fun a => by
    match a with
    | 0 => rfl
    | 1 => rfl
    | 2 => rfl
  rw [val_main_v26_apply]
  simp only [el, er, v16_at x1 x3 b h]
  refine (Fin.sum_univ_add (a := 1024) (b := 1024) (fun k : Fin 2048 => val_main_v7 (F := Ideal) x0 (ix3 b s k) * x3 (ix4 0 ⟨BitVec.toNat (x1 (ix1 b)), h⟩ k n))).trans ?_
  unfold hid
  refine congrArg₂ (fun p q : EReal => p + q) (Finset.sum_congr rfl fun k _ => ?_) (Finset.sum_congr rfl fun k _ => ?_)
  · exact congrArg (fun p : EReal => p * _) (v7_low x0 b s k r hr)
  · exact congrArg (fun p : EReal => p * _) (v7_high x0 b s k r hr)

/-- The gated activation. -/
theorem v30_at (b : Fin 576) (h : BitVec.toNat (x1 (ix1 b)) < 64) (s : Fin 512) (n : Fin 384) (r : Fin 294912) (hr : r.val = b.val * 512 + s.val) :
    val_main_v30 (F := Ideal) x0 x1 x3 (ix3 b s n) = gated (fun k => x0 (ix2 r k)) (fun k n => x3 (ix4 0 ⟨BitVec.toNat (x1 (ix1 b)), h⟩ k n)) n := by
  pointwise [val_main_v30, val_main_v29, val_main_v28, val_main_v27, val_main_call0_v5, val_main_call0_v4, val_main_call0_v3, val_main_call0_v2, val_main_call0_v1, val_main_call0_v0, val_main_call0_cst, val_main_call0_cst_0]
  simp only [v26_at x0 x1 x3 b h s _ r hr]
  unfold gated
  rw [zero_sub]

/-- The second product: the expert's row. -/
theorem v31_at (b : Fin 576) (h : BitVec.toNat (x1 (ix1 b)) < 64) (s : Fin 512) (j : Fin 2048) (r : Fin 294912) (hr : r.val = b.val * 512 + s.val) :
    val_main_v31 (F := Ideal) x0 x1 x3 x4 (ix3 b s j) = expertRow (fun k => x0 (ix2 r k)) (fun k n => x3 (ix4 0 ⟨BitVec.toNat (x1 (ix1 b)), h⟩ k n))
      (fun n j => x4 (ix4 0 ⟨BitVec.toNat (x1 (ix1 b)), h⟩ n j)) j := by
  have el : ∀ k : Fin 384, lidx_main_v31 (ix3 b s j) k = ix3 b s k := fun k => funext fun a => by
    match a with
    | 0 => rfl
    | 1 => rfl
    | 2 => rfl
  have er : ∀ k : Fin 384, ridx_main_v31 (ix3 b s j) k = ix3 b k j := fun k => funext fun a => by
    match a with
    | 0 => rfl
    | 1 => rfl
    | 2 => rfl
  rw [val_main_v31_apply]
  simp only [el, er, v25_at x1 x4 b h, v30_at x0 x1 x3 b h s _ r hr]
  rfl

/-- The reference's result at an index. -/
theorem v39_at (h : ∀ x, BitVec.toNat (x1 x) < 64) (y : S294912x2048.Idx) (b : Fin 576) (hb : b.val = (y 0).val / 512) :
    val_main_v39 (F := Ideal) x0 x1 x2 x3 x4 y
      = if BitVec.slt (BitVec.ofNat 32 b.val) (x2 (ix1 0)) = true then
          expertRow (fun k => x0 (ix2 (y 0) k)) (fun k n => x3 (ix4 0 ⟨BitVec.toNat (x1 (ix1 b)), h _⟩ k n)) (fun n j => x4 (ix4 0 ⟨BitVec.toNat (x1 (ix1 b)), h _⟩ n j)) (y 1)
        else (0 : EReal) := by
  have hy : (y 0).val < 294912 := (y 0).isLt
  obtain ⟨b, hlt⟩ := b
  obtain rfl : b = (y 0).val / 512 := hb
  pointwise [val_main_v39, val_main_v38, val_main_v37, val_main_call1_v2, val_main_call1_v1, val_main_call1_v0, val_main_cst, val_main_v36, val_main_v35, val_main_v34, val_main_v33, val_main_v32]
  have hz : id (constant (F := Ideal) S_ FTy.f32 0#32) ix0 = (0 : EReal) := by
    show Ideal.ofBits FTy.f32 0#32 = (0 : EReal)
    simp [Ideal.ofBits, Ideal.ieee]
  rw [hz, v31_at x0 x1 x3 x4 _ (h _) _ (y 1) (y 0) (by show (y 0).val = (y 0).val / 512 * 512 + (y 0).val % 512; omega)]
  show (if BitVec.ofBool _ = 1#1 then _ else _) = _
  cases hc : BitVec.slt (BitVec.ofNat 32 ((y 0).val / 512)) (x2 (ix1 0))
  · rfl
  · rfl

end Cert.Reference3Ideal.Read

end
-- ==== Proof.ExpertsClaims.lean ====
module

public import proofs.«01_k».proof.Defs
public import proofs.«01_k».proof.Proof.ExpertsLaunch
public import proofs.«01_k».proof.Proof.ExpertsBlock
public import proofs.«01_k».proof.Proof.ExpertsReference
public import proofs.«01_k».proof.Proof.Gen.Pre_routed
public import Idealize.ShloMosaic.Lib.Quiescent
public import Idealize.ShloMosaic.Lib.ReduceAll

/-!
# The experts' claims

Where the tables name experts and at least one block is used, the kernel runs as printed and idealized, and the idealized
kernel and the reference end with equal results.
-/

@[expose] public section

set_option maxRecDepth 16384

noncomputable section

namespace Cert.ExpertsClaims

open Idealize.ShloMosaic Idealize.SL.Sem

/-- A word that is at least 0 and less than 64, read signed, is less than 64. -/
theorem expert_range (v : BitVec 32) (h0 : IntOp.cmpi .sge v 0#32 = 1#1) (h1 : IntOp.cmpi .slt v 64#32 = 1#1) : v.toNat < 64 := by
  rw [WordCmp.cmpi_sge_eq, WordCmp.ofBool_eq_one_iff, decide_eq_true_iff] at h0
  rw [WordCmp.cmpi_slt_eq, WordCmp.ofBool_eq_one_iff, decide_eq_true_iff] at h1
  have e0 : (0#32 : BitVec 32).toInt = 0 := rfl
  have e1 : (64#32 : BitVec 32).toInt = 64 := rfl
  rw [e0] at h0
  rw [e1] at h1
  have hv := v.isLt
  rw [BitVec.toInt_eq_toNat_cond] at h0 h1
  split at h0 <;> omega

/-- What the precondition says of the two tables: every block's expert is one of the 64, and at least one block is used. -/
theorem tables_of {F : FTy → Type} [FloatOps F] (x0 : IVec Cert.Pre_routed.S294912x1024 32) (x1 : IVec Cert.Pre_routed.S576 32) (x2 : IVec Cert.Pre_routed.S1 32)
    (x3 : FVec F Cert.Pre_routed.S4x64x2048x768 .f32) (x4 : FVec F Cert.Pre_routed.S4x64x384x2048 .f32)
    (h : Cert.Pre_routed.fn (F := F) x0 x1 x2 x3 x4 = fun _ => 1#1) : (∀ x, BitVec.toNat (x1 x) < 64) ∧ (∀ x, 1 ≤ BitVec.toInt (x2 x)) := by
  have h0 := congrFun h ix0
  obtain ⟨h1, h2⟩ := IntOp.andi_eq_one.1 h0
  haveI : Subsingleton Cert.Pre_routed.S_.Idx := ⟨fun a b => funext fun i => i.elim0⟩
  refine ⟨fun x => ?_, fun x => ?_⟩
  · obtain ⟨ha, hb⟩ := IntOp.andi_eq_one.1 (Host.reduce_andi_all _ _ _ _ _ h1 x)
    exact expert_range _ ha hb
  · have ha : IntOp.cmpi .sge (x2 x) 1#32 = 1#1 := Host.reduce_andi_all _ _ _ _ _ h2 x
    rw [WordCmp.cmpi_sge_eq, WordCmp.ofBool_eq_one_iff, decide_eq_true_iff] at ha
    exact ha

/-- The experts' kernel, as printed, runs and leaves its arguments and the semaphores as they were. -/
theorem kernel : quiescent_Kernel3 (hKernel3 := Cert.Kernel3.Gen.facts) := by
  intro m g hpre
  have hT := tables_of _ _ _ _ _ (hpre ⟨0, by decide⟩)
  haveI : Subsingleton (Dev Cert.Kernel3.nD) := (inferInstance : Subsingleton (Fin 1))
  exact Cert.Kernel3.Experts.frame_of hT m g ⟨fun c => by rw [Subsingleton.elim c ⟨0, by decide⟩], fun c => by rw [Subsingleton.elim c ⟨0, by decide⟩]⟩

/-- The idealized one runs and leaves its arguments and the semaphores as they were. -/
theorem kernelIdeal : quiescent_Kernel3Ideal (hKernel3Ideal := Cert.Kernel3Ideal.Gen.facts) := by
  intro m g hpre
  have hT := tables_of _ _ _ _ _ (hpre ⟨0, by decide⟩)
  haveI : Subsingleton (Dev Cert.Kernel3Ideal.nD) := (inferInstance : Subsingleton (Fin 1))
  exact Cert.Kernel3Ideal.Experts.frame_of hT m g ⟨fun c => by rw [Subsingleton.elim c ⟨0, by decide⟩], fun c => by rw [Subsingleton.elim c ⟨0, by decide⟩]⟩

/-- The reference runs and leaves its arguments and the semaphores as they were. -/
theorem referenceIdeal : quiescent_Reference3Ideal (hReference3Ideal := Cert.Reference3Ideal.Gen.facts) :=
  fun m g _ => (θ_run Cert.Reference3Ideal.defs _ _).mono
    (fun r h => ⟨fun c => (h c).2, sem_eq_zero_of_no_sems (by decide) r.2⟩)
    (Cert.Reference3Ideal.Value.run (F := Ideal) m g)

/-- So it does under the precondition. -/
theorem referenceIdeal_pre : quiescent_Reference3Ideal_pre_routed (hReference3Ideal := Cert.Reference3Ideal.Gen.facts) :=
  fun m g _ => referenceIdeal m g trivial

/-- Where the tables name experts and at least one block is used, the idealized kernel and the reference end with the same array. -/
theorem algebraic : algebraic_Kernel3Ideal_Reference3Ideal (hKernel3Ideal := Cert.Kernel3Ideal.Gen.facts)
    (hReference3Ideal := Cert.Reference3Ideal.Gen.facts) := by
  intro m g m' g' hpre hag
  have hT := tables_of _ _ _ _ _ (hpre ⟨0, by decide⟩)
  haveI : Subsingleton (Dev Cert.Kernel3Ideal.nD) := (inferInstance : Subsingleton (Fin 1))
  have hp : Cert.Kernel3Ideal.Experts.Pinned _ _ m :=
    ⟨fun c => by rw [Subsingleton.elim c ⟨0, by decide⟩], fun c => by rw [Subsingleton.elim c ⟨0, by decide⟩]⟩
  refine ⟨fun c => Cert.Reference3Ideal.Read.val_main_v39 (F := Ideal) (m ((c.tc : Thread _ _).loc Cert.Kernel3Ideal.main_arg0))
    (m ((c.tc : Thread _ _).loc Cert.Kernel3Ideal.main_arg1)) (m ((c.tc : Thread _ _).loc Cert.Kernel3Ideal.main_arg2))
    (m ((c.tc : Thread _ _).loc Cert.Kernel3Ideal.main_arg3)) (m ((c.tc : Thread _ _).loc Cert.Kernel3Ideal.main_arg4)), ?_, ?_⟩
  · refine (θ_run Cert.Kernel3Ideal.defs _ _).mono
      (fun r h c => ⟨((h.1 c).1 (3 : Fin 4)).trans ((Cert.Kernel3Ideal.Experts.final hT m g c).trans ?_),
        ((h.1 c).1 (0 : Fin 4)).trans ((Cert.Kernel3Ideal.Experts.dats hT m g 0 c).arrAt_in (0 : Fin 4) rfl _),
        ((h.1 c).2 0).trans (hp.1 c).symm, ((h.1 c).2 1).trans (hp.2 c).symm,
        ((h.1 c).1 (1 : Fin 4)).trans ((Cert.Kernel3Ideal.Experts.dats hT m g 0 c).arrAt_in (1 : Fin 4) rfl _),
        ((h.1 c).1 (2 : Fin 4)).trans ((Cert.Kernel3Ideal.Experts.dats hT m g 0 c).arrAt_in (2 : Fin 4) rfl _)⟩)
      (Cert.Kernel3Ideal.Experts.run_main hT m g hp)
    funext y
    obtain rfl : c = ⟨0, by decide⟩ := Subsingleton.elim _ _
    exact (Cert.Reference3Ideal.Read.v39_at _ _ _ _ _ hT.1 y _ rfl).symm
  · refine (θ_run Cert.Reference3Ideal.defs _ _).mono (fun r h c => ⟨((h c).1).trans ?_, (h c).2⟩)
      (Cert.Reference3Ideal.Value.run (F := Ideal) m' g')
    rw [Cert.Reference3Ideal.Read.val_main_v39_eq m' c, (hag c).1, (hag c).2.1, (hag c).2.2.1, (hag c).2.2.2.1, (hag c).2.2.2.2]

end Cert.ExpertsClaims

end
-- ==== Proof.Output.lean ====
module

public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit
public import Idealize.ShloMosaic.Lib.Pipeline.Covers
public import Idealize.ShloMosaic.Lib.Pipeline.ReadBack
public import Idealize.ShloMosaic.Lib.Claim

/-!
# The output projection with its residual and layer norm

A block of rows is multiplied by the whole matrix of weights, the scaled residual is added and each row
is normed. The result is the same formula of each row as the reference's.
-/

@[expose] public section

set_option maxRecDepth 16384
set_option backward.proofsInPublic true

noncomputable section

open Idealize.ShloMosaic Idealize.ShloMosaic.TcCoe Idealize.SL.Sem
open Idealize.ShloMosaic.Pipeline (Dat)

namespace Cert.Output

/-- The mean of a row. -/
def mean (z : Fin 2048 → EReal) : EReal := Ideal.div (∑ k, z k) (Ideal.ofBits FTy.f32 0x45000000#32)

/-- Entry `j` of a row after the layer norm, with gain `g` and offset `b`. -/
def normed (z g b : Fin 2048 → EReal) (j : Fin 2048) : EReal :=
  (z j - mean z) * Ideal.rsqrt (mean (fun k => (z k - mean z) * (z k - mean z)) + Ideal.ofBits FTy.f32 0x3727C5AC#32) * g j + b j

/-- A row of the residual, scaled, plus a row of the activations times the weights. -/
def row {n : ℕ} (a : Fin n → EReal) (r : Fin 2048 → EReal) (w : Fin n → Fin 2048 → EReal) (j : Fin 2048) : EReal :=
  Ideal.ofBits FTy.f32 0x3FD744FD#32 * r j + ∑ k, a k * w k j

/-- The normed rows, from the five arguments. -/
def rows (a : Shape.Idx ⟨2, ![32768, 2048]⟩ → EReal) (w : Shape.Idx ⟨3, ![2, 2048, 2048]⟩ → EReal) (x : Shape.Idx ⟨2, ![32768, 2048]⟩ → EReal)
    (g b : Shape.Idx ⟨2, ![4, 2048]⟩ → EReal) (r : Fin 32768) (j : Fin 2048) : EReal :=
  normed (row (fun k => a (ix2 r k)) (fun k => x (ix2 r k)) (fun k n => w (ix3 0 k n))) (fun k => g (ix2 0 k)) (fun k => b (ix2 0 k)) j

end Cert.Output

namespace Cert.Reference4Ideal.Read

open Cert.Reference4Ideal Cert.Reference4Ideal.Gen Cert.Output

variable (x0 : FVec Ideal S32768x2048 .bf16) (x1 : FVec Ideal S2x2048x2048 .f32) (x2 : FVec Ideal S32768x2048 .f32)
  (x3 x4 : FVec Ideal S4x2048 .f32)

/-- The reference's row before the norm. -/
theorem v6_at (r : Fin 32768) (j : Fin 2048) : val_main_v6 (F := Ideal) x0 x1 x2 (ix2 r j)
    = row (fun k => x0 (ix2 r k)) (fun k => x2 (ix2 r k)) (fun k n => x1 (ix3 0 k n)) j := by
  pointwise [val_main_v6, val_main_v5, val_main_v4, val_main_v3, val_main_v2, val_main_v1, val_main_v0, val_main_cst]
  rfl

/-- The reference's result is the norm of that row. -/
theorem v34_at (r : Fin 32768) (j : Fin 2048) : val_main_v34 (F := Ideal) x0 x1 x2 x3 x4 (ix2 r j)
    = normed (fun k => val_main_v6 (F := Ideal) x0 x1 x2 (ix2 r k)) (fun k => x3 (ix2 0 k)) (fun k => x4 (ix2 0 k)) j := by
  pointwise [val_main_v34, val_main_v33, val_main_v32, val_main_v31, val_main_v30, val_main_v29, val_main_v28, val_main_v27,
    val_main_v26, val_main_v25, val_main_v24, val_main_v23, val_main_v22, val_main_v21, val_main_v20, val_main_cst_4, val_main_v19,
    val_main_v18, val_main_v17, val_main_v16, val_main_cst_3, val_main_v15, val_main_v14, val_main_cst_2, val_main_v13, val_main_v12,
    val_main_v11, val_main_v10, val_main_v9, val_main_cst_1, val_main_v8, val_main_v7, val_main_cst_0]
  rfl

/-- The reference's result in full. -/
theorem rows_at (r : Fin 32768) (j : Fin 2048) : val_main_v34 (F := Ideal) x0 x1 x2 x3 x4 (ix2 r j) = rows x0 x1 x2 x3 x4 r j := by
  rw [v34_at]
  unfold rows
  exact congrArg (fun z => normed z _ _ j) (funext fun k => v6_at x0 x1 x2 r k)

/-- The same at any index. -/
theorem rows_full (y : S32768x2048.Idx) : val_main_v34 (F := Ideal) x0 x1 x2 x3 x4 y = rows x0 x1 x2 x3 x4 (y 0) (y 1) := by
  obtain ⟨r, j, rfl⟩ : ∃ (r : Fin 32768) (j : Fin 2048), y = ix2 r j := ⟨y 0, y 1, by funext a; fin_cases a <;> rfl⟩
  exact rows_at x0 x1 x2 x3 x4 r j

end Cert.Reference4Ideal.Read

namespace Cert.Kernel4Ideal.Value

open Cert.Kernel4Ideal Cert.Kernel4Ideal.Gen Cert.Output

/-- What a grid point computes, entry by entry. -/
theorem pay1_at (a : FVec Ideal S256x2048 .bf16) (w : FVec Ideal S2048x2048 .bf16) (x : FVec Ideal S256x2048 .f32)
    (g b : FVec Ideal S1x2048 .f32) (r : Fin 256) (j : Fin 2048) : k0_pay1 (F := Ideal) a w x g b (ix2 r j)
      = normed (row (fun k => a (ix2 r k)) (fun k => x (ix2 r k)) (fun k n => w (ix2 k n))) (fun k => g (ix2 0 k)) (fun k => b (ix2 0 k)) j := by
  pointwise [k0_pay1]
  rfl

variable (m : (ℓ : Loc nD τ sig) → Buf (Elt Ideal) ℓ)

/-- The block of each window at grid point `t`: the rows' windows move with `t`, the others stay. -/
theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] ∧ win0_6.index t = ![t.val, 0]
    ∧ win0_7.index t = ![t.val, 0] :=
  (by decide +kernel : ∀ t : Fin grid0.N, _)

/-- The weights the kernel reads, rounded on the host. -/
theorem weights (c : Dev nD) (k n : Fin 2048) : V m c main_v2 (ix2 k n) = m ((c : Thread nD τ).loc main_arg1) (ix3 0 k n) := by
  have e : V m c main_v2 = truncf (F := Ideal) .bf16 (shapeCast _ (extractStridedSlice S1x2048x2048 ![0, 0, 0] (m ((c : Thread nD τ).loc main_arg1))
      slices_S2x2048x2048_S1x2048x2048_0_0_0) shapeCasts_S1x2048x2048_S2048x2048) bitsLt_bf16_f32 := by
    simp only [V, hostOps0, List.flatten_cons, List.flatten_nil, List.append_nil, List.cons_append, List.nil_append]
    after_results_simp <;> rfl
  rw [e]
  pointwise []

/-- The gains the kernel reads. -/
theorem gains (c : Dev nD) (k : Fin 2048) : V m c main_v7 (ix2 0 k) = m ((c : Thread nD τ).loc main_arg3) (ix2 0 k) := by
  have e : V m c main_v7 = shapeCast _ (shapeCast _ (extractStridedSlice S1x2048 ![0, 0] (m ((c : Thread nD τ).loc main_arg3))
      slices_S4x2048_S1x2048_0_0) shapeCasts_S1x2048_S2048) shapeCasts_S2048_S1x2048 := by
    simp only [V, hostOps0, List.flatten_cons, List.flatten_nil, List.append_nil, List.cons_append, List.nil_append]
    after_results_simp <;> rfl
  rw [e]
  pointwise []

/-- The offsets the kernel reads. -/
theorem offsets (c : Dev nD) (k : Fin 2048) : V m c main_v8 (ix2 0 k) = m ((c : Thread nD τ).loc main_arg4) (ix2 0 k) := by
  have e : V m c main_v8 = shapeCast _ (shapeCast _ (extractStridedSlice S1x2048 ![0, 0] (m ((c : Thread nD τ).loc main_arg4))
      slices_S4x2048_S1x2048_0_0) shapeCasts_S1x2048_S2048) shapeCasts_S2048_S1x2048 := by
    simp only [V, hostOps0, List.flatten_cons, List.flatten_nil, List.append_nil, List.cons_append, List.nil_append]
    after_results_simp <;> rfl
  rw [e]
  pointwise []

/-- The normed rows of the arguments at launch. -/
abbrev result (c : Dev nD) (r : Fin 32768) (j : Fin 2048) : EReal :=
  rows (m ((c : Thread nD τ).loc main_arg0)) (m ((c : Thread nD τ).loc main_arg1)) (m ((c : Thread nD τ).loc main_arg2))
    (m ((c : Thread nD τ).loc main_arg3)) (m ((c : Thread nD τ).loc main_arg4)) r j

/-- A grid point's payload is its block of the normed rows. -/
theorem point (c : Dev nD) (t : Fin cfg0.N) (ht : t.val < 128) (r : Fin 256) (j : Fin 2048) :
    k0_pay1 (F := Ideal) (iblk m c 0 t) (iblk m c 1 t) (iblk m c 2 t) (iblk m c 3 t) (iblk m c 4 t) (ix2 r j)
      = result m c ⟨256 * t.val + r.val, by omega⟩ j := by
  have h0 : ∀ k : Fin 2048, iblk m c 0 t (ix2 r k) = m ((c : Thread nD τ).loc main_arg0) (ix2 ⟨256 * t.val + r.val, by omega⟩ k) := fun k => by
    blk_ext [iblk, V, idx t]
  have h2 : ∀ k : Fin 2048, iblk m c 2 t (ix2 r k) = m ((c : Thread nD τ).loc main_arg2) (ix2 ⟨256 * t.val + r.val, by omega⟩ k) := fun k => by
    blk_ext [iblk, V, idx t]
  have h1 : ∀ k n : Fin 2048, iblk m c 1 t (ix2 k n) = V m c main_v2 (ix2 k n) := fun k n => by blk_ext [iblk, idx t]
  have h3 : ∀ k : Fin 2048, iblk m c 3 t (ix2 0 k) = V m c main_v7 (ix2 0 k) := fun k => by blk_ext [iblk, idx t]
  have h4 : ∀ k : Fin 2048, iblk m c 4 t (ix2 0 k) = V m c main_v8 (ix2 0 k) := fun k => by blk_ext [iblk, idx t]
  rw [pay1_at]
  unfold result rows
  congr 1
  · congr 1
    · exact funext h0
    · exact funext h2
    · exact funext fun k => funext fun n => (h1 k n).trans (weights m c k n)
  · exact funext fun k => (h3 k).trans (gains m c k)
  · exact funext fun k => (h4 k).trans (offsets m c k)

/-- An index of a block, by its row and its column. -/
theorem split_idx (y : S256x2048.Idx) : ∃ (r : Fin 256) (j : Fin 2048), y = ix2 r j := ⟨y 0, y 1, by funext a; fin_cases a <;> rfl⟩

/-- What a grid point leaves in the first result's block. -/
theorem out5_at (c : Dev nD) (t : Fin cfg0.N) (y : S256x2048.Idx) (i : Fin 32768) (j : Fin 2048) (hi : i.val = 256 * t.val + (y 0).val) (hj : j = y 1) :
    out0_5 (F := Ideal) (iblk m c 0 t) (iblk m c 1 t) (iblk m c 2 t) (iblk m c 3 t) (iblk m c 4 t) y = result m c i j := by
  have ht : t.val < 128 := lt_of_lt_of_eq t.isLt (by decide +kernel)
  obtain ⟨r, s, rfl⟩ := split_idx y
  subst hj
  obtain ⟨i, hlt⟩ := i
  obtain rfl : i = 256 * t.val + r.val := hi
  frame_out
  exact point m c t ht r _

/-- What a grid point leaves in the second result's block. -/
theorem out6_at (c : Dev nD) (t : Fin cfg0.N) (y : S256x2048.Idx) (i : Fin 32768) (j : Fin 2048) (hi : i.val = 256 * t.val + (y 0).val) (hj : j = y 1) :
    out0_6 (F := Ideal) (iblk m c 0 t) (iblk m c 1 t) (iblk m c 2 t) (iblk m c 3 t) (iblk m c 4 t) y = result m c i j := by
  have ht : t.val < 128 := lt_of_lt_of_eq t.isLt (by decide +kernel)
  obtain ⟨r, s, rfl⟩ := split_idx y
  subst hj
  obtain ⟨i, hlt⟩ := i
  obtain rfl : i = 256 * t.val + r.val := hi
  frame_out
  exact point m c t ht r _

/-- What a grid point leaves in the third result's block. -/
theorem out7_at (c : Dev nD) (t : Fin cfg0.N) (y : S256x2048.Idx) (i : Fin 32768) (j : Fin 2048) (hi : i.val = 256 * t.val + (y 0).val) (hj : j = y 1) :
    out0_7 (F := Ideal) (iblk m c 0 t) (iblk m c 1 t) (iblk m c 2 t) (iblk m c 3 t) (iblk m c 4 t) y = result m c i j := by
  have ht : t.val < 128 := lt_of_lt_of_eq t.isLt (by decide +kernel)
  obtain ⟨r, s, rfl⟩ := split_idx y
  subst hj
  obtain ⟨i, hlt⟩ := i
  obtain rfl : i = 256 * t.val + r.val := hi
  frame_out
  exact point m c t ht r _

/-- The first result array after the run: the normed rows. -/
theorem final5 (c : Dev nD) : (dats m 0 c).arrAt 5 cfg0.N = fun y : S32768x2048.Idx => result m c (y 0) (y 1) := by
  refine (dats m 0 c).arrAt_eq_of_covers 5 _ (by decide +kernel) fun t hf y => ?_
  have w0 : win0_5.index t 0 = t.val := congrFun (idx t).2.2.2.2.2.1 0
  have w1 : win0_5.index t 1 = 0 := congrFun (idx t).2.2.2.2.2.1 1
  blk_simp
  rw [after0_5]
  refine out5_at m c t y _ _ ?_ (Fin.ext ?_)
  · refine (Pipeline.Window.rect_emb_val (cfg0.win 5) t y (0 : Fin 2)).trans ?_
    show win0_5.index t 0 * 256 + (y 0).val = 256 * t.val + (y 0).val
    rw [w0]
    omega
  · refine (Pipeline.Window.rect_emb_val (cfg0.win 5) t y (1 : Fin 2)).trans ?_
    show win0_5.index t 1 * 2048 + (y 1).val = (y 1).val
    rw [w1]
    omega

/-- The second result array after the run: the normed rows. -/
theorem final6 (c : Dev nD) : (dats m 0 c).arrAt 6 cfg0.N = fun y : S32768x2048.Idx => result m c (y 0) (y 1) := by
  refine (dats m 0 c).arrAt_eq_of_covers 6 _ (by decide +kernel) fun t hf y => ?_
  have w0 : win0_6.index t 0 = t.val := congrFun (idx t).2.2.2.2.2.2.1 0
  have w1 : win0_6.index t 1 = 0 := congrFun (idx t).2.2.2.2.2.2.1 1
  blk_simp
  rw [after0_6]
  refine out6_at m c t y _ _ ?_ (Fin.ext ?_)
  · refine (Pipeline.Window.rect_emb_val (cfg0.win 6) t y (0 : Fin 2)).trans ?_
    show win0_6.index t 0 * 256 + (y 0).val = 256 * t.val + (y 0).val
    rw [w0]
    omega
  · refine (Pipeline.Window.rect_emb_val (cfg0.win 6) t y (1 : Fin 2)).trans ?_
    show win0_6.index t 1 * 2048 + (y 1).val = (y 1).val
    rw [w1]
    omega

/-- The third result array after the run: the normed rows. -/
theorem final7 (c : Dev nD) : (dats m 0 c).arrAt 7 cfg0.N = fun y : S32768x2048.Idx => result m c (y 0) (y 1) := by
  refine (dats m 0 c).arrAt_eq_of_covers 7 _ (by decide +kernel) fun t hf y => ?_
  have w0 : win0_7.index t 0 = t.val := congrFun (idx t).2.2.2.2.2.2.2 0
  have w1 : win0_7.index t 1 = 0 := congrFun (idx t).2.2.2.2.2.2.2 1
  blk_simp
  rw [after0_7]
  refine out7_at m c t y _ _ ?_ (Fin.ext ?_)
  · refine (Pipeline.Window.rect_emb_val (cfg0.win 7) t y (0 : Fin 2)).trans ?_
    show win0_7.index t 0 * 256 + (y 0).val = 256 * t.val + (y 0).val
    rw [w0]
    omega
  · refine (Pipeline.Window.rect_emb_val (cfg0.win 7) t y (1 : Fin 2)).trans ?_
    show win0_7.index t 1 * 2048 + (y 1).val = (y 1).val
    rw [w1]
    omega

end Cert.Kernel4Ideal.Value

end
-- ==== Proof.OutputClaims.lean ====
module

public import proofs.«01_k».proof.Defs
public import proofs.«01_k».proof.Proof.Output
public import proofs.«01_k».proof.Proof.Gen.Kernel4.Frame
public import Idealize.ShloMosaic.Lib.Quiescent

/-!
# The output projection's claims

The kernel runs as printed and idealized, the reference runs, and the idealized kernel and the
reference end with equal results.
-/

@[expose] public section

noncomputable section

namespace Cert.OutputClaims

open Idealize.ShloMosaic Idealize.SL.Sem

/-- The output projection, as printed, runs and leaves its arguments and the semaphores as they were. -/
theorem kernel : quiescent_Kernel4 (hKernel4 := Cert.Kernel4.Gen.facts) :=
  fun m g _ => Cert.Kernel4.Gen.frame m g

/-- The idealized output projection runs and leaves its arguments and the semaphores as they were. -/
theorem kernelIdeal : quiescent_Kernel4Ideal (hKernel4Ideal := Cert.Kernel4Ideal.Gen.facts) :=
  fun m g _ => Cert.Kernel4Ideal.Gen.frame m g

/-- The reference runs and leaves its arguments and the semaphores as they were. -/
theorem referenceIdeal : quiescent_Reference4Ideal (hReference4Ideal := Cert.Reference4Ideal.Gen.facts) :=
  fun m g _ => (θ_run Cert.Reference4Ideal.defs _ _).mono
    (fun r h => ⟨fun c => (h c).2.2.2, sem_eq_zero_of_no_sems (by decide) r.2⟩)
    (Cert.Reference4Ideal.Value.run (F := Ideal) m g)

/-- The idealized output projection and the reference end with the same three arrays: the normed rows. -/
theorem algebraic : algebraic_Kernel4Ideal_Reference4Ideal (hKernel4Ideal := Cert.Kernel4Ideal.Gen.facts)
    (hReference4Ideal := Cert.Reference4Ideal.Gen.facts) := by
  intro m g m' g' _ hag
  refine ⟨fun c y => Cert.Kernel4Ideal.Value.result m c (y 0) (y 1), fun c y => Cert.Kernel4Ideal.Value.result m c (y 0) (y 1),
    fun c y => Cert.Kernel4Ideal.Value.result m c (y 0) (y 1), ?_, ?_⟩
  · exact (θ_run Cert.Kernel4Ideal.defs _ _).mono
      (fun r h c => ⟨((h c).1).trans (Cert.Kernel4Ideal.Value.final5 m c), ((h c).2.1).trans (Cert.Kernel4Ideal.Value.final6 m c),
        ((h c).2.2.1).trans (Cert.Kernel4Ideal.Value.final7 m c), (h c).2.2.2⟩)
      (Cert.Kernel4Ideal.Value.run_blocks (F := Ideal) m g)
  · refine (θ_run Cert.Reference4Ideal.defs _ _).mono
      (fun r h c => ⟨((h c).1).trans ?_, ((h c).2.1).trans ?_, ((h c).2.2.1).trans ?_, (h c).2.2.2⟩)
      (Cert.Reference4Ideal.Value.run (F := Ideal) m' g')
    · rw [Cert.Reference4Ideal.Read.val_main_v34_eq m' c, (hag c).1, (hag c).2.1, (hag c).2.2.1, (hag c).2.2.2.1, (hag c).2.2.2.2]
      funext y
      exact Cert.Reference4Ideal.Read.rows_full _ _ _ _ _ y
    · rw [Cert.Reference4Ideal.Read.val_main_v35_eq m' c, (hag c).1, (hag c).2.1, (hag c).2.2.1, (hag c).2.2.2.1, (hag c).2.2.2.2]
      funext y
      exact (Cert.Reference4Ideal.Read.val_main_v35_apply _ _ _ _ _ y).trans (Cert.Reference4Ideal.Read.rows_full _ _ _ _ _ y)
    · rw [Cert.Reference4Ideal.Read.val_main_v36_eq m' c, (hag c).1, (hag c).2.1, (hag c).2.2.1, (hag c).2.2.2.1, (hag c).2.2.2.2]
      funext y
      exact (Cert.Reference4Ideal.Read.val_main_v36_apply _ _ _ _ _ y).trans (Cert.Reference4Ideal.Read.rows_full _ _ _ _ _ y)

end Cert.OutputClaims

end
-- ==== Proof.AttentionProjection.lean ====
module

public import proofs.«01_k».proof.Proof.Gen.Kernel5Ideal.Value
public import proofs.«01_k».proof.Proof.Gen.Reference5Ideal.Run
public import Idealize.ShloMosaic.Lib.Pipeline.ValueKit
public import Idealize.ShloMosaic.Lib.Pipeline.Covers
public import Idealize.ShloMosaic.Lib.Pipeline.ReadBack

/-!
# The attention layer's projection

The call of `Projection` at the attention layer's width, the result rounded: the weights of a column block
are copied to a scratch at its first row block.
-/

@[expose] public section

set_option maxRecDepth 16384

noncomputable section

open Idealize.ShloMosaic Idealize.ShloMosaic.TcCoe Idealize.SL.Sem
open Idealize.ShloMosaic.Pipeline (Dat)

namespace Cert.Kernel5Ideal.Value

open Cert.Kernel5Ideal Cert.Kernel5Ideal.Gen

variable (m : (ℓ : Loc nD τ sig) → Buf (Elt Ideal) ℓ)

/-- The reference's product, rounded, over the two argument arrays. -/
abbrev product (X : FVec Ideal S32768x2048 .bf16) (W : FVec Ideal S1x2048x6144 .f32) : FVec Ideal S32768x6144 .bf16 :=
  truncf .bf16 (Host.dotGeneral Cert.Reference5Ideal.dot_S32768x2048_S2048x6144_S32768x6144_1_0_0_1_n_n none
    (extf .f32 X Cert.Reference5Ideal.Gen.bitsLt_bf16_f32)
    (shapeCast _ W Cert.Reference5Ideal.Gen.shapeCasts_S1x2048x6144_S2048x6144)) Cert.Reference5Ideal.Gen.bitsLt_bf16_f32

/-- The block of each window at grid point `t`: the row block is `t % 32`, the column block `t / 32`. -/
theorem idx : ∀ t : Fin cfg0.N, win0_0.index t = ![t.val % 32, 0] ∧ win0_1.index t = ![0, 0, t.val / 32]
    ∧ win0_2.index t = ![t.val % 32, t.val / 32] :=
  (by decide +kernel : ∀ t : Fin grid0.N, _)

/-- At the first row block of a column block the scratch is filled with the block of weights. -/
theorem scratch_fill (c : Dev nD) (t : Fin cfg0.N) (h : t.val % 32 = 0) (y : S2048x1024.Idx) (j : Fin 6144)
    (hj : j.val = 1024 * (t.val / 32) + (y 1).val) :
    (outsAt0 m c t.val t.isLt).2 y = m ((c : Thread nD τ).loc main_arg1) (ix3 0 (y 0) j) := by
  rw [outsAt0_A m c t h]
  frame_out
  pointwise [k0_pay1]
  blk_ext [iblk, V, idx t]

/-- After grid point `n` the scratch holds the block of weights of the column block `n / 32`. -/
theorem scratch (c : Dev nD) : ∀ (n : ℕ) (hn : n < cfg0.N) (y : S2048x1024.Idx) (j : Fin 6144), j.val = 1024 * (n / 32) + (y 1).val →
    (outsAt0 m c n hn).2 y = m ((c : Thread nD τ).loc main_arg1) (ix3 0 (y 0) j) := by
  intro n
  induction n with
  | zero =>
    intro hn y j hj
    exact scratch_fill m c ⟨0, hn⟩ rfl y j hj
  | succ n ih =>
    intro hn y j hj
    by_cases h : (n + 1) % 32 = 0
    · exact scratch_fill m c ⟨n + 1, hn⟩ h y j hj
    · have := ih (by omega) y j (by omega)
      rw [outsAt0_B m c ⟨n + 1, hn⟩ h]
      exact this

/-- What grid point `t` leaves in the block of the result is the reference's product there. -/
theorem point (c : Dev nD) (t : Fin cfg0.N) (y : S1024x1024.Idx) :
    (outsAt0 m c t.val t.isLt).1 y
      = product (m ((c : Thread nD τ).loc main_arg0)) (m ((c : Thread nD τ).loc main_arg1)) (((cfg0.win 2).blk t).view.emb y) := by
  have hsc := scratch m c t.val t.isLt
  by_cases h : t.val % 32 = 0
  · rw [outsAt0_A m c t h]
    frame_out
    pointwise [k0_pay2, k0_pay1, product]
    blk_point [iblk, V, idx t]
  · rw [outsAt0_B m c t h]
    have hprev := scratch m c (t.val - 1) (by omega)
    have hN : t.val < 192 := lt_of_lt_of_eq t.isLt (by decide +kernel)
    have hy : (y 1).val < 1024 := (y 1).isLt
    frame_out
    try simp only [read_unread_whole]
    pointwise [k0_pay2, product]
    refine Finset.sum_congr rfl fun k _ => ?_
    congr 1
    · blk_ext [iblk, V, idx t]
    · rw [hprev (ix2 k (y 1)) ⟨1024 * (t.val / 32) + (y 1).val, by omega⟩
          (by show 1024 * (t.val / 32) + (y 1).val = 1024 * ((t.val - 1) / 32) + (y 1).val; omega)]
      blk_ext [iblk, V, idx t]

/-- The result array after the run is the reference's product of the arguments. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  blk_simp
  rw [after0_2]
  exact point m c t y

end Cert.Kernel5Ideal.Value

end
-- ==== Proof.AttentionProjectionClaims.lean ====
module

public import proofs.«01_k».proof.Defs
public import proofs.«01_k».proof.Proof.AttentionProjection
public import proofs.«01_k».proof.Proof.Gen.Kernel5.Frame
public import Idealize.ShloMosaic.Lib.Quiescent

/-!
# The attention layer's projection: the claims

The kernel runs as printed and idealized, the reference runs, and the idealized kernel and the
reference end with equal results.
-/

@[expose] public section

noncomputable section

namespace Cert.AttentionProjectionClaims

open Idealize.ShloMosaic Idealize.SL.Sem

/-- The kernel, as printed, runs and leaves its arguments and the semaphores as they were. -/
theorem kernel : quiescent_Kernel5 (hKernel5 := Cert.Kernel5.Gen.facts) :=
  fun m g _ => Cert.Kernel5.Gen.frame m g

/-- The idealized kernel runs and leaves its arguments and the semaphores as they were. -/
theorem kernelIdeal : quiescent_Kernel5Ideal (hKernel5Ideal := Cert.Kernel5Ideal.Gen.facts) :=
  fun m g _ => Cert.Kernel5Ideal.Gen.frame m g

/-- The reference runs and leaves its arguments and the semaphores as they were. -/
theorem referenceIdeal : quiescent_Reference5Ideal (hReference5Ideal := Cert.Reference5Ideal.Gen.facts) :=
  fun m g _ => (θ_run Cert.Reference5Ideal.defs _ _).mono
    (fun r h => ⟨fun c => (h c).2, sem_eq_zero_of_no_sems (by decide) r.2⟩)
    (Cert.Reference5Ideal.Value.run (F := Ideal) m g)

/-- The idealized kernel and the reference end with the same array: the rounded product. -/
theorem algebraic : algebraic_Kernel5Ideal_Reference5Ideal (hKernel5Ideal := Cert.Kernel5Ideal.Gen.facts)
    (hReference5Ideal := Cert.Reference5Ideal.Gen.facts) := by
  intro m g m' g' _ hag
  refine ⟨fun c => Cert.Kernel5Ideal.Value.product (m ((c.tc : Thread _ _).loc Cert.Kernel5Ideal.main_arg0))
    (m ((c.tc : Thread _ _).loc Cert.Kernel5Ideal.main_arg1)), ?_, ?_⟩
  · exact (θ_run Cert.Kernel5Ideal.defs _ _).mono
      (fun r h c => ⟨((h c).1).trans (Cert.Kernel5Ideal.Value.final m c), (h c).2⟩)
      (Cert.Kernel5Ideal.Value.run_blocks (F := Ideal) m g)
  · refine (θ_run Cert.Reference5Ideal.defs _ _).mono (fun r h c => ⟨((h c).1).trans ?_, (h c).2⟩)
      (Cert.Reference5Ideal.Value.run (F := Ideal) m' g')
    rw [(hag c).1, (hag c).2]

end Cert.AttentionProjectionClaims

end
-- ==== Proof.DeltaProjection.lean ====
module

public import proofs.«01_k».proof.Proof.Gen.Kernel6Ideal.Value
public import proofs.«01_k».proof.Proof.Gen.Reference6Ideal.Run
public import Idealize.ShloMosaic.Lib.Pipeline.ValueKit
public import Idealize.ShloMosaic.Lib.Pipeline.Covers
public import Idealize.ShloMosaic.Lib.Pipeline.ReadBack

/-!
# The delta-net layer's projection

The call of `Projection` at the delta-net layer's width. The weights have 64 columns more, those of
the gates, which this call leaves out.
-/

@[expose] public section

set_option maxRecDepth 16384

noncomputable section

open Idealize.ShloMosaic Idealize.ShloMosaic.TcCoe Idealize.SL.Sem
open Idealize.ShloMosaic.Pipeline (Dat)

namespace Cert.Kernel6Ideal.Value

open Cert.Kernel6Ideal Cert.Kernel6Ideal.Gen

variable (m : (ℓ : Loc nD τ sig) → Buf (Elt Ideal) ℓ)

/-- The reference's product over the two argument arrays, without the last 64 columns. -/
abbrev product (X : FVec Ideal S32768x2048 .bf16) (W : FVec Ideal S1x2048x12352 .f32) : FVec Ideal S32768x12288 .f32 :=
  extractStridedSlice Cert.Reference6Ideal.S32768x12288 ![0, 0] (Host.dotGeneral Cert.Reference6Ideal.dot_S32768x2048_S2048x12352_S32768x12352_1_0_0_1_n_n none
    (extf .f32 X Cert.Reference6Ideal.Gen.bitsLt_bf16_f32)
    (shapeCast _ W Cert.Reference6Ideal.Gen.shapeCasts_S1x2048x12352_S2048x12352))
    Cert.Reference6Ideal.Gen.slices_S32768x12352_S32768x12288_0_0

/-- The block of each window at grid point `t`: the row block is `t % 32`, the column block `t / 32`. -/
theorem idx : ∀ t : Fin cfg0.N, win0_0.index t = ![t.val % 32, 0] ∧ win0_1.index t = ![0, 0, t.val / 32]
    ∧ win0_2.index t = ![t.val % 32, t.val / 32] :=
  (by decide +kernel : ∀ t : Fin grid0.N, _)

/-- The block of weights that grid point `t` fetches. No block reaches past the array. -/
theorem weights_at (c : Dev nD) (t : Fin cfg0.N) (k : Fin 2048) (n : Fin 1024) (j : Fin 12352) (hj : j.val = 1024 * (t.val / 32) + n.val) :
    X0_1 m c t (ix3 0 k n) = m ((c : Thread nD τ).loc main_arg1) (ix3 0 k j) := by
  unfold X0_1 Pipeline.Window.fill
  rw [dif_pos (moved0_1 t _)]
  refine congrArg (m ((c : Thread nD τ).loc main_arg1)) (funext fun a => Fin.ext ?_)
  refine (Pipeline.Window.rect_emb_val (cfg0.win 1) t _ a).trans ?_
  have w : win0_1.index t = ![0, 0, t.val / 32] := (idx t).2.1
  fin_cases a
  · show win0_1.index t 0 * 1 + 0 = 0
    rw [w]; rfl
  · show win0_1.index t 1 * 2048 + k.val = k.val
    rw [w]; show 0 * 2048 + k.val = k.val; omega
  · show win0_1.index t 2 * 1024 + n.val = j.val
    rw [w, hj]; show t.val / 32 * 1024 + n.val = _; omega

/-- At the first row block of a column block the scratch is filled with the block of weights. -/
theorem scratch_fill (c : Dev nD) (t : Fin cfg0.N) (h : t.val % 32 = 0) (y : S2048x1024.Idx) (j : Fin 12352)
    (hj : j.val = 1024 * (t.val / 32) + (y 1).val) :
    (outsAt0 m c t.val t.isLt).2 y = m ((c : Thread nD τ).loc main_arg1) (ix3 0 (y 0) j) := by
  rw [outsAt0_A m c t h]
  frame_out
  pointwise [k0_pay1]
  exact weights_at m c t (y 0) (y 1) j hj

/-- After grid point `n` the scratch holds the block of weights of the column block `n / 32`. -/
theorem scratch (c : Dev nD) : ∀ (n : ℕ) (hn : n < cfg0.N) (y : S2048x1024.Idx) (j : Fin 12352), j.val = 1024 * (n / 32) + (y 1).val →
    (outsAt0 m c n hn).2 y = m ((c : Thread nD τ).loc main_arg1) (ix3 0 (y 0) j) := by
  intro n
  induction n with
  | zero =>
    intro hn y j hj
    exact scratch_fill m c ⟨0, hn⟩ rfl y j hj
  | succ n ih =>
    intro hn y j hj
    by_cases h : (n + 1) % 32 = 0
    · exact scratch_fill m c ⟨n + 1, hn⟩ h y j hj
    · have := ih (by omega) y j (by omega)
      rw [outsAt0_B m c ⟨n + 1, hn⟩ h]
      exact this

/-- The product, entry by entry. -/
theorem product_at (X : FVec Ideal S32768x2048 .bf16) (W : FVec Ideal S1x2048x12352 .f32) (r : Fin 32768) (n : Fin 12288) (n' : Fin 12352)
    (hn : n'.val = n.val) : product X W (ix2 r n) = ∑ k : Fin 2048, X (ix2 r k) * W (ix3 0 k n') := by
  obtain ⟨n', h'⟩ := n'
  obtain rfl : n' = n.val := hn
  pointwise []

/-- What grid point `t` leaves in the block of the result is the reference's product there. -/
theorem point (c : Dev nD) (t : Fin cfg0.N) (y : S1024x1024.Idx) (r : Fin 32768) (n : Fin 12288)
    (hr : r.val = 1024 * (t.val % 32) + (y 0).val) (hn : n.val = 1024 * (t.val / 32) + (y 1).val) :
    (outsAt0 m c t.val t.isLt).1 y
      = product (m ((c : Thread nD τ).loc main_arg0)) (m ((c : Thread nD τ).loc main_arg1)) (ix2 r n) := by
  rw [product_at _ _ r n ⟨n.val, by omega⟩ rfl]
  have hx : ∀ k : Fin 2048, iblk m c 0 t (ix2 (y 0) k) = m ((c : Thread nD τ).loc main_arg0) (ix2 r k) := fun k => by
    obtain ⟨r, h'⟩ := r
    obtain rfl : r = 1024 * (t.val % 32) + (y 0).val := hr
    blk_ext [iblk, V, idx t]
  by_cases h : t.val % 32 = 0
  · rw [outsAt0_A m c t h]
    frame_out
    pointwise [k0_pay2, k0_pay1]
    exact Finset.sum_congr rfl fun k _ => congrArg₂ (· * ·) (hx k) (weights_at m c t k (y 1) _ hn)
  · rw [outsAt0_B m c t h]
    have hprev := scratch m c (t.val - 1) (by omega)
    frame_out
    try simp only [read_unread_whole]
    pointwise [k0_pay2]
    exact Finset.sum_congr rfl fun k _ => congrArg₂ (· * ·) (hx k) (hprev (ix2 k (y 1)) _
      (by show n.val = 1024 * ((t.val - 1) / 32) + (y 1).val; omega))

/-- The result array after the run is the reference's product of the arguments. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  blk_simp
  rw [after0_2]
  have w : win0_2.index t = ![t.val % 32, t.val / 32] := (idx t).2.2
  have e : ((cfg0.win 2).blk t).view.emb y = ix2 (((cfg0.win 2).blk t).view.emb y 0) (((cfg0.win 2).blk t).view.emb y 1) := by
    funext a; fin_cases a <;> rfl
  rw [e]
  refine point m c t y _ _ ?_ ?_
  · refine (Pipeline.Window.rect_emb_val (cfg0.win 2) t y (0 : Fin 2)).trans ?_
    show win0_2.index t 0 * 1024 + (y 0).val = _
    rw [w]
    show t.val % 32 * 1024 + (y 0).val = _
    omega
  · refine (Pipeline.Window.rect_emb_val (cfg0.win 2) t y (1 : Fin 2)).trans ?_
    show win0_2.index t 1 * 1024 + (y 1).val = _
    rw [w]
    show t.val / 32 * 1024 + (y 1).val = _
    omega

end Cert.Kernel6Ideal.Value

end
-- ==== Proof.DeltaProjectionClaims.lean ====
module

public import proofs.«01_k».proof.Defs
public import proofs.«01_k».proof.Proof.DeltaProjection
public import proofs.«01_k».proof.Proof.Gen.Kernel6.Frame
public import Idealize.ShloMosaic.Lib.Quiescent

/-!
# The delta-net layer's projection: the claims

The kernel runs as printed and idealized, the reference runs, and the idealized kernel and the
reference end with equal results.
-/

@[expose] public section

noncomputable section

namespace Cert.DeltaProjectionClaims

open Idealize.ShloMosaic Idealize.SL.Sem

/-- The kernel, as printed, runs and leaves its arguments and the semaphores as they were. -/
theorem kernel : quiescent_Kernel6 (hKernel6 := Cert.Kernel6.Gen.facts) :=
  fun m g _ => Cert.Kernel6.Gen.frame m g

/-- The idealized kernel runs and leaves its arguments and the semaphores as they were. -/
theorem kernelIdeal : quiescent_Kernel6Ideal (hKernel6Ideal := Cert.Kernel6Ideal.Gen.facts) :=
  fun m g _ => Cert.Kernel6Ideal.Gen.frame m g

/-- The reference runs and leaves its arguments and the semaphores as they were. -/
theorem referenceIdeal : quiescent_Reference6Ideal (hReference6Ideal := Cert.Reference6Ideal.Gen.facts) :=
  fun m g _ => (θ_run Cert.Reference6Ideal.defs _ _).mono
    (fun r h => ⟨fun c => (h c).2, sem_eq_zero_of_no_sems (by decide) r.2⟩)
    (Cert.Reference6Ideal.Value.run (F := Ideal) m g)

/-- The idealized kernel and the reference end with the same array: the product without the gates' columns. -/
theorem algebraic : algebraic_Kernel6Ideal_Reference6Ideal (hKernel6Ideal := Cert.Kernel6Ideal.Gen.facts)
    (hReference6Ideal := Cert.Reference6Ideal.Gen.facts) := by
  intro m g m' g' _ hag
  refine ⟨fun c => Cert.Kernel6Ideal.Value.product (m ((c.tc : Thread _ _).loc Cert.Kernel6Ideal.main_arg0))
    (m ((c.tc : Thread _ _).loc Cert.Kernel6Ideal.main_arg1)), ?_, ?_⟩
  · exact (θ_run Cert.Kernel6Ideal.defs _ _).mono
      (fun r h c => ⟨((h c).1).trans (Cert.Kernel6Ideal.Value.final m c), (h c).2⟩)
      (Cert.Kernel6Ideal.Value.run_blocks (F := Ideal) m g)
  · refine (θ_run Cert.Reference6Ideal.defs _ _).mono (fun r h c => ⟨((h c).1).trans ?_, (h c).2⟩)
      (Cert.Reference6Ideal.Value.run (F := Ideal) m' g')
    rw [(hag c).1, (hag c).2]

end Cert.DeltaProjectionClaims

end
-- ==== Proof.DeltaOutput.lean ====
module

public import proofs.«01_k».proof.Proof.Output
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ValueKit
public import Idealize.ShloMosaic.Lib.Pipeline.Covers
public import Idealize.ShloMosaic.Lib.Pipeline.ReadBack
public import Idealize.ShloMosaic.Lib.Claim
public import Idealize.ShloMosaic.Lib.ValueLayout

/-!
# The delta-net layer's output projection

The call of `Output` with 4096 entries to a row of activations, and the gain and offset of layer 2.
-/

@[expose] public section

set_option maxRecDepth 32768
set_option backward.proofsInPublic true

noncomputable section

open Idealize.ShloMosaic Idealize.ShloMosaic.TcCoe Idealize.SL.Sem
open Idealize.ShloMosaic.Pipeline (Dat)

namespace Cert.DeltaOutput

open Cert.Output

/-- The normed rows, from the five arguments. -/
def rows (a : Shape.Idx ⟨2, ![32768, 4096]⟩ → EReal) (w : Shape.Idx ⟨3, ![1, 4096, 2048]⟩ → EReal) (x : Shape.Idx ⟨2, ![32768, 2048]⟩ → EReal)
    (g b : Shape.Idx ⟨2, ![4, 2048]⟩ → EReal) (r : Fin 32768) (j : Fin 2048) : EReal :=
  normed (row (fun k => a (ix2 r k)) (fun k => x (ix2 r k)) (fun k n => w (ix3 0 k n))) (fun k => g (ix2 2 k)) (fun k => b (ix2 2 k)) j

end Cert.DeltaOutput

namespace Cert.Reference7Ideal.Read

open Cert.Reference7Ideal Cert.Reference7Ideal.Gen
open Cert.Output (mean normed row)
open Cert.DeltaOutput (rows)

variable (x0 : FVec Ideal S32768x4096 .bf16) (x1 : FVec Ideal S1x4096x2048 .f32) (x2 : FVec Ideal S32768x2048 .f32)
  (x3 x4 : FVec Ideal S4x2048 .f32)

/-- The reference's row before the norm. -/
theorem v5_at (r : Fin 32768) (j : Fin 2048) : val_main_v5 (F := Ideal) x0 x1 x2 (ix2 r j)
    = row (fun k => x0 (ix2 r k)) (fun k => x2 (ix2 r k)) (fun k n => x1 (ix3 0 k n)) j := by
  pointwise [val_main_v5, val_main_v4, val_main_v3, val_main_v2, val_main_v1, val_main_v0, val_main_cst]
  rfl

/-- The reference's result is the norm of that row. -/
theorem v33_at (r : Fin 32768) (j : Fin 2048) : val_main_v33 (F := Ideal) x0 x1 x2 x3 x4 (ix2 r j)
    = normed (fun k => val_main_v5 (F := Ideal) x0 x1 x2 (ix2 r k)) (fun k => x3 (ix2 2 k)) (fun k => x4 (ix2 2 k)) j := by
  pointwise [val_main_v33, val_main_v32, val_main_v31, val_main_v30, val_main_v29, val_main_v28, val_main_v27, val_main_v26,
    val_main_v25, val_main_v24, val_main_v23, val_main_v22, val_main_v21, val_main_v20, val_main_v19, val_main_cst_4, val_main_v18,
    val_main_v17, val_main_v16, val_main_v15, val_main_cst_3, val_main_v14, val_main_v13, val_main_cst_2, val_main_v12, val_main_v11,
    val_main_v10, val_main_v9, val_main_v8, val_main_cst_1, val_main_v7, val_main_v6, val_main_cst_0]
  rfl

/-- The reference's result in full. -/
theorem rows_at (r : Fin 32768) (j : Fin 2048) : val_main_v33 (F := Ideal) x0 x1 x2 x3 x4 (ix2 r j) = rows x0 x1 x2 x3 x4 r j := by
  rw [v33_at]
  unfold rows
  exact congrArg (fun z => normed z _ _ j) (funext fun k => v5_at x0 x1 x2 r k)

/-- The same at any index. -/
theorem rows_full (y : S32768x2048.Idx) : val_main_v33 (F := Ideal) x0 x1 x2 x3 x4 y = rows x0 x1 x2 x3 x4 (y 0) (y 1) := by
  obtain ⟨r, j, rfl⟩ : ∃ (r : Fin 32768) (j : Fin 2048), y = ix2 r j := ⟨y 0, y 1, by funext a; fin_cases a <;> rfl⟩
  exact rows_at x0 x1 x2 x3 x4 r j

end Cert.Reference7Ideal.Read

namespace Cert.Kernel7Ideal.Value

open Cert.Kernel7Ideal Cert.Kernel7Ideal.Gen
open Cert.Output (mean normed row)
open Cert.DeltaOutput (rows)

/-- What a grid point computes, entry by entry. -/
theorem pay1_at (a : FVec Ideal S256x4096 .bf16) (w : FVec Ideal S4096x2048 .bf16) (x : FVec Ideal S256x2048 .f32)
    (g b : FVec Ideal S1x2048 .f32) (r : Fin 256) (j : Fin 2048) : k0_pay1 (F := Ideal) a w x g b (ix2 r j)
      = normed (row (fun k => a (ix2 r k)) (fun k => x (ix2 r k)) (fun k n => w (ix2 k n))) (fun k => g (ix2 0 k)) (fun k => b (ix2 0 k)) j := by
  pointwise [k0_pay1]
  rfl

variable (m : (ℓ : Loc nD τ sig) → Buf (Elt Ideal) ℓ)

/-- The block of each window at grid point `t`: the rows' windows move with `t`, the others stay. -/
theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] ∧ win0_6.index t = ![t.val, 0]
    ∧ win0_7.index t = ![t.val, 0] :=
  (by decide +kernel : ∀ t : Fin grid0.N, _)

/-- The weights the kernel reads, rounded on the host. -/
theorem weights (c : Dev nD) (k : Fin 4096) (n : Fin 2048) : V m c main_v1 (ix2 k n) = m ((c : Thread nD τ).loc main_arg1) (ix3 0 k n) := by
  have e : V m c main_v1 = truncf (F := Ideal) .bf16 (shapeCast S4096x2048 (m ((c : Thread nD τ).loc main_arg1))
      shapeCasts_S1x4096x2048_S4096x2048) bitsLt_bf16_f32 := by
    simp only [V, hostOps0, List.flatten_cons, List.flatten_nil, List.append_nil, List.cons_append, List.nil_append]
    after_results_simp <;> rfl
  rw [e]
  refine (truncf_apply _ _ _ _).trans ?_
  exact ValueIdx.shapeCast_1ab_ab_apply _ _ k n

/-- The gains the kernel reads. -/
theorem gains (c : Dev nD) (k : Fin 2048) : V m c main_v6 (ix2 0 k) = m ((c : Thread nD τ).loc main_arg3) (ix2 2 k) := by
  have e : V m c main_v6 = shapeCast _ (shapeCast _ (extractStridedSlice S1x2048 ![2, 0] (m ((c : Thread nD τ).loc main_arg3))
      slices_S4x2048_S1x2048_2_0) shapeCasts_S1x2048_S2048) shapeCasts_S2048_S1x2048 := by
    simp only [V, hostOps0, List.flatten_cons, List.flatten_nil, List.append_nil, List.cons_append, List.nil_append]
    after_results_simp <;> rfl
  rw [e]
  pointwise []

/-- The offsets the kernel reads. -/
theorem offsets (c : Dev nD) (k : Fin 2048) : V m c main_v7 (ix2 0 k) = m ((c : Thread nD τ).loc main_arg4) (ix2 2 k) := by
  have e : V m c main_v7 = shapeCast _ (shapeCast _ (extractStridedSlice S1x2048 ![2, 0] (m ((c : Thread nD τ).loc main_arg4))
      slices_S4x2048_S1x2048_2_0) shapeCasts_S1x2048_S2048) shapeCasts_S2048_S1x2048 := by
    simp only [V, hostOps0, List.flatten_cons, List.flatten_nil, List.append_nil, List.cons_append, List.nil_append]
    after_results_simp <;> rfl
  rw [e]
  pointwise []

/-- The normed rows of the arguments at launch. -/
abbrev result (c : Dev nD) (r : Fin 32768) (j : Fin 2048) : EReal :=
  rows (m ((c : Thread nD τ).loc main_arg0)) (m ((c : Thread nD τ).loc main_arg1)) (m ((c : Thread nD τ).loc main_arg2))
    (m ((c : Thread nD τ).loc main_arg3)) (m ((c : Thread nD τ).loc main_arg4)) r j

/-- A grid point's payload is its block of the normed rows. -/
theorem point (c : Dev nD) (t : Fin cfg0.N) (ht : t.val < 128) (r : Fin 256) (j : Fin 2048) :
    k0_pay1 (F := Ideal) (iblk m c 0 t) (iblk m c 1 t) (iblk m c 2 t) (iblk m c 3 t) (iblk m c 4 t) (ix2 r j)
      = result m c ⟨256 * t.val + r.val, by omega⟩ j := by
  have h0 : ∀ k : Fin 4096, iblk m c 0 t (ix2 r k) = m ((c : Thread nD τ).loc main_arg0) (ix2 ⟨256 * t.val + r.val, by omega⟩ k) := fun k => by
    blk_ext [iblk, V, idx t]
  have h2 : ∀ k : Fin 2048, iblk m c 2 t (ix2 r k) = m ((c : Thread nD τ).loc main_arg2) (ix2 ⟨256 * t.val + r.val, by omega⟩ k) := fun k => by
    blk_ext [iblk, V, idx t]
  have h1 : ∀ (k : Fin 4096) (n : Fin 2048), iblk m c 1 t (ix2 k n) = V m c main_v1 (ix2 k n) := fun k n => by blk_ext [iblk, idx t]
  have h3 : ∀ k : Fin 2048, iblk m c 3 t (ix2 0 k) = V m c main_v6 (ix2 0 k) := fun k => by blk_ext [iblk, idx t]
  have h4 : ∀ k : Fin 2048, iblk m c 4 t (ix2 0 k) = V m c main_v7 (ix2 0 k) := fun k => by blk_ext [iblk, idx t]
  rw [pay1_at]
  unfold result rows
  congr 1
  · congr 1
    · exact funext h0
    · exact funext h2
    · exact funext fun k => funext fun n => (h1 k n).trans (weights m c k n)
  · exact funext fun k => (h3 k).trans (gains m c k)
  · exact funext fun k => (h4 k).trans (offsets m c k)

/-- An index of a block, by its row and its column. -/
theorem split_idx (y : S256x2048.Idx) : ∃ (r : Fin 256) (j : Fin 2048), y = ix2 r j := ⟨y 0, y 1, by funext a; fin_cases a <;> rfl⟩

/-- What a grid point leaves in the first result's block. -/
theorem out5_at (c : Dev nD) (t : Fin cfg0.N) (y : S256x2048.Idx) (i : Fin 32768) (j : Fin 2048) (hi : i.val = 256 * t.val + (y 0).val) (hj : j = y 1) :
    out0_5 (F := Ideal) (iblk m c 0 t) (iblk m c 1 t) (iblk m c 2 t) (iblk m c 3 t) (iblk m c 4 t) y = result m c i j := by
  have ht : t.val < 128 := lt_of_lt_of_eq t.isLt (by decide +kernel)
  obtain ⟨r, s, rfl⟩ := split_idx y
  subst hj
  obtain ⟨i, hlt⟩ := i
  obtain rfl : i = 256 * t.val + r.val := hi
  frame_out
  exact point m c t ht r _

/-- What a grid point leaves in the second result's block. -/
theorem out6_at (c : Dev nD) (t : Fin cfg0.N) (y : S256x2048.Idx) (i : Fin 32768) (j : Fin 2048) (hi : i.val = 256 * t.val + (y 0).val) (hj : j = y 1) :
    out0_6 (F := Ideal) (iblk m c 0 t) (iblk m c 1 t) (iblk m c 2 t) (iblk m c 3 t) (iblk m c 4 t) y = result m c i j := by
  have ht : t.val < 128 := lt_of_lt_of_eq t.isLt (by decide +kernel)
  obtain ⟨r, s, rfl⟩ := split_idx y
  subst hj
  obtain ⟨i, hlt⟩ := i
  obtain rfl : i = 256 * t.val + r.val := hi
  frame_out
  exact point m c t ht r _

/-- What a grid point leaves in the third result's block. -/
theorem out7_at (c : Dev nD) (t : Fin cfg0.N) (y : S256x2048.Idx) (i : Fin 32768) (j : Fin 2048) (hi : i.val = 256 * t.val + (y 0).val) (hj : j = y 1) :
    out0_7 (F := Ideal) (iblk m c 0 t) (iblk m c 1 t) (iblk m c 2 t) (iblk m c 3 t) (iblk m c 4 t) y = result m c i j := by
  have ht : t.val < 128 := lt_of_lt_of_eq t.isLt (by decide +kernel)
  obtain ⟨r, s, rfl⟩ := split_idx y
  subst hj
  obtain ⟨i, hlt⟩ := i
  obtain rfl : i = 256 * t.val + r.val := hi
  frame_out
  exact point m c t ht r _

/-- The first result array after the run: the normed rows. -/
theorem final5 (c : Dev nD) : (dats m 0 c).arrAt 5 cfg0.N = fun y : S32768x2048.Idx => result m c (y 0) (y 1) := by
  refine (dats m 0 c).arrAt_eq_of_covers 5 _ (by decide +kernel) fun t hf y => ?_
  have w0 : win0_5.index t 0 = t.val := congrFun (idx t).2.2.2.2.2.1 0
  have w1 : win0_5.index t 1 = 0 := congrFun (idx t).2.2.2.2.2.1 1
  blk_simp
  rw [after0_5]
  refine out5_at m c t y _ _ ?_ (Fin.ext ?_)
  · refine (Pipeline.Window.rect_emb_val (cfg0.win 5) t y (0 : Fin 2)).trans ?_
    show win0_5.index t 0 * 256 + (y 0).val = 256 * t.val + (y 0).val
    rw [w0]
    omega
  · refine (Pipeline.Window.rect_emb_val (cfg0.win 5) t y (1 : Fin 2)).trans ?_
    show win0_5.index t 1 * 2048 + (y 1).val = (y 1).val
    rw [w1]
    omega

/-- The second result array after the run: the normed rows. -/
theorem final6 (c : Dev nD) : (dats m 0 c).arrAt 6 cfg0.N = fun y : S32768x2048.Idx => result m c (y 0) (y 1) := by
  refine (dats m 0 c).arrAt_eq_of_covers 6 _ (by decide +kernel) fun t hf y => ?_
  have w0 : win0_6.index t 0 = t.val := congrFun (idx t).2.2.2.2.2.2.1 0
  have w1 : win0_6.index t 1 = 0 := congrFun (idx t).2.2.2.2.2.2.1 1
  blk_simp
  rw [after0_6]
  refine out6_at m c t y _ _ ?_ (Fin.ext ?_)
  · refine (Pipeline.Window.rect_emb_val (cfg0.win 6) t y (0 : Fin 2)).trans ?_
    show win0_6.index t 0 * 256 + (y 0).val = 256 * t.val + (y 0).val
    rw [w0]
    omega
  · refine (Pipeline.Window.rect_emb_val (cfg0.win 6) t y (1 : Fin 2)).trans ?_
    show win0_6.index t 1 * 2048 + (y 1).val = (y 1).val
    rw [w1]
    omega

/-- The third result array after the run: the normed rows. -/
theorem final7 (c : Dev nD) : (dats m 0 c).arrAt 7 cfg0.N = fun y : S32768x2048.Idx => result m c (y 0) (y 1) := by
  refine (dats m 0 c).arrAt_eq_of_covers 7 _ (by decide +kernel) fun t hf y => ?_
  have w0 : win0_7.index t 0 = t.val := congrFun (idx t).2.2.2.2.2.2.2 0
  have w1 : win0_7.index t 1 = 0 := congrFun (idx t).2.2.2.2.2.2.2 1
  blk_simp
  rw [after0_7]
  refine out7_at m c t y _ _ ?_ (Fin.ext ?_)
  · refine (Pipeline.Window.rect_emb_val (cfg0.win 7) t y (0 : Fin 2)).trans ?_
    show win0_7.index t 0 * 256 + (y 0).val = 256 * t.val + (y 0).val
    rw [w0]
    omega
  · refine (Pipeline.Window.rect_emb_val (cfg0.win 7) t y (1 : Fin 2)).trans ?_
    show win0_7.index t 1 * 2048 + (y 1).val = (y 1).val
    rw [w1]
    omega

end Cert.Kernel7Ideal.Value

end
-- ==== Proof.DeltaOutputClaims.lean ====
module

public import proofs.«01_k».proof.Defs
public import proofs.«01_k».proof.Proof.DeltaOutput
public import proofs.«01_k».proof.Proof.Gen.Kernel7.Frame
public import Idealize.ShloMosaic.Lib.Quiescent

/-!
# The delta-net layer's output projection: the claims

The kernel runs as printed and idealized, the reference runs, and the idealized kernel and the
reference end with equal results.
-/

@[expose] public section

noncomputable section

namespace Cert.DeltaOutputClaims

open Idealize.ShloMosaic Idealize.SL.Sem

/-- The kernel, as printed, runs and leaves its arguments and the semaphores as they were. -/
theorem kernel : quiescent_Kernel7 (hKernel7 := Cert.Kernel7.Gen.facts) :=
  fun m g _ => Cert.Kernel7.Gen.frame m g

/-- The idealized kernel runs and leaves its arguments and the semaphores as they were. -/
theorem kernelIdeal : quiescent_Kernel7Ideal (hKernel7Ideal := Cert.Kernel7Ideal.Gen.facts) :=
  fun m g _ => Cert.Kernel7Ideal.Gen.frame m g

/-- The reference runs and leaves its arguments and the semaphores as they were. -/
theorem referenceIdeal : quiescent_Reference7Ideal (hReference7Ideal := Cert.Reference7Ideal.Gen.facts) :=
  fun m g _ => (θ_run Cert.Reference7Ideal.defs _ _).mono
    (fun r h => ⟨fun c => (h c).2.2.2, sem_eq_zero_of_no_sems (by decide) r.2⟩)
    (Cert.Reference7Ideal.Value.run (F := Ideal) m g)

/-- The idealized kernel and the reference end with the same three arrays: the normed rows. -/
theorem algebraic : algebraic_Kernel7Ideal_Reference7Ideal (hKernel7Ideal := Cert.Kernel7Ideal.Gen.facts)
    (hReference7Ideal := Cert.Reference7Ideal.Gen.facts) := by
  intro m g m' g' _ hag
  refine ⟨fun c y => Cert.Kernel7Ideal.Value.result m c (y 0) (y 1), fun c y => Cert.Kernel7Ideal.Value.result m c (y 0) (y 1),
    fun c y => Cert.Kernel7Ideal.Value.result m c (y 0) (y 1), ?_, ?_⟩
  · exact (θ_run Cert.Kernel7Ideal.defs _ _).mono
      (fun r h c => ⟨((h c).1).trans (Cert.Kernel7Ideal.Value.final5 m c), ((h c).2.1).trans (Cert.Kernel7Ideal.Value.final6 m c),
        ((h c).2.2.1).trans (Cert.Kernel7Ideal.Value.final7 m c), (h c).2.2.2⟩)
      (Cert.Kernel7Ideal.Value.run_blocks (F := Ideal) m g)
  · refine (θ_run Cert.Reference7Ideal.defs _ _).mono
      (fun r h c => ⟨((h c).1).trans ?_, ((h c).2.1).trans ?_, ((h c).2.2.1).trans ?_, (h c).2.2.2⟩)
      (Cert.Reference7Ideal.Value.run (F := Ideal) m' g')
    · rw [Cert.Reference7Ideal.Read.val_main_v33_eq m' c, (hag c).1, (hag c).2.1, (hag c).2.2.1, (hag c).2.2.2.1, (hag c).2.2.2.2]
      funext y
      exact Cert.Reference7Ideal.Read.rows_full _ _ _ _ _ y
    · rw [Cert.Reference7Ideal.Read.val_main_v34_eq m' c, (hag c).1, (hag c).2.1, (hag c).2.2.1, (hag c).2.2.2.1, (hag c).2.2.2.2]
      funext y
      exact (Cert.Reference7Ideal.Read.val_main_v34_apply _ _ _ _ _ y).trans (Cert.Reference7Ideal.Read.rows_full _ _ _ _ _ y)
    · rw [Cert.Reference7Ideal.Read.val_main_v35_eq m' c, (hag c).1, (hag c).2.1, (hag c).2.2.1, (hag c).2.2.2.1, (hag c).2.2.2.2]
      funext y
      exact (Cert.Reference7Ideal.Read.val_main_v35_apply _ _ _ _ _ y).trans (Cert.Reference7Ideal.Read.rows_full _ _ _ _ _ y)

end Cert.DeltaOutputClaims

end
-- ==== Proof.GatesSum.lean ====
module

public import Idealize.ShloMosaic.Lib.Pipeline.ValueKit
public import Idealize.ShloMosaic.Lib.Routing.OpsOne
public import Idealize.ShloMosaic.Lib.ValueLayout

/-!
# Running sums within chunks of 64 rows

The sum of a row and those before it in its chunk of 64, as six shifted additions compute it and as
a sum over a sliding window computes it; and a row of a table written at an offset.
-/

@[expose] public section

set_option maxRecDepth 32768
set_option backward.proofsInPublic true

noncomputable section

open Idealize.ShloMosaic Idealize.ShloMosaic.TcCoe Idealize.SL.Sem
open Idealize.ShloMosaic.Routing

namespace Cert.Gates

/-- The sum of row `r` and the rows before it in its chunk of 64. -/
def running {N : Nat} (f : Fin N → EReal) (r : Fin N) : EReal :=
  ∑ q ∈ Finset.range (r.val % 64 + 1), f ⟨r.val - q, by omega⟩

/-- One shifted addition: to each row, the row `s` before it if that lies in the same chunk. -/
def step (s : Nat) (f : Fin 512 → EReal) (r : Fin 512) : EReal :=
  f r + if s ≤ r.val % 64 then f ⟨(r.val + 512 - s) % 512, Nat.mod_lt _ (by decide)⟩ else 0

/-- The sum of row `r` and at most `s - 1` rows before it in its chunk. -/
def partial' (s : Nat) (f : Fin 512 → EReal) (r : Fin 512) : EReal :=
  ∑ q ∈ Finset.range (min (r.val % 64 + 1) s), f ⟨r.val - q, by omega⟩

/-- A shifted addition doubles the number of rows summed. -/
theorem step_partial (s : Nat) (hs : 0 < s) (f : Fin 512 → EReal) : step s (partial' s f) = partial' (s + s) f := by
  funext r
  have hr : r.val < 512 := r.isLt
  unfold step
  by_cases h : s ≤ r.val % 64
  · rw [if_pos h]
    unfold partial'
    have e : (r.val + 512 - s) % 512 = r.val - s := by omega
    have e1 : min (r.val % 64 + 1) s = s := by omega
    have e2 : min (r.val % 64 + 1) (s + s) = s + min ((r.val - s) % 64 + 1) s := by omega
    simp only [e, e1, e2]
    rw [Finset.sum_range_add]
    congr 1
    refine Finset.sum_congr rfl fun q _ => congrArg f (Fin.ext ?_)
    show r.val - s - q = r.val - (s + q)
    omega
  · rw [if_neg h, add_zero]
    unfold partial'
    have e : min (r.val % 64 + 1) s = min (r.val % 64 + 1) (s + s) := by omega
    rw [e]

/-- No addition: the row itself. -/
theorem partial_one (f : Fin 512 → EReal) : partial' 1 f = f := by
  funext r
  unfold partial'
  have e : min (r.val % 64 + 1) 1 = 1 := by omega
  rw [e, Finset.sum_range_one]
  exact congrArg f (Fin.ext (Nat.sub_zero _))

/-- The six shifted additions give the running sum. -/
theorem steps (f : Fin 512 → EReal) : step 32 (step 16 (step 8 (step 4 (step 2 (step 1 f))))) = running f := by
  conv_lhs => rw [← partial_one f]
  rw [step_partial 1 (by decide), step_partial 2 (by decide), step_partial 4 (by decide), step_partial 8 (by decide),
    step_partial 16 (by decide), step_partial 32 (by decide)]
  funext r
  unfold partial' running
  have e : min (r.val % 64 + 1) (32 + 32) = r.val % 64 + 1 := by omega
  rw [e]

/-- A fold of additions over the first `n` numbers is a sum. -/
theorem foldl_add (n : Nat) (f : Fin n → EReal) (a : EReal) :
    (List.finRange n).foldl (fun r k => r + f k) a = a + ∑ k, f k := by
  rw [← List.sum_ofFn, List.ofFn_eq_map]
  generalize List.finRange n = l
  induction l generalizing a with
  | nil => simp
  | cons x l ih => rw [List.foldl_cons, ih, List.map_cons, List.sum_cons, add_assoc]

/-- A window of 64 ending at place `i`, read backwards: the places up to `i`. -/
theorem window_sum (i : Fin 64) (f : Nat → EReal) :
    (∑ n : Fin 64, if 63 ≤ i.val + n.val then f (i.val + n.val - 63) else 0) = ∑ q ∈ Finset.range (i.val + 1), f (i.val - q) := by
  rw [Fin.sum_univ_eq_sum_range (fun n => if 63 ≤ i.val + n then f (i.val + n - 63) else 0) 64, ← Finset.sum_range_reflect,
    ← Finset.sum_filter]
  have e : Finset.filter (fun j => 63 ≤ i.val + (64 - 1 - j)) (Finset.range 64) = Finset.range (i.val + 1) := by
    ext j
    simp only [Finset.mem_filter, Finset.mem_range]
    omega
  rw [e]
  refine Finset.sum_congr rfl fun q hq => congrArg f ?_
  have := Finset.mem_range.1 hq
  omega

/-- A place in a window of 64 rows, by its row. -/
def window_equiv : Shape.Idx ⟨3, ![1, 64, 1]⟩ ≃ Fin 64 where
  toFun y := y 1
  invFun k := ix3 0 k 0
  left_inv y := by
    funext a
    fin_cases a
    · exact Subsingleton.elim (α := Fin 1) _ _
    · rfl
    · exact Subsingleton.elim (α := Fin 1) _ _
  right_inv k := rfl

/-- The host's sum over a window of 64 rows that ends at the row: the rows up to it in its chunk. -/
theorem window_at (x : FVec Ideal ⟨3, ![512, 64, 32]⟩ .f32) (v : FVec Ideal ⟨0, ![]⟩ .f32)
    (hv : v (Shape.Idx.first (by decide)) = (0 : EReal))
    (h : Shape.ReduceWindows ⟨3, ![512, 64, 32]⟩ ![1, 64, 1] ![1, 1, 1] ![0, 63, 0] ![0, 0, 0] ⟨3, ![512, 64, 32]⟩)
    (hu : 0 < Shape.numel ⟨0, ![]⟩) (c : Fin 512) (i : Fin 64) (n : Fin 32) :
    Host.reduceWindowAdd (F := Ideal) (φ := .f32) ![1, 64, 1] ![1, 1, 1] ![0, 63, 0] ![0, 0, 0] x v h hu (ix3 c i n)
      = ∑ q ∈ Finset.range (i.val + 1), x (ix3 c ⟨i.val - q, by omega⟩ n) := by
  let g : Nat → EReal := fun k => if hk : k < 64 then x (ix3 c ⟨k, hk⟩ n) else 0
  have hg : (∑ q ∈ Finset.range (i.val + 1), x (ix3 c ⟨i.val - q, by omega⟩ n)) = ∑ q ∈ Finset.range (i.val + 1), g (i.val - q) := by
    refine Finset.sum_congr rfl fun q hq => ?_
    show _ = dite (i.val - q < 64) _ _
    rw [dif_pos (show i.val - q < 64 by omega)]
  rw [hg, ← window_sum]
  unfold Host.reduceWindowAdd
  rw [Ideal.hostReduceWindowAdd_def]
  unfold Ideal.hostReduceWindowAdd Host.reduceWindow
  dsimp only
  rw [foldl_add, hv, zero_add]
  refine Fintype.sum_equiv ((Shape.rowMajor ⟨3, ![1, 64, 1]⟩).symm.trans window_equiv) _ _ fun n' => ?_
  obtain ⟨k, rfl⟩ := ((Shape.rowMajor ⟨3, ![1, 64, 1]⟩).symm.trans window_equiv).symm.surjective n'
  rw [Equiv.apply_symm_apply]
  simp only [Equiv.symm_trans_apply, Equiv.symm_symm, Equiv.symm_apply_apply]
  by_cases hk : 63 ≤ i.val + k.val
  · rw [if_pos hk, dif_pos ?_]
    · refine Eq.trans ?_ (dif_pos (show i.val + k.val - 63 < 64 by omega)).symm
      refine congrArg x (funext fun a => Fin.ext ?_)
      fin_cases a
      · show c.val * 1 + 0 - 0 = c.val
        omega
      · show i.val * 1 + k.val - 63 = i.val + k.val - 63
        omega
      · show n.val * 1 + 0 - 0 = n.val
        omega
    · intro a
      fin_cases a
      · show 0 ≤ c.val * 1 + 0 ∧ c.val * 1 + 0 - 0 < 512
        omega
      · show 63 ≤ i.val * 1 + k.val ∧ i.val * 1 + k.val - 63 < 64
        omega
      · show 0 ≤ n.val * 1 + 0 ∧ n.val * 1 + 0 - 0 < 32
        omega
  · rw [if_neg hk, dif_neg fun h' => hk ?_]
    have h1 : 63 ≤ i.val * 1 + k.val := (h' 1).1
    omega

/-- Update `k` of a row written at an offset lands at `(r, c)` exactly when the first index word is `r` and the second plus `k` is `c`. -/
theorem lands_row {R C U w : Nat} (d : ScatterDims (shape2 R C) (shape1 2) (shape1 U)) (hiw : d.insertedWindowDims = [0])
    (hsd : d.scatterDimsToOperandDims = [0, 1]) (hivd : d.indexVectorDim = 0) (idx : IVec (shape1 2) w) (k : Fin U) (r : Fin R) (c : Fin C) :
    d.resultIdx? (ValueIdx.ix1 k) idx = some (ValueIdx.ix2 r c) ↔ (idx (ValueIdx.ix1 (0 : Fin 2))).toInt = r.val ∧ (idx (ValueIdx.ix1 (1 : Fin 2))).toInt + (k.val : Int) = c.val := by
  have hwin1 : d.window (ValueIdx.ix1 k) 1 = k.val := by
    have hk : d.sKept = [1] := by
      show (shape2 R C).kept d.insertedWindowDims = _
      rw [hiw]
      rfl
    unfold ScatterDims.window
    rw [dif_pos (by rw [hk]; simp)]
    exact congrArg (fun t => ((ValueIdx.ix1 k : (shape1 U).Idx) t).val) (Subsingleton.elim (α := Fin 1) _ 0)
  have hwin0 : d.window (ValueIdx.ix1 k) 0 = 0 := by
    unfold ScatterDims.window
    rw [dif_neg fun h => (of_decide_eq_true (List.mem_filter.1 h).2) (by rw [hiw]; simp)]
  rw [resultIdx?_ix2, start_pair d hsd hivd, start_pair d hsd hivd, hwin0, hwin1]
  omega

/-- A row written at an offset, read inside the part written. -/
theorem scatter_row {R C U w : Nat} (d : ScatterDims (shape2 R C) (shape1 2) (shape1 U)) (hiw : d.insertedWindowDims = [0])
    (hsd : d.scatterDimsToOperandDims = [0, 1]) (hivd : d.indexVectorDim = 0) (x : (shape2 R C).Idx → EReal) (idx : IVec (shape1 2) w)
    (u : (shape1 U).Idx → EReal) (k : Fin U) (r : Fin R) (c : Fin C) (h0 : (idx (ValueIdx.ix1 (0 : Fin 2))).toInt = r.val)
    (h1 : (idx (ValueIdx.ix1 (1 : Fin 2))).toInt + (k.val : Int) = c.val) :
    Host.scatter d (fun _ b => b) x idx u (ValueIdx.ix2 r c) = u (ValueIdx.ix1 k) := by
  refine scatter_set_hit d x idx u _ _ (fun k' hk' => ?_) (ValueIdx.ix1 k) ((lands_row d hiw hsd hivd idx k r c).2 ⟨h0, h1⟩)
  have q := ((lands_row d hiw hsd hivd idx (k' 0) r c).1 ((congrArg (fun t => d.resultIdx? t idx) (ValueIdx.eq_ix1 k').symm).trans hk')).2
  rw [ValueIdx.eq_ix1 k']
  refine congrArg (fun e => u (ValueIdx.ix1 e)) (Fin.ext ?_)
  show (k' 0).val = k.val
  omega

end Cert.Gates

end
-- ==== Proof.GatesReference.lean ====
module

public import proofs.«01_k».proof.Proof.GatesSum
public import proofs.«01_k».proof.Proof.Gen.Reference8Ideal.Run
public import proofs.«01_k».proof.Proof.Gen.Reference8Ideal.Read
public import Idealize.ShloMosaic.Lib.Pipeline.ValueKit
public import Idealize.ShloMosaic.Lib.Claim
public import Idealize.ShloMosaic.Lib.ValueLayout

/-!
# The delta-net layer's gates: the formula and the reference

A row's 128 entries: the 32 heads' gates, the 32 heads' summed log decays, and 64 zeros.
-/

@[expose] public section

set_option maxRecDepth 32768
set_option backward.proofsInPublic true

noncomputable section

open Idealize.ShloMosaic Idealize.ShloMosaic.TcCoe Idealize.SL.Sem
open Idealize.ShloMosaic.Pipeline (Dat)

namespace Cert.Gates

/-- A row of activations times a column of weights. -/
def logit (x : Fin 2048 → EReal) (w : Fin 2048 → EReal) : EReal := ∑ k, x k * w k

/-- The logistic function. -/
def logistic (z : EReal) : EReal := Ideal.div 1 (1 + Ideal.exp (-z))

/-- A head's log decay, from its logit, the log of its rate and its offset. -/
def decay (z a d : EReal) : EReal := -Ideal.exp a * (max (z + d) 0 + Ideal.log (1 + Ideal.exp (-(FloatOps.absf (F := Ideal) (φ := .f32) (z + d)))))

/-- A row's entries, from the four arguments. -/
def entry (x : Shape.Idx ⟨2, ![32768, 2048]⟩ → EReal) (w : Shape.Idx ⟨3, ![1, 2048, 12352]⟩ → EReal) (a d : Shape.Idx ⟨2, ![1, 32]⟩ → EReal)
    (r : Fin 32768) (l : Fin 128) : EReal :=
  if h : l.val < 32 then logistic (logit (fun k => x (ix2 r k)) (fun k => w (ix3 0 k ⟨12288 + l.val, by omega⟩)))
  else if h' : l.val < 64 then
    running (fun r' => decay (logit (fun k => x (ix2 r' k)) (fun k => w (ix3 0 k ⟨12288 + l.val, by omega⟩)))
      (a (ix2 0 ⟨l.val - 32, by omega⟩)) (d (ix2 0 ⟨l.val - 32, by omega⟩))) r
  else 0

end Cert.Gates

namespace Cert.Reference8Ideal.Read

open Cert.Reference8Ideal Cert.Reference8Ideal.Gen
open Cert.Gates

variable (x0 : FVec Ideal S32768x2048 .f32) (x1 : FVec Ideal S1x2048x12352 .f32) (x2 x3 : FVec Ideal S1x32 .f32)

/-- The reference's gates. -/
theorem v9_at (r : Fin 32768) (n : Fin 32) : val_main_v9 (F := Ideal) x0 x1 (ix2 r n)
    = logistic (logit (fun k => x0 (ix2 r k)) (fun k => x1 (ix3 0 k ⟨12288 + n.val, by omega⟩))) := by
  pointwise [val_main_v9, val_main_v8, val_main_v7, val_main_v6, val_main_v5, val_main_v4, val_main_v3, val_main_v2, val_main_v1, val_main_v0,
    val_main_cst, val_main_cst_0]
  rfl

/-- The reference's log decays. -/
theorem v21_at (r : Fin 32768) (n : Fin 32) : val_main_v21 (F := Ideal) x0 x1 x2 x3 (ix2 r n)
    = decay (logit (fun k => x0 (ix2 r k)) (fun k => x1 (ix3 0 k ⟨12288 + (32 + n.val), by omega⟩))) (x2 (ix2 0 n)) (x3 (ix2 0 n)) := by
  pointwise [val_main_v21, val_main_v20, val_main_v19, val_main_v18, val_main_v17, val_main_v16, val_main_v15, val_main_v14, val_main_v13,
    val_main_v12, val_main_v11, val_main_v10, val_main_v2, val_main_v1, val_main_v0,
    val_main_call0_cst, val_main_call0_v0, val_main_call0_v1, val_main_call0_v2, val_main_call0_v3, val_main_call0_v4, val_main_call0_v5,
    val_main_call0_v6, val_main_call0_v7, val_main_call0_v8, val_main_call0_v9, val_main_call0_v10, val_main_call0_v11]
  rw [if_neg (fun h => h rfl)]
  rfl

/-- The reference's log decays, by chunk. -/
theorem v22_at (c : Fin 512) (i : Fin 64) (n : Fin 32) : val_main_v22 (F := Ideal) x0 x1 x2 x3 (ix3 c i n)
    = val_main_v21 (F := Ideal) x0 x1 x2 x3 (ix2 ⟨64 * c.val + i.val, by omega⟩ n) := by
  rw [val_main_v22_apply]
  refine congrArg _ (funext fun a => Fin.ext ?_)
  fin_cases a
  · show ((c.val * 64 + i.val) * 32 + n.val) / 32 = 64 * c.val + i.val
    omega
  · show ((c.val * 64 + i.val) * 32 + n.val) % 32 = n.val
    omega

/-- The reference's summed log decays. -/
theorem v24_at (r : Fin 32768) (n : Fin 32) : val_main_v24 (F := Ideal) x0 x1 x2 x3 (ix2 r n)
    = running (fun r' => val_main_v21 (F := Ideal) x0 x1 x2 x3 (ix2 r' n)) r := by
  have hr : r.val < 32768 := r.isLt
  rw [val_main_v24_apply]
  have e : idx_main_v24 (ix2 r n) = ix3 ⟨r.val / 64, by omega⟩ ⟨r.val % 64, by omega⟩ n := by
    funext a
    refine Fin.ext ?_
    fin_cases a
    · show (r.val * 32 + n.val) / 2048 = r.val / 64
      omega
    · show (r.val * 32 + n.val) / 32 % 64 = r.val % 64
      omega
    · show (r.val * 32 + n.val) % 32 = n.val
      omega
  rw [e]
  unfold val_main_v23
  refine (window_at _ _ ?_ _ _ _ _ _).trans ?_
  · pointwise [val_main_call1_call0_v0, val_main_call1_call0_cst]
  · unfold running
    refine Finset.sum_congr rfl fun q hq => ?_
    have hq' := Finset.mem_range.1 hq
    rw [v22_at]
    refine congrArg (fun z => val_main_v21 (F := Ideal) x0 x1 x2 x3 (ix2 z n)) (Fin.ext ?_)
    show 64 * (r.val / 64) + (r.val % 64 - q) = r.val - q
    omega

/-- The reference's first result. -/
theorem v26_at (r : Fin 32768) (l : Fin 128) : val_main_v26 (F := Ideal) x0 x1 x2 x3 (ix2 r l) = entry x0 x1 x2 x3 r l := by
  unfold val_main_v26
  generalize e9 : val_main_v9 (F := Ideal) x0 x1 = y9
  generalize e24 : val_main_v24 (F := Ideal) x0 x1 x2 x3 = y24
  generalize e25 : val_main_v25 (F := Ideal) = y25
  pointwise []
  unfold entry
  by_cases h : l.val < 32
  · rw [dif_pos h, dif_pos h, ← e9, v9_at]
  · rw [dif_neg h, dif_neg h]
    by_cases h' : l.val < 64
    · rw [dif_pos h', dif_pos (show l.val - 32 < 32 by omega), ← e24, v24_at]
      refine congrArg (fun f => running f r) (funext fun r' => ?_)
      rw [v21_at]
      have el : (⟨12288 + (32 + (l.val - 32)), by omega⟩ : Fin 12352) = ⟨12288 + l.val, by omega⟩ := Fin.ext (by
        show 12288 + (32 + (l.val - 32)) = 12288 + l.val
        omega)
      simp only [el]
    · rw [dif_neg h', dif_neg (show ¬ l.val - 32 < 32 by omega), ← e25]
      pointwise [val_main_v25, val_main_cst_1]

/-- The same at any index. -/
theorem v26_full (y : S32768x128.Idx) : val_main_v26 (F := Ideal) x0 x1 x2 x3 y = entry x0 x1 x2 x3 (y 0) (y 1) := by
  obtain ⟨r, l, rfl⟩ : ∃ (r : Fin 32768) (l : Fin 128), y = ix2 r l := ⟨y 0, y 1, by funext a; fin_cases a <;> rfl⟩
  exact v26_at x0 x1 x2 x3 r l

/-- The reference's second result: the first's columns as rows. -/
theorem v27_full (y : S128x32768.Idx) : val_main_v27 (F := Ideal) x0 x1 x2 x3 y = entry x0 x1 x2 x3 (y 1) (y 0) := by
  rw [val_main_v27_apply, v26_full]
  rfl

end Cert.Reference8Ideal.Read

end
-- ==== Proof.Gates.lean ====
module

public import proofs.«01_k».proof.Proof.GatesReference
public import proofs.«01_k».proof.Proof.Gen.Kernel8Ideal.Value
public import Idealize.ShloMosaic.Lib.Pipeline.ValueKit
public import Idealize.ShloMosaic.Lib.Pipeline.Covers
public import Idealize.ShloMosaic.Lib.Pipeline.ReadBack
public import Idealize.ShloMosaic.Lib.KernelVsHost
public import Idealize.ShloMosaic.Lib.Claim
public import Idealize.ShloMosaic.Lib.ValueLayout

/-!
# The delta-net layer's gates: the kernel

A grid point computes 512 rows of 128 entries, and writes them once by rows and once by columns.
-/

@[expose] public section

set_option maxRecDepth 32768
set_option backward.proofsInPublic true

noncomputable section

open Idealize.ShloMosaic Idealize.ShloMosaic.TcCoe Idealize.SL.Sem
open Idealize.ShloMosaic.Pipeline (Dat)

namespace Cert.Kernel8Ideal.Value

open Cert.Kernel8Ideal Cert.Kernel8Ideal.Gen
open Cert.Gates

/-- One shifted addition of the kernel. -/
def roll (s : BitVec 32) (v : FVec Ideal S512x128 .f32) : FVec Ideal S512x128 .f32 :=
  addf v (select (cmpi .sge (andi (iota .tc S512x128 32 [0] iota_S512x128_d0_w32) (broadcast S512x128 63#32)) (broadcast S512x128 s))
    (dynamicRotate 0 s none v rotates_S512x128_d0) (broadcast S512x128 (Scalar.ofBits .f32 0x00000000#32)))

/-- The kernel's running sum is six of them. -/
theorem pay9_roll (v : FVec Ideal S512x128 .f32) :
    k0_pay9 (F := Ideal) v = roll 32#32 (roll 16#32 (roll 8#32 (roll 4#32 (roll 2#32 (roll 1#32 v))))) := rfl

/-- The kernel's test for a row of the same chunk. -/
theorem mask : ∀ r : Fin 512, ∀ s ∈ [1, 2, 4, 8, 16, 32],
    IntOp.cmpi CmpIPredicate.sge (IntOp.andi (BitVec.ofNat 32 r.val) 63#32) (BitVec.ofNat 32 s) = if s ≤ r.val % 64 then 1#1 else 0#1 := by
  decide +kernel

/-- One shifted addition, read at an entry. -/
theorem roll_at (s : Nat) (hs : s ∈ [1, 2, 4, 8, 16, 32]) (v : FVec Ideal S512x128 .f32) (r : Fin 512) (l : Fin 128) :
    roll (BitVec.ofNat 32 s) v (ix2 r l) = step s (fun r' => v (ix2 r' l)) r := by
  have hlt : s < 512 := by fin_cases hs <;> decide
  have hn : (BitVec.ofNat 32 s).toNat % 512 = s := by
    rw [BitVec.toNat_ofNat]
    omega
  pointwise [roll]
  unfold step
  rw [mask r s hs]
  congr 1
  by_cases h : s ≤ r.val % 64
  · rw [if_pos h, if_pos h]
    refine congrArg v ?_
    congr 1
    refine Fin.ext ?_
    show (r.val + 512 - (BitVec.ofNat 32 s).toNat % 512) % 512 = (r.val + 512 - s) % 512
    rw [hn]
  · rw [if_neg h, if_neg h]
    rfl

/-- The kernel's running sum, read at an entry. -/
theorem pay9_at (v : FVec Ideal S512x128 .f32) (r : Fin 512) (l : Fin 128) :
    k0_pay9 (F := Ideal) v (ix2 r l) = running (fun r' => v (ix2 r' l)) r := by
  have h : ∀ (s : Nat) (hs : s ∈ [1, 2, 4, 8, 16, 32]) (w : FVec Ideal S512x128 .f32),
      (fun r' => roll (BitVec.ofNat 32 s) w (ix2 r' l)) = step s (fun r' => w (ix2 r' l)) := fun s hs w => funext fun r' => roll_at s hs w r' l
  rw [pay9_roll, ← steps, ← h 1 (by decide), ← h 2 (by decide), ← h 4 (by decide), ← h 8 (by decide), ← h 16 (by decide), ← h 32 (by decide)]

/-- The kernel's gates. -/
theorem pay7_at (x : FVec Ideal S512x2048 .f32) (w : FVec Ideal S2048x128 .f32) (r : Fin 512) (l : Fin 128) :
    k0_pay7 (F := Ideal) x w (ix2 r l) = logistic (logit (fun k => x (ix2 r k)) (fun k => w (ix2 k l))) := by
  pointwise [k0_pay7, k0_pay6]
  rw [zero_sub]
  rfl

/-- The kernel's test for the lanes of the log decays. -/
theorem lanes : ∀ l : Fin 128, IntOp.andi (IntOp.cmpi CmpIPredicate.sge (BitVec.ofNat 32 l.val) 32#32)
    (IntOp.cmpi CmpIPredicate.slt (BitVec.ofNat 32 l.val) 64#32) = if 32 ≤ l.val ∧ l.val < 64 then 1#1 else 0#1 := by
  decide +kernel

/-- The kernel's log decays. -/
theorem pay8_at (x : FVec Ideal S512x2048 .f32) (w : FVec Ideal S2048x128 .f32) (a d : FVec Ideal S1x128 .f32) (r : Fin 512) (l : Fin 128) :
    k0_pay8 (F := Ideal) x w a d (ix2 r l) = if 32 ≤ l.val ∧ l.val < 64 then
      decay (logit (fun k => x (ix2 r k)) (fun k => w (ix2 k l))) (a (ix2 0 l)) (d (ix2 0 l)) else 0 := by
  pointwise [k0_pay8, k0_pay6]
  rw [lanes l]
  by_cases h : 32 ≤ l.val ∧ l.val < 64
  · rw [if_pos h, if_pos h, zero_sub, zero_sub]
    rfl
  · rw [if_neg h, if_neg h]
    rfl

/-- The kernel's test for the lanes of the gates. -/
theorem lanes' : ∀ l : Fin 128, IntOp.cmpi CmpIPredicate.slt (BitVec.ofNat 32 l.val) 32#32 = if l.val < 32 then 1#1 else 0#1 := by
  decide +kernel

/-- A grid point's entries, from its blocks. -/
def block (x : FVec Ideal S512x2048 .f32) (w : FVec Ideal S2048x128 .f32) (a d : FVec Ideal S1x128 .f32) : FVec Ideal S512x128 .f32 :=
  k0_pay1 (F := Ideal) (k0_pay11 (F := Ideal) x w a d) (k0_pay7 (F := Ideal) x w) (k0_pay9 (F := Ideal) (k0_pay8 (F := Ideal) x w a d)) (k0_pay14 (F := Ideal) x w a d)

/-- A grid point's entries, lane by lane. -/
theorem block_at (x : FVec Ideal S512x2048 .f32) (w : FVec Ideal S2048x128 .f32) (a d : FVec Ideal S1x128 .f32) (r : Fin 512) (l : Fin 128) :
    block x w a d (ix2 r l) = if l.val < 32 then logistic (logit (fun k => x (ix2 r k)) (fun k => w (ix2 k l)))
      else running (fun r' => k0_pay8 (F := Ideal) x w a d (ix2 r' l)) r := by
  unfold block
  rw [← pay7_at, ← pay9_at]
  generalize k0_pay9 (F := Ideal) (k0_pay8 x w a d) = y
  generalize k0_pay7 (F := Ideal) x w = z
  pointwise [k0_pay1, k0_pay11, k0_pay14, k0_pay10]
  rw [lanes' l]
  by_cases h : l.val < 32
  · rw [if_pos h, if_pos h]
    rfl
  · rw [if_neg h, if_neg h]
    rfl

variable (m : (ℓ : Loc nD τ sig) → Buf (Elt Ideal) ℓ)

/-- The block of each window at grid point `t`: the rows' windows move with `t`, the others stay. -/
theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![0, t.val] :=
  (by decide +kernel : ∀ t : Fin grid0.N, _)

/-- The weights the kernel reads, widened on the host. -/
theorem weights (c : Dev nD) (k : Fin 2048) (n : Fin 128) (h : n.val < 64) :
    V m c main_v2 (ix2 k n) = m ((c : Thread nD τ).loc main_arg1) (ix3 0 k ⟨12288 + n.val, by omega⟩) := by
  have e : V m c main_v2 = pad S2048x128 ![0, 0] ![0, 64] ![0, 0] (extractStridedSlice S2048x64 ![0, 12288]
      (shapeCast S2048x12352 (m ((c : Thread nD τ).loc main_arg1)) shapeCasts_S1x2048x12352_S2048x12352) slices_S2048x12352_S2048x64_0_12288)
      (sitofp (F := Ideal) .f32 (constantI S_ 32 0#32)) pads_S2048x64_S2048x128_000_0640 h_S_ := by
    simp only [V, hostOps0, hostOps0_1, hostOps0_2, List.flatten_cons, List.flatten_nil, List.append_nil, List.cons_append, List.nil_append]
    after_results_simp <;> rfl
  rw [e]
  refine (pad_apply_of_inside _ _ _ _ _ _ _ _ (ix2 k ⟨n.val, h⟩) (fun a => by fin_cases a <;> simp [ix2])).trans ?_
  refine (extractStridedSlice_apply ![0, 12288] _ _ (ix2 k ⟨n.val, h⟩) (ix2 k ⟨12288 + n.val, by omega⟩)
    (fun a => by fin_cases a <;> simp [ix2])).trans ?_
  exact ValueIdx.shapeCast_1ab_ab_apply _ _ k _

/-- The rates' logs the kernel reads, widened on the host. -/
theorem rates (c : Dev nD) (n : Fin 128) (h : 32 ≤ n.val ∧ n.val < 64) :
    V m c main_v9 (ix2 0 n) = m ((c : Thread nD τ).loc main_arg2) (ix2 0 ⟨n.val - 32, by omega⟩) := by
  have e : ∃ (x : FVec Ideal S1x128 .f32), V m c main_v9 = Host.scatter scatter_S1x128_S2_S32_0_0_01_0 (fun _ b => b) x
      (concatenate S2 0 [⟨S1, broadcastInDim S1 ![] bcast_S_S1 (constantI S_ 32 0#32)⟩, ⟨S1, broadcastInDim S1 ![] bcast_S_S1 (constantI S_ 32 32#32)⟩] concatenates_S1_S1_S2_d0)
      (shapeCast S32 (m ((c : Thread nD τ).loc main_arg2)) shapeCasts_S1x32_S32) := by
    refine ⟨broadcastInDim S1x128 ![] bcast_S_S1x128 (constant S_ .f32 0x00000000#32), ?_⟩
    simp only [V, hostOps0, hostOps0_1, hostOps0_2, List.flatten_cons, List.flatten_nil, List.append_nil, List.cons_append, List.nil_append]
    after_results_simp <;> rfl
  obtain ⟨x, e⟩ := e
  rw [e]
  refine (scatter_row _ rfl rfl rfl _ _ _ ⟨n.val - 32, by omega⟩ 0 n (by rfl) ?_).trans ?_
  · show (32 : Int) + ((n.val - 32 : Nat) : Int) = n.val
    omega
  · pointwise []

/-- The offsets the kernel reads, widened on the host. -/
theorem offsets (c : Dev nD) (n : Fin 128) (h : 32 ≤ n.val ∧ n.val < 64) :
    V m c main_v14 (ix2 0 n) = m ((c : Thread nD τ).loc main_arg3) (ix2 0 ⟨n.val - 32, by omega⟩) := by
  have e : ∃ (x : FVec Ideal S1x128 .f32), V m c main_v14 = Host.scatter scatter_S1x128_S2_S32_0_0_01_0 (fun _ b => b) x
      (concatenate S2 0 [⟨S1, broadcastInDim S1 ![] bcast_S_S1 (constantI S_ 32 0#32)⟩, ⟨S1, broadcastInDim S1 ![] bcast_S_S1 (constantI S_ 32 32#32)⟩] concatenates_S1_S1_S2_d0)
      (shapeCast S32 (m ((c : Thread nD τ).loc main_arg3)) shapeCasts_S1x32_S32) := by
    refine ⟨broadcastInDim S1x128 ![] bcast_S_S1x128 (constant S_ .f32 0x00000000#32), ?_⟩
    simp only [V, hostOps0, hostOps0_1, hostOps0_2, List.flatten_cons, List.flatten_nil, List.append_nil, List.cons_append, List.nil_append]
    after_results_simp <;> rfl
  obtain ⟨x, e⟩ := e
  rw [e]
  refine (scatter_row _ rfl rfl rfl _ _ _ ⟨n.val - 32, by omega⟩ 0 n (by rfl) ?_).trans ?_
  · show (32 : Int) + ((n.val - 32 : Nat) : Int) = n.val
    omega
  · pointwise []

/-- The entries of the arguments at launch. -/
abbrev result (c : Dev nD) (r : Fin 32768) (l : Fin 128) : EReal :=
  entry (m ((c : Thread nD τ).loc main_arg0)) (m ((c : Thread nD τ).loc main_arg1)) (m ((c : Thread nD τ).loc main_arg2))
    (m ((c : Thread nD τ).loc main_arg3)) r l

/-- A sum of zeros. -/
theorem running_zero (r : Fin 512) : running (fun _ : Fin 512 => (0 : EReal)) r = 0 := Finset.sum_const_zero

/-- A grid point's entries are its rows of the result. -/
theorem point (c : Dev nD) (t : Fin cfg0.N) (ht : t.val < 64) (r : Fin 512) (l : Fin 128) :
    block (iblk m c 0 t) (iblk m c 1 t) (iblk m c 2 t) (iblk m c 3 t) (ix2 r l) = result m c ⟨512 * t.val + r.val, by omega⟩ l := by
  have h0 : ∀ (r : Fin 512) (k : Fin 2048), iblk m c 0 t (ix2 r k) = m ((c : Thread nD τ).loc main_arg0) (ix2 ⟨512 * t.val + r.val, by omega⟩ k) := fun r k => by
    blk_ext [iblk, V, idx t]
  have h1 : ∀ (k : Fin 2048) (n : Fin 128), iblk m c 1 t (ix2 k n) = V m c main_v2 (ix2 k n) := fun k n => by blk_ext [iblk, idx t]
  have h2 : ∀ n : Fin 128, iblk m c 2 t (ix2 0 n) = V m c main_v9 (ix2 0 n) := fun k => by blk_ext [iblk, idx t]
  have h3 : ∀ n : Fin 128, iblk m c 3 t (ix2 0 n) = V m c main_v14 (ix2 0 n) := fun k => by blk_ext [iblk, idx t]
  rw [block_at]
  unfold result entry
  have hz : ∀ (hl : l.val < 64) (r : Fin 512), logit (fun k => iblk m c 0 t (ix2 r k)) (fun k => iblk m c 1 t (ix2 k l))
      = logit (fun k => m ((c : Thread nD τ).loc main_arg0) (ix2 ⟨512 * t.val + r.val, by omega⟩ k))
        (fun k => m ((c : Thread nD τ).loc main_arg1) (ix3 0 k ⟨12288 + l.val, by omega⟩)) := fun hl r => by
    congr 1
    · exact funext (h0 r)
    · exact funext fun k => (h1 k l).trans (weights m c k l hl)
  by_cases hl : l.val < 32
  · rw [if_pos hl, dif_pos hl, hz (by omega)]
  · rw [if_neg hl, dif_neg hl]
    by_cases hl' : l.val < 64
    · rw [dif_pos hl']
      unfold running
      have e : (512 * t.val + r.val) % 64 = r.val % 64 := by omega
      rw [show ((⟨512 * t.val + r.val, by omega⟩ : Fin 32768).val % 64) = r.val % 64 from e]
      refine Finset.sum_congr rfl fun q hq => ?_
      have hq' := Finset.mem_range.1 hq
      beta_reduce
      rw [pay8_at, if_pos ⟨by omega, hl'⟩, hz hl', (h2 l).trans (rates m c l ⟨by omega, hl'⟩), (h3 l).trans (offsets m c l ⟨by omega, hl'⟩)]
      have er : (⟨512 * t.val + (r.val - q), by omega⟩ : Fin 32768) = ⟨512 * t.val + r.val - q, by omega⟩ := Fin.ext (by
        show 512 * t.val + (r.val - q) = 512 * t.val + r.val - q
        omega)
      rw [er]
    · rw [dif_neg hl']
      refine (congrArg (fun f => running f r) (funext fun r' => ?_)).trans (running_zero r)
      rw [pay8_at, if_neg (fun h => hl' h.2)]

/-- The gates the body computes, over the whole blocks. -/
theorem pay12_eq (x : FVec Ideal S512x2048 .f32) (w : FVec Ideal S2048x128 .f32) (a d : FVec Ideal S1x128 .f32) :
    k0_pay12 (F := Ideal) x w a d = k0_pay7 (F := Ideal) x w := by
  unfold k0_pay12
  frame_out

/-- The summed log decays the body computes, over the whole blocks. -/
theorem pay13_eq (x : FVec Ideal S512x2048 .f32) (w : FVec Ideal S2048x128 .f32) (a d : FVec Ideal S1x128 .f32) :
    k0_pay13 (F := Ideal) x w a d = k0_pay9 (F := Ideal) (k0_pay8 (F := Ideal) x w a d) := by
  unfold k0_pay13
  frame_out

/-- What a grid point leaves in the first result's block: its entries. -/
theorem out4_block (x : FVec Ideal S512x2048 .f32) (w : FVec Ideal S2048x128 .f32) (a d : FVec Ideal S1x128 .f32) :
    out0_4 (F := Ideal) x w a d = block x w a d := by
  unfold out0_4
  rw [pay12_eq, pay13_eq]
  exact View.canon_unit_zero (funext fun a => by fin_cases a <;> rfl) _ _

/-- What a grid point leaves in the second result's block: its entries, the rows as columns. -/
theorem out5_block (x : FVec Ideal S512x2048 .f32) (w : FVec Ideal S2048x128 .f32) (a d : FVec Ideal S1x128 .f32) (y : S128x512.Idx) :
    out0_5 (F := Ideal) x w a d y = block x w a d (ix2 (y 1) (y 0)) := by
  unfold out0_5
  rw [pay12_eq, pay13_eq]
  refine View.canon_apply_of_pieces (Val := Elt Ideal) (e := .f32) (fun y : S128x512.Idx => block x w a d (ix2 (y 1) (y 0))) _ ?_ y (cover0_5 _ _ _ _ y)
  unfold block k0_pay2 k0_pay3 k0_pay4 k0_pay5
  generalize k0_pay1 (F := Ideal) _ _ _ _ = v
  intro p hp z
  simp only [List.mem_cons, List.not_mem_nil, or_false] at hp
  rcases hp with rfl | rfl | rfl | rfl
  · obtain ⟨i, j, rfl⟩ : ∃ (i j : Fin 128), z = ix2 i j := ⟨z 0, z 1, by funext a; fin_cases a <;> rfl⟩
    refine Eq.trans (b := v (ix2 ⟨384 + j.val, by omega⟩ i)) ?_ (congrArg v (congrArg₂ ix2 (Fin.ext ?_) (Fin.ext ?_)))
    · show transpose S128x128 [1, 0] (extractStridedSlice S128x128 ![384, 0] v slices_S512x128_o384_0_S128x128) transposes_S128x128_p1_0_S128x128 (ix2 i j) = _
      pointwise []
    · exact (ValueKit.rect_emb_unit_val (s := S128x512) ![0, 384] S128x128.size inb_S128x512_S128x128_0_384 (ix2 i j) 1).symm
    · exact (Nat.zero_add i.val).symm.trans (ValueKit.rect_emb_unit_val (s := S128x512) ![0, 384] S128x128.size inb_S128x512_S128x128_0_384 (ix2 i j) 0).symm
  · obtain ⟨i, j, rfl⟩ : ∃ (i j : Fin 128), z = ix2 i j := ⟨z 0, z 1, by funext a; fin_cases a <;> rfl⟩
    refine Eq.trans (b := v (ix2 ⟨256 + j.val, by omega⟩ i)) ?_ (congrArg v (congrArg₂ ix2 (Fin.ext ?_) (Fin.ext ?_)))
    · show transpose S128x128 [1, 0] (extractStridedSlice S128x128 ![256, 0] v slices_S512x128_o256_0_S128x128) transposes_S128x128_p1_0_S128x128 (ix2 i j) = _
      pointwise []
    · exact (ValueKit.rect_emb_unit_val (s := S128x512) ![0, 256] S128x128.size inb_S128x512_S128x128_0_256 (ix2 i j) 1).symm
    · exact (Nat.zero_add i.val).symm.trans (ValueKit.rect_emb_unit_val (s := S128x512) ![0, 256] S128x128.size inb_S128x512_S128x128_0_256 (ix2 i j) 0).symm
  · obtain ⟨i, j, rfl⟩ : ∃ (i j : Fin 128), z = ix2 i j := ⟨z 0, z 1, by funext a; fin_cases a <;> rfl⟩
    refine Eq.trans (b := v (ix2 ⟨128 + j.val, by omega⟩ i)) ?_ (congrArg v (congrArg₂ ix2 (Fin.ext ?_) (Fin.ext ?_)))
    · show transpose S128x128 [1, 0] (extractStridedSlice S128x128 ![128, 0] v slices_S512x128_o128_0_S128x128) transposes_S128x128_p1_0_S128x128 (ix2 i j) = _
      pointwise []
    · exact (ValueKit.rect_emb_unit_val (s := S128x512) ![0, 128] S128x128.size inb_S128x512_S128x128_0_128 (ix2 i j) 1).symm
    · exact (Nat.zero_add i.val).symm.trans (ValueKit.rect_emb_unit_val (s := S128x512) ![0, 128] S128x128.size inb_S128x512_S128x128_0_128 (ix2 i j) 0).symm
  · obtain ⟨i, j, rfl⟩ : ∃ (i j : Fin 128), z = ix2 i j := ⟨z 0, z 1, by funext a; fin_cases a <;> rfl⟩
    refine Eq.trans (b := v (ix2 ⟨0 + j.val, by omega⟩ i)) ?_ (congrArg v (congrArg₂ ix2 (Fin.ext ?_) (Fin.ext ?_)))
    · show transpose S128x128 [1, 0] (extractStridedSlice S128x128 ![0, 0] v slices_S512x128_o0_0_S128x128) transposes_S128x128_p1_0_S128x128 (ix2 i j) = _
      pointwise []
    · exact (ValueKit.rect_emb_unit_val (s := S128x512) ![0, 0] S128x128.size inb_S128x512_S128x128_0_0 (ix2 i j) 1).symm
    · exact (Nat.zero_add i.val).symm.trans (ValueKit.rect_emb_unit_val (s := S128x512) ![0, 0] S128x128.size inb_S128x512_S128x128_0_0 (ix2 i j) 0).symm

/-- The first result array after the run: the entries. -/
theorem final4 (c : Dev nD) : (dats m 0 c).arrAt 4 cfg0.N = fun y : S32768x128.Idx => result m c (y 0) (y 1) := by
  refine (dats m 0 c).arrAt_eq_of_covers 4 _ (by decide +kernel) fun t hf y => ?_
  have w0 : win0_4.index t 0 = t.val := congrFun (idx t).2.2.2.2.1 0
  have w1 : win0_4.index t 1 = 0 := congrFun (idx t).2.2.2.2.1 1
  have ht : t.val < 64 := lt_of_lt_of_eq t.isLt (by decide +kernel)
  blk_simp
  rw [after0_4, out4_block]
  obtain ⟨r, l, rfl⟩ : ∃ (r : Fin 512) (l : Fin 128), y = ix2 r l := ⟨y 0, y 1, by funext a; fin_cases a <;> rfl⟩
  refine (point m c t ht r l).trans (congrArg₂ (result m c) (Fin.ext ?_) (Fin.ext ?_))
  · refine Eq.trans ?_ (Pipeline.Window.rect_emb_val (cfg0.win 4) t (ix2 r l) (0 : Fin 2)).symm
    show 512 * t.val + r.val = win0_4.index t 0 * 512 + r.val
    rw [w0]
    omega
  · refine Eq.trans ?_ (Pipeline.Window.rect_emb_val (cfg0.win 4) t (ix2 r l) (1 : Fin 2)).symm
    show l.val = win0_4.index t 1 * 128 + l.val
    rw [w1]
    omega

/-- The second result array after the run: the entries, the rows as columns. -/
theorem final5 (c : Dev nD) : (dats m 0 c).arrAt 5 cfg0.N = fun y : S128x32768.Idx => result m c (y 1) (y 0) := by
  refine (dats m 0 c).arrAt_eq_of_covers 5 _ (by decide +kernel) fun t hf y => ?_
  have w0 : win0_5.index t 0 = 0 := congrFun (idx t).2.2.2.2.2 0
  have w1 : win0_5.index t 1 = t.val := congrFun (idx t).2.2.2.2.2 1
  have ht : t.val < 64 := lt_of_lt_of_eq t.isLt (by decide +kernel)
  blk_simp
  rw [after0_5]
  obtain ⟨l, r, rfl⟩ : ∃ (l : Fin 128) (r : Fin 512), y = ix2 l r := ⟨y 0, y 1, by funext a; fin_cases a <;> rfl⟩
  refine (out5_block _ _ _ _ (ix2 l r)).trans ?_
  refine (point m c t ht r l).trans (congrArg₂ (result m c) (Fin.ext ?_) (Fin.ext ?_))
  · refine Eq.trans ?_ (Pipeline.Window.rect_emb_val (cfg0.win 5) t (ix2 l r) (1 : Fin 2)).symm
    show 512 * t.val + r.val = win0_5.index t 1 * 512 + r.val
    rw [w1]
    omega
  · refine Eq.trans ?_ (Pipeline.Window.rect_emb_val (cfg0.win 5) t (ix2 l r) (0 : Fin 2)).symm
    show l.val = win0_5.index t 0 * 128 + l.val
    rw [w0]
    omega

end Cert.Kernel8Ideal.Value

end
-- ==== Proof.GatesClaims.lean ====
module

public import proofs.«01_k».proof.Defs
public import proofs.«01_k».proof.Proof.Gates
public import proofs.«01_k».proof.Proof.Gen.Kernel8.Frame
public import Idealize.ShloMosaic.Lib.Quiescent

/-!
# The delta-net layer's gates: the claims

The kernel runs as printed and idealized, the reference runs, and the idealized kernel and the
reference end with equal results.
-/

@[expose] public section

noncomputable section

namespace Cert.GatesClaims

open Idealize.ShloMosaic Idealize.SL.Sem

/-- The kernel, as printed, runs and leaves its arguments and the semaphores as they were. -/
theorem kernel : quiescent_Kernel8 (hKernel8 := Cert.Kernel8.Gen.facts) :=
  fun m g _ => Cert.Kernel8.Gen.frame m g

/-- The idealized kernel runs and leaves its arguments and the semaphores as they were. -/
theorem kernelIdeal : quiescent_Kernel8Ideal (hKernel8Ideal := Cert.Kernel8Ideal.Gen.facts) :=
  fun m g _ => Cert.Kernel8Ideal.Gen.frame m g

/-- The reference runs and leaves its arguments and the semaphores as they were. -/
theorem referenceIdeal : quiescent_Reference8Ideal (hReference8Ideal := Cert.Reference8Ideal.Gen.facts) :=
  fun m g _ => (θ_run Cert.Reference8Ideal.defs _ _).mono
    (fun r h => ⟨fun c => (h c).2.2, sem_eq_zero_of_no_sems (by decide) r.2⟩)
    (Cert.Reference8Ideal.Value.run (F := Ideal) m g)

/-- The idealized kernel and the reference end with the same two arrays: the entries by rows and by columns. -/
theorem algebraic : algebraic_Kernel8Ideal_Reference8Ideal (hKernel8Ideal := Cert.Kernel8Ideal.Gen.facts)
    (hReference8Ideal := Cert.Reference8Ideal.Gen.facts) := by
  intro m g m' g' _ hag
  refine ⟨fun c y => Cert.Kernel8Ideal.Value.result m c (y 0) (y 1), fun c y => Cert.Kernel8Ideal.Value.result m c (y 1) (y 0), ?_, ?_⟩
  · exact (θ_run Cert.Kernel8Ideal.defs _ _).mono
      (fun r h c => ⟨((h c).1).trans (Cert.Kernel8Ideal.Value.final4 m c), ((h c).2.1).trans (Cert.Kernel8Ideal.Value.final5 m c), (h c).2.2⟩)
      (Cert.Kernel8Ideal.Value.run_blocks (F := Ideal) m g)
  · refine (θ_run Cert.Reference8Ideal.defs _ _).mono
      (fun r h c => ⟨((h c).1).trans ?_, ((h c).2.1).trans ?_, (h c).2.2⟩)
      (Cert.Reference8Ideal.Value.run (F := Ideal) m' g')
    · rw [Cert.Reference8Ideal.Read.val_main_v26_eq m' c, (hag c).1, (hag c).2.1, (hag c).2.2.1, (hag c).2.2.2]
      funext y
      exact Cert.Reference8Ideal.Read.v26_full _ _ _ _ y
    · rw [Cert.Reference8Ideal.Read.val_main_v27_eq m' c, (hag c).1, (hag c).2.1, (hag c).2.2.1, (hag c).2.2.2]
      funext y
      exact Cert.Reference8Ideal.Read.v27_full _ _ _ _ y

end Cert.GatesClaims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.Kernel.Loops
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Loops
public import proofs.«01_k».proof.Proof.Gen.KernelIdeal.Value
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_routed
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.AttentionClaims
public import proofs.«01_k».proof.Proof.ProjectionClaims
public import proofs.«01_k».proof.Proof.ExpertsClaims
public import proofs.«01_k».proof.Proof.OutputClaims
public import proofs.«01_k».proof.Proof.AttentionProjectionClaims
public import proofs.«01_k».proof.Proof.DeltaProjectionClaims
public import proofs.«01_k».proof.Proof.DeltaOutputClaims
public import proofs.«01_k».proof.Proof.GatesClaims
public import Idealize.ShloMosaic.Adequacy
public import Idealize.ShloMosaic.Init

@[expose] public section

noncomputable section

namespace Cert.Proof

open Idealize.ShloMosaic Idealize.SL.Sem

/-- The attention's claims, the projections', the experts', the output projections' and the gates', as `Cert.Claim` states them. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    AttentionClaims.finiteFacts, Cert.Pre_routed.Gen.facts,
    AttentionClaims.kernel, AttentionClaims.kernelIdeal, AttentionClaims.kernelIdeal_pre, AttentionClaims.referenceIdeal, AttentionClaims.referenceIdeal_pre,
    ProjectionClaims.kernel, ProjectionClaims.kernelIdeal, ProjectionClaims.referenceIdeal,
    ExpertsClaims.kernel, ExpertsClaims.kernelIdeal, ExpertsClaims.referenceIdeal, ExpertsClaims.referenceIdeal_pre,
    OutputClaims.kernel, OutputClaims.kernelIdeal, OutputClaims.referenceIdeal,
    AttentionProjectionClaims.kernel, AttentionProjectionClaims.kernelIdeal, AttentionProjectionClaims.referenceIdeal,
    DeltaProjectionClaims.kernel, DeltaProjectionClaims.kernelIdeal, DeltaProjectionClaims.referenceIdeal,
    DeltaOutputClaims.kernel, DeltaOutputClaims.kernelIdeal, DeltaOutputClaims.referenceIdeal,
    GatesClaims.kernel, GatesClaims.kernelIdeal, GatesClaims.referenceIdeal,
    trivial, AttentionClaims.algebraic, trivial, ProjectionClaims.algebraic, trivial, ExpertsClaims.algebraic,
    trivial, OutputClaims.algebraic, trivial, AttentionProjectionClaims.algebraic,
    trivial, DeltaProjectionClaims.algebraic, trivial, DeltaOutputClaims.algebraic, trivial, GatesClaims.algebraic⟩

end Cert.Proof

end
